-- ==== Defs.lean ====
def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickRefIdeal (m : (ℓ : Loc Cert.StickRefIdeal.nD Cert.StickRefIdeal.τ Cert.StickRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite [hPre_finite : Cert.Pre_finite.Facts] (m : (ℓ : Loc Cert.ProjIdeal.nD Cert.ProjIdeal.τ Cert.ProjIdeal.sig) → Buf (Elt Ideal) ℓ) : Prop :=
  ∀ c : Dev Cert.ProjIdeal.nD,
    (Cert.Pre_finite.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite [hPre_finite : Cert.Pre_finite.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5))) = (fun _ => 1#1)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1)
      ∧ r.2.mem ((c.tc : Thread Cert.Stick.nD Cert.Stick.τ).loc Cert.Stick.main_arg2) = m ((c.tc : Thread Cert.Stick.nD Cert.Stick.τ).loc Cert.Stick.main_arg2))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1)
      ∧ r.2.mem ((c.tc : Thread Cert.StickRefIdeal.nD Cert.StickRefIdeal.τ).loc Cert.StickRefIdeal.main_arg2) = m ((c.tc : Thread Cert.StickRefIdeal.nD Cert.StickRefIdeal.τ).loc Cert.StickRefIdeal.main_arg2))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjIdeal_pre_finite [hProjIdeal : Cert.ProjIdeal.Facts] [hPre_finite : Cert.Pre_finite.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_ProjRefIdeal_pre_finite [hProjRefIdeal : Cert.ProjRefIdeal.Facts] [hPre_finite : Cert.Pre_finite.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def preserves_Stick_StickIdeal : Prop :=
  IdealRules.named_const.Statement Cert.StickIdeal.κ "cutoff" .f32 0xC2F00000#32 ⊥

def algebraic_StickIdeal_StickRefIdeal [hStickIdeal : Cert.StickIdeal.Facts] [hStickRefIdeal : Cert.StickRefIdeal.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickIdeal m →
    (∀ c : Dev Cert.StickIdeal.nD,
      m' ((c.tc : Thread Cert.StickRefIdeal.nD Cert.StickRefIdeal.τ).loc Cert.StickRefIdeal.main_arg0) = m ((c.tc : Thread Cert.StickIdeal.nD Cert.StickIdeal.τ).loc Cert.StickIdeal.main_arg0)
      ∧ m' ((c.tc : Thread Cert.StickRefIdeal.nD Cert.StickRefIdeal.τ).loc Cert.StickRefIdeal.main_arg1) = m ((c.tc : Thread Cert.StickIdeal.nD Cert.StickIdeal.τ).loc Cert.StickIdeal.main_arg1)
      ∧ m' ((c.tc : Thread Cert.StickRefIdeal.nD Cert.StickRefIdeal.τ).loc Cert.StickRefIdeal.main_arg2) = m ((c.tc : Thread Cert.StickIdeal.nD Cert.StickIdeal.τ).loc Cert.StickIdeal.main_arg2)) →
    ∃ (v0 : (c : Dev Cert.StickIdeal.nD) → Buf (Elt Ideal) ((c.tc : Thread Cert.StickIdeal.nD Cert.StickIdeal.τ).loc Cert.StickIdeal.main_v9)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v9) = v0 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0)
          ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
          ∧ r.2.mem ((c.tc : Thread Cert.StickIdeal.nD Cert.StickIdeal.τ).loc Cert.StickIdeal.main_arg2) = m ((c.tc : Thread Cert.StickIdeal.nD Cert.StickIdeal.τ).loc Cert.StickIdeal.main_arg2))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          r.2.mem ((c.tc : Thread Cert.StickRefIdeal.nD Cert.StickRefIdeal.τ).loc Cert.StickRefIdeal.main_v21) = v0 c
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0)
          ∧ r.2.mem ((c.tc : Thread Cert.StickRefIdeal.nD Cert.StickRefIdeal.τ).loc Cert.StickRefIdeal.main_arg1) = m' ((c.tc : Thread Cert.StickRefIdeal.nD Cert.StickRefIdeal.τ).loc Cert.StickRefIdeal.main_arg1)
          ∧ r.2.mem ((c.tc : Thread Cert.StickRefIdeal.nD Cert.StickRefIdeal.τ).loc Cert.StickRefIdeal.main_arg2) = m' ((c.tc : Thread Cert.StickRefIdeal.nD Cert.StickRefIdeal.τ).loc Cert.StickRefIdeal.main_arg2))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v4)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v4) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v21) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Proj_ProjIdeal : Prop :=
  True

def algebraic_ProjIdeal_ProjRefIdeal_pre_finite [hProjIdeal : Cert.ProjIdeal.Facts] [hProjRefIdeal : Cert.ProjRefIdeal.Facts] [hPre_finite : Cert.Pre_finite.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v55_0)) (v1 : (c : Dev Cert.ProjIdeal.nD) → Buf (Elt Ideal) ((c.tc : Thread Cert.ProjIdeal.nD Cert.ProjIdeal.τ).loc Cert.ProjIdeal.main_v55_1)) (v2 : (c : Dev Cert.ProjIdeal.nD) → Buf (Elt Ideal) ((c.tc : Thread Cert.ProjIdeal.nD Cert.ProjIdeal.τ).loc Cert.ProjIdeal.main_v55_2)) (v3 : (c : Dev Cert.ProjIdeal.nD) → Buf (Elt Ideal) ((c.tc : Thread Cert.ProjIdeal.nD Cert.ProjIdeal.τ).loc Cert.ProjIdeal.main_v55_3)) (v4 : (c : Dev Cert.ProjIdeal.nD) → Buf (Elt Ideal) ((c.tc : Thread Cert.ProjIdeal.nD Cert.ProjIdeal.τ).loc Cert.ProjIdeal.main_v55_4)) (v5 : (c : Dev Cert.ProjIdeal.nD) → Buf (Elt Ideal) ((c.tc : Thread Cert.ProjIdeal.nD Cert.ProjIdeal.τ).loc Cert.ProjIdeal.main_v55_10)) (v6 : (c : Dev Cert.ProjIdeal.nD) → Buf (Elt Ideal) ((c.tc : Thread Cert.ProjIdeal.nD Cert.ProjIdeal.τ).loc Cert.ProjIdeal.main_v55_11)) (v7 : (c : Dev Cert.ProjIdeal.nD) → Buf (Elt Ideal) ((c.tc : Thread Cert.ProjIdeal.nD Cert.ProjIdeal.τ).loc Cert.ProjIdeal.main_v55_12)) (v8 : (c : Dev Cert.ProjIdeal.nD) → Buf (Elt Ideal) ((c.tc : Thread Cert.ProjIdeal.nD Cert.ProjIdeal.τ).loc Cert.ProjIdeal.main_v55_13)) (v9 : (c : Dev Cert.ProjIdeal.nD) → Buf (Elt Ideal) ((c.tc : Thread Cert.ProjIdeal.nD Cert.ProjIdeal.τ).loc Cert.ProjIdeal.main_v55_14)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v55_0) = v0 c
          ∧ r.2.mem ((c.tc : Thread Cert.ProjIdeal.nD Cert.ProjIdeal.τ).loc Cert.ProjIdeal.main_v55_1) = v1 c
          ∧ r.2.mem ((c.tc : Thread Cert.ProjIdeal.nD Cert.ProjIdeal.τ).loc Cert.ProjIdeal.main_v55_2) = v2 c
          ∧ r.2.mem ((c.tc : Thread Cert.ProjIdeal.nD Cert.ProjIdeal.τ).loc Cert.ProjIdeal.main_v55_3) = v3 c
          ∧ r.2.mem ((c.tc : Thread Cert.ProjIdeal.nD Cert.ProjIdeal.τ).loc Cert.ProjIdeal.main_v55_4) = v4 c
          ∧ r.2.mem ((c.tc : Thread Cert.ProjIdeal.nD Cert.ProjIdeal.τ).loc Cert.ProjIdeal.main_v55_10) = v5 c
          ∧ r.2.mem ((c.tc : Thread Cert.ProjIdeal.nD Cert.ProjIdeal.τ).loc Cert.ProjIdeal.main_v55_11) = v6 c
          ∧ r.2.mem ((c.tc : Thread Cert.ProjIdeal.nD Cert.ProjIdeal.τ).loc Cert.ProjIdeal.main_v55_12) = v7 c
          ∧ r.2.mem ((c.tc : Thread Cert.ProjIdeal.nD Cert.ProjIdeal.τ).loc Cert.ProjIdeal.main_v55_13) = v8 c
          ∧ r.2.mem ((c.tc : Thread Cert.ProjIdeal.nD Cert.ProjIdeal.τ).loc Cert.ProjIdeal.main_v55_14) = v9 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v227) = v0 c
          ∧ r.2.mem ((c.tc : Thread Cert.ProjRefIdeal.nD Cert.ProjRefIdeal.τ).loc Cert.ProjRefIdeal.main_v231) = v1 c
          ∧ r.2.mem ((c.tc : Thread Cert.ProjRefIdeal.nD Cert.ProjRefIdeal.τ).loc Cert.ProjRefIdeal.main_v233) = v2 c
          ∧ r.2.mem ((c.tc : Thread Cert.ProjRefIdeal.nD Cert.ProjRefIdeal.τ).loc Cert.ProjRefIdeal.main_v237) = v3 c
          ∧ r.2.mem ((c.tc : Thread Cert.ProjRefIdeal.nD Cert.ProjRefIdeal.τ).loc Cert.ProjRefIdeal.main_v244) = v4 c
          ∧ r.2.mem ((c.tc : Thread Cert.ProjRefIdeal.nD Cert.ProjRefIdeal.τ).loc Cert.ProjRefIdeal.main_v246) = v5 c
          ∧ r.2.mem ((c.tc : Thread Cert.ProjRefIdeal.nD Cert.ProjRefIdeal.τ).loc Cert.ProjRefIdeal.main_v247) = v6 c
          ∧ r.2.mem ((c.tc : Thread Cert.ProjRefIdeal.nD Cert.ProjRefIdeal.τ).loc Cert.ProjRefIdeal.main_v248) = v7 c
          ∧ r.2.mem ((c.tc : Thread Cert.ProjRefIdeal.nD Cert.ProjRefIdeal.τ).loc Cert.ProjRefIdeal.main_v249) = v8 c
          ∧ r.2.mem ((c.tc : Thread Cert.ProjRefIdeal.nD Cert.ProjRefIdeal.τ).loc Cert.ProjRefIdeal.main_v250) = v9 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def Claim : Prop :=
  ∃ (hStick : Cert.Stick.Facts) (hStickIdeal : Cert.StickIdeal.Facts) (hStickRefIdeal : Cert.StickRefIdeal.Facts) (hMoe : Cert.Moe.Facts) (hMoeIdeal : Cert.MoeIdeal.Facts) (hMoeRefIdeal : Cert.MoeRefIdeal.Facts) (hProj : Cert.Proj.Facts) (hProjIdeal : Cert.ProjIdeal.Facts) (hProjRefIdeal : Cert.ProjRefIdeal.Facts) (hPre_finite : Cert.Pre_finite.Facts),
    quiescent_Stick (hStick := hStick)
    ∧ quiescent_StickIdeal (hStickIdeal := hStickIdeal)
    ∧ quiescent_StickRefIdeal (hStickRefIdeal := hStickRefIdeal)
    ∧ quiescent_Moe (hMoe := hMoe)
    ∧ quiescent_MoeIdeal (hMoeIdeal := hMoeIdeal)
    ∧ quiescent_MoeRefIdeal (hMoeRefIdeal := hMoeRefIdeal)
    ∧ quiescent_Proj (hProj := hProj)
    ∧ quiescent_ProjIdeal (hProjIdeal := hProjIdeal)
    ∧ quiescent_ProjIdeal_pre_finite (hProjIdeal := hProjIdeal) (hPre_finite := hPre_finite)
    ∧ quiescent_ProjRefIdeal (hProjRefIdeal := hProjRefIdeal)
    ∧ quiescent_ProjRefIdeal_pre_finite (hProjRefIdeal := hProjRefIdeal) (hPre_finite := hPre_finite)
    ∧ preserves_Stick_StickIdeal
    ∧ algebraic_StickIdeal_StickRefIdeal (hStickIdeal := hStickIdeal) (hStickRefIdeal := hStickRefIdeal)
    ∧ preserves_Moe_MoeIdeal
    ∧ algebraic_MoeIdeal_MoeRefIdeal (hMoeIdeal := hMoeIdeal) (hMoeRefIdeal := hMoeRefIdeal)
    ∧ preserves_Proj_ProjIdeal
    ∧ algebraic_ProjIdeal_ProjRefIdeal_pre_finite (hProjIdeal := hProjIdeal) (hProjRefIdeal := hProjRefIdeal) (hPre_finite := hPre_finite)
-- ==== Pre_finite.lean ====
abbrev S4x4096x1024 : Shape := ⟨3, ![4, 4096, 1024]⟩
abbrev S2x6x24x1x1024 : Shape := ⟨5, ![2, 6, 24, 1, 1024]⟩
abbrev S2x1024 : Shape := ⟨2, ![2, 1024]⟩
abbrev S2x1024x4676 : Shape := ⟨3, ![2, 1024, 4676]⟩
abbrev S2x64 : Shape := ⟨2, ![2, 64]⟩
abbrev S_ : Shape := ⟨0, ![]⟩

class Facts : Prop where
  bcast_S_S2x6x24x1x1024 : S_.BroadcastsInDim S2x6x24x1x1024 (![] : Fin 0 → Fin S2x6x24x1x1024.rank)
  reducesTo_S2x6x24x1x1024_S_d0_1_2_3_4 : S2x6x24x1x1024.ReducesTo [0, 1, 2, 3, 4] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S2x1024x4676 : S_.BroadcastsInDim S2x1024x4676 (![] : Fin 0 → Fin S2x1024x4676.rank)
  reducesTo_S2x1024x4676_S_d0_1_2 : S2x1024x4676.ReducesTo [0, 1, 2] S_

variable [Facts]

def fn {F : FTy → Type} [FloatOps F] (main_arg0 : FVec F S4x4096x1024 .f32) (main_arg1 : FVec F S2x6x24x1x1024 .f32) (main_arg2 : FVec F S2x1024 .f32) (main_arg3 : FVec F S2x1024x4676 .f32) (main_arg4 : FVec F S2x64 .f32) (main_arg5 : FVec F S2x64 .f32) : IVec S_ 1 :=
  let main_v0 : FVec F S2x6x24x1x1024 .f32 := Host.absf main_arg1
  let main_cst : FVec F S_ .f32 := constant S_ .f32 0x7F800000#32
  let main_v1 : FVec F S2x6x24x1x1024 .f32 := broadcastInDim S2x6x24x1x1024 ![] bcast_S_S2x6x24x1x1024 main_cst
  let main_v2 : IVec S2x6x24x1x1024 1 := cmpf .olt main_v0 main_v1
  let main_c : IVec S_ 1 := constantI S_ 1 1#1
  let main_v3 : IVec S_ 1 := (fun x v => Host.reduce IntOp.andi x v reducesTo_S2x6x24x1x1024_S_d0_1_2_3_4 h_S_) main_v2 main_c
  let main_v4 : FVec F S2x1024 .f32 := Host.absf main_arg2
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_v9 : FVec F S2x1024x4676 .f32 := Host.absf main_arg3
  let main_cst_2 : FVec F S_ .f32 := constant S_ .f32 0x7F800000#32
  let main_v10 : FVec F S2x1024x4676 .f32 := broadcastInDim S2x1024x4676 ![] bcast_S_S2x1024x4676 main_cst_2
  let main_v11 : IVec S2x1024x4676 1 := cmpf .olt main_v9 main_v10
  let main_c_3 : IVec S_ 1 := constantI S_ 1 1#1
  let main_v12 : IVec S_ 1 := (fun x v => Host.reduce IntOp.andi x v reducesTo_S2x1024x4676_S_d0_1_2 h_S_) main_v11 main_c_3
  let main_v13 : IVec S_ 1 := andi main_v8 main_v12
  main_v13
-- ==== Stick.lean ====
abbrev S4x4096x8x64 : Shape := ⟨4, ![4, 4096, 8, 64]⟩
abbrev S256x256 : Shape := ⟨2, ![256, 256]⟩
abbrev S16384x512 : Shape := ⟨2, ![16384, 512]⟩
abbrev S_ : Shape := ⟨0, ![]⟩
abbrev S4x16x256x512 : Shape := ⟨4, ![4, 16, 256, 512]⟩
abbrev S4x16x512x256 : Shape := ⟨4, ![4, 16, 512, 256]⟩
abbrev S256x128 : Shape := ⟨2, ![256, 128]⟩
abbrev S1x16x128x256 : Shape := ⟨4, ![1, 16, 128, 256]⟩
abbrev S4096x128 : Shape := ⟨2, ![4096, 128]⟩
abbrev S512x1 : Shape := ⟨2, ![512, 1]⟩
abbrev S512x128 : Shape := ⟨2, ![512, 128]⟩
abbrev S1x128 : Shape := ⟨2, ![1, 128]⟩
abbrev S1x1x128x256 : Shape := ⟨4, ![1, 1, 128, 256]⟩
abbrev S128x256 : Shape := ⟨2, ![128, 256]⟩
abbrev S512x256 : Shape := ⟨2, ![512, 256]⟩
abbrev S1024x256 : Shape := ⟨2, ![1024, 256]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 15
  | .vmem => 11
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S256x256, .bf16⟩
  | .hbm, ⟨4, _⟩ => ⟨S16384x512, .f32⟩
  | .hbm, ⟨5, _⟩ => ⟨S_, .f32⟩
  | .hbm, ⟨6, _⟩ => ⟨S16384x512, .f32⟩
  | .hbm, ⟨7, _⟩ => ⟨S16384x512, .f32⟩
  | .hbm, ⟨8, _⟩ => ⟨S16384x512, .bf16⟩
  | .hbm, ⟨9, _⟩ => ⟨S4x16x256x512, .f32⟩
  | .hbm, ⟨10, _⟩ => ⟨S4x16x512x256, .f32⟩
  | .hbm, ⟨11, _⟩ => ⟨S4x16x512x256, .bf16⟩
  | .hbm, ⟨12, _⟩ => ⟨S16384x512, .f32⟩
  | .hbm, ⟨13, _⟩ => ⟨S16384x512, .bf16⟩
  | .hbm, ⟨14, _⟩ => ⟨S16384x512, .bf16⟩
  | .local _ .vmem, ⟨0, _⟩ => ⟨S256x128, .bf16⟩
  | .local _ .vmem, ⟨1, _⟩ => ⟨S256x128, .bf16⟩
  | .local _ .vmem, ⟨2, _⟩ => ⟨S1x16x128x256, .bf16⟩
  | .local _ .vmem, ⟨3, _⟩ => ⟨S1x16x128x256, .bf16⟩
  | .local _ .vmem, ⟨4, _⟩ => ⟨S4096x128, .bf16⟩
  | .local _ .vmem, ⟨5, _⟩ => ⟨S4096x128, .bf16⟩
  | .local _ .vmem, ⟨6, _⟩ => ⟨S256x256, .bf16⟩
  | .local _ .vmem, ⟨7, _⟩ => ⟨S256x128, .bf16⟩
  | .local _ .vmem, ⟨8, _⟩ => ⟨S256x128, .bf16⟩
  | .local _ .vmem, ⟨9, _⟩ => ⟨S512x1, .f32⟩
  | .local _ .vmem, ⟨10, _⟩ => ⟨S512x128, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 16], ![false, false, false]⟩

def k0_mult1 (i : grid0.Coords) : BitVec 32 :=
  let arg2 : BitVec 32 := BitVec.ofNat 32 (i 2).val
  let c256_i32 : BitVec 32 := 256#32
  let v29 : BitVec 32 := Scalar.muli arg2 c256_i32
  v29
def k0_off1 (i : grid0.Coords) : Fin 4 → Nat :=
  let c0_13 : Index := 0#32
  let arg2 : BitVec 32 := BitVec.ofNat 32 (i 2).val
  let v31 : Index := Scalar.indexCast arg2
  let c0_14 : Index := 0#32
  let c0_15 : Index := 0#32
  ![0, v31.toNat, 0, 0]
def k0_off2 (i : grid0.Coords) : Fin 2 → Nat :=
  let arg2 : BitVec 32 := BitVec.ofNat 32 (i 2).val
  let c256_i32 : BitVec 32 := 256#32
  let v29 : BitVec 32 := Scalar.muli arg2 c256_i32
  let v30 : BitVec 32 := v29
  let v73 : Index := Scalar.indexCast v30
  let c0_28 : Index := 0#32
  ![v73.toNat, 0]
def k0_mult2 (i : grid0.Coords) (arg10 : BitVec 32) : BitVec 32 :=
  let arg2 : BitVec 32 := BitVec.ofNat 32 (i 2).val
  let c1_i32_48 : BitVec 32 := 1#32
  let v104 : BitVec 32 := Scalar.subi arg2 c1_i32_48
  let v105 : BitVec 32 := Scalar.subi v104 arg10
  let c256_i32_49 : BitVec 32 := 256#32
  let v106 : BitVec 32 := Scalar.muli v105 c256_i32_49
  v106

def k0_off3 (i : grid0.Coords) (arg10 : BitVec 32) : Fin 4 → Nat :=
  let c0_50 : Index := 0#32
  let arg2 : BitVec 32 := BitVec.ofNat 32 (i 2).val
  let c1_i32_48 : BitVec 32 := 1#32
  let v104 : BitVec 32 := Scalar.subi arg2 c1_i32_48
  let v105 : BitVec 32 := Scalar.subi v104 arg10
  let v108 : Index := Scalar.indexCast v105
  let c0_51 : Index := 0#32
  let c0_52 : Index := 0#32
  ![0, v108.toNat, 0, 0]
def k0_off4 (i : grid0.Coords) (arg10 : BitVec 32) : Fin 2 → Nat :=
  let arg2 : BitVec 32 := BitVec.ofNat 32 (i 2).val
  let c1_i32_48 : BitVec 32 := 1#32
  let v104 : BitVec 32 := Scalar.subi arg2 c1_i32_48
  let v105 : BitVec 32 := Scalar.subi v104 arg10
  let c256_i32_49 : BitVec 32 := 256#32
  let v106 : BitVec 32 := Scalar.muli v105 c256_i32_49
  let v107 : BitVec 32 := v106
  let v141 : Index := Scalar.indexCast v107
  let c0_63 : Index := 0#32
  ![v141.toNat, 0]

def k0_chk1 (i : grid0.Coords) (arg10 : BitVec 32) : Prop :=
  (256 ∣ (k0_mult2 i arg10).toNat) ∧
  (∀ a, (k0_off3 i arg10) a + S1x1x128x256.size a ≤ S1x16x128x256.size a) ∧
  (∀ a, (k0_off4 i arg10) a + S256x128.size a ≤ S4096x128.size a)
theorem k0_mult2_dvd : ∀ (i : grid0.Coords) (arg10 : BitVec 32) (k0_hw1 : k0_chk1 i arg10), 256 ∣ (k0_mult2 i arg10).toNat := fun i arg10 k0_hw1 => k0_hw1.1
theorem k0_off3_inb : ∀ (i : grid0.Coords) (arg10 : BitVec 32) (k0_hw1 : k0_chk1 i arg10), ∀ a, (k0_off3 i arg10) a + S1x1x128x256.size a ≤ S1x16x128x256.size a := fun i arg10 k0_hw1 => k0_hw1.2.1
theorem k0_off4_inb : ∀ (i : grid0.Coords) (arg10 : BitVec 32) (k0_hw1 : k0_chk1 i arg10), ∀ a, (k0_off4 i arg10) a + S256x128.size a ≤ S4096x128.size a := fun i arg10 k0_hw1 => k0_hw1.2.2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== StickIdeal.lean ====
variable {F : FTy → Type} [FloatOps F] [Named F]
def κ : String → Option EReal := fun
  | "cutoff" => some ⊥
  | _ => none
-- ==== StickRefIdeal.lean ====
abbrev S4x4096x8x64 : Shape := ⟨4, ![4, 4096, 8, 64]⟩
abbrev S4096 : Shape := ⟨1, ![4096]⟩
abbrev S4x8x4096x4096 : Shape := ⟨4, ![4, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x8x64x4096 : Shape := ⟨4, ![4, 8, 64, 4096]⟩
abbrev S16384x512 : Shape := ⟨2, ![16384, 512]⟩

abbrev nBuf : Space → Nat
  | .hbm => 66
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4096, .i32⟩
  | .hbm, ⟨4, _⟩ => ⟨S4x8x4096x4096, .f32⟩
  | .hbm, ⟨5, _⟩ => ⟨S_, .f32⟩
  | .hbm, ⟨6, _⟩ => ⟨S4x8x4096x4096, .f32⟩
  | .hbm, ⟨7, _⟩ => ⟨S4x8x4096x4096, .f32⟩
  | .hbm, ⟨8, _⟩ => ⟨S1x4096, .i32⟩
  | .hbm, ⟨9, _⟩ => ⟨S4096x1, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S4x8x4096x4096, .f32⟩
  | .hbm, ⟨14, _⟩ => ⟨S4x8x4096x4096, .f32⟩
  | .hbm, ⟨15, _⟩ => ⟨S_, .f32⟩
  | .hbm, ⟨16, _⟩ => ⟨S4x8x4096x4096, .f32⟩
  | .hbm, ⟨17, _⟩ => ⟨S4x8x4096x4096, .f32⟩
  | .hbm, ⟨18, _⟩ => ⟨S4x8x4096x4096, .f32⟩
  | .hbm, ⟨19, _⟩ => ⟨S4x8x4096x4096, .f32⟩
  | .hbm, ⟨20, _⟩ => ⟨S4x8x4096x4096, .i1⟩
  | .hbm, ⟨21, _⟩ => ⟨S4x8x4096x4096, .f32⟩
  | .hbm, ⟨22, _⟩ => ⟨S4x8x4096x4096, .f32⟩
  | .hbm, ⟨23, _⟩ => ⟨S4x8x4096x4096, .f32⟩
  | .hbm, ⟨24, _⟩ => ⟨S4x8x4096x4096, .f32⟩
  | .hbm, ⟨25, _⟩ => ⟨S4x8x4096x4096, .f32⟩
  | .hbm, ⟨26, _⟩ => ⟨S4x8x4096x4096, .f32⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S_, .f32⟩
  | .hbm, ⟨31, _⟩ => ⟨S_, .f32⟩
  | .hbm, ⟨32, _⟩ => ⟨S4x8x4096x4096, .i1⟩
  | .hbm, ⟨33, _⟩ => ⟨S4x8x4096x4096, .f32⟩
  | .hbm, ⟨34, _⟩ => ⟨S4x8x4096x4096, .f32⟩
  | .hbm, ⟨35, _⟩ => ⟨S_, .f32⟩
  | .hbm, ⟨36, _⟩ => ⟨S_, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .f32⟩
  | .hbm, ⟨40, _⟩ => ⟨S_, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S4x8x4096x4096, .f32⟩
  | .hbm, ⟨45, _⟩ => ⟨S4x8x4096x4096, .i1⟩
  | .hbm, ⟨46, _⟩ => ⟨S4x8x4096x4096, .f32⟩
  | .hbm, ⟨47, _⟩ => ⟨S4x8x4096x4096, .f32⟩
  | .hbm, ⟨48, _⟩ => ⟨S4x8x4096x4096, .f32⟩
  | .hbm, ⟨49, _⟩ => ⟨S4x8x4096x4096, .f32⟩
  | .hbm, ⟨50, _⟩ => ⟨S4x8x4096x4096, .f32⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S4x8x4096x4096, .f32⟩
  | .hbm, ⟨55, _⟩ => ⟨S4x8x4096x4096, .f32⟩
  | .hbm, ⟨56, _⟩ => ⟨S4x8x4096x4096, .f32⟩
  | .hbm, ⟨57, _⟩ => ⟨S_, .f32⟩
  | .hbm, ⟨58, _⟩ => ⟨S_, .f32⟩
  | .hbm, ⟨59, _⟩ => ⟨S4x8x4096x4096, .i1⟩
  | .hbm, ⟨60, _⟩ => ⟨S4x8x4096x4096, .f32⟩
  | .hbm, ⟨61, _⟩ => ⟨S4x8x4096x4096, .f32⟩
  | .hbm, ⟨62, _⟩ => ⟨S4x8x64x4096, .f32⟩
  | .hbm, ⟨63, _⟩ => ⟨S4x4096x8x64, .f32⟩
  | .hbm, ⟨64, _⟩ => ⟨S16384x512, .f32⟩
  | .hbm, ⟨65, _⟩ => ⟨S16384x512, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩
abbrev main_call2_cst : Ref sig .tc := ⟨.hbm, 35, rfl⟩
abbrev main_call2_v0 : Ref sig .tc := ⟨.hbm, 36, rfl⟩
abbrev main_v12 : Ref sig .tc := ⟨.hbm, 37, rfl⟩
abbrev main_v13 : Ref sig .tc := ⟨.hbm, 38, rfl⟩
abbrev main_call3_v0 : Ref sig .tc := ⟨.hbm, 39, rfl⟩
abbrev main_call3_call0_cst : Ref sig .tc := ⟨.hbm, 40, rfl⟩
abbrev main_call3_call0_v0 : Ref sig .tc := ⟨.hbm, 41, rfl⟩
abbrev main_call3_call0_v1 : Ref sig .tc := ⟨.hbm, 42, rfl⟩
abbrev main_call3_call0_v2 : Ref sig .tc := ⟨.hbm, 43, rfl⟩
abbrev main_call3_call0_v3 : Ref sig .tc := ⟨.hbm, 44, rfl⟩
abbrev main_call3_call0_v4 : Ref sig .tc := ⟨.hbm, 45, rfl⟩
abbrev main_call3_call0_v5 : Ref sig .tc := ⟨.hbm, 46, rfl⟩
abbrev main_call3_call0_v6 : Ref sig .tc := ⟨.hbm, 47, rfl⟩
abbrev main_call3_call0_v7 : Ref sig .tc := ⟨.hbm, 48, rfl⟩
abbrev main_call3_call0_v8 : Ref sig .tc := ⟨.hbm, 49, rfl⟩
abbrev main_call3_call0_v9 : Ref sig .tc := ⟨.hbm, 50, rfl⟩
abbrev main_call3_call0_v10 : Ref sig .tc := ⟨.hbm, 51, rfl⟩
abbrev main_call3_call0_v11 : Ref sig .tc := ⟨.hbm, 52, rfl⟩
abbrev main_call3_v1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩

abbrev nD : Nat := 1
abbrev τ : Topo := Topo.v7x

variable {F : FTy → Type} [FloatOps F]
-- ==== Moe.lean ====
abbrev S4x4096x1024 : Shape := ⟨3, ![4, 4096, 1024]⟩
abbrev S16384x1024 : Shape := ⟨2, ![16384, 1024]⟩
abbrev S16384x16 : Shape := ⟨2, ![16384, 16]⟩
abbrev S2x6x24x1x1024 : Shape := ⟨5, ![2, 6, 24, 1, 1024]⟩
abbrev S2x16x1024x512 : Shape := ⟨4, ![2, 16, 1024, 512]⟩
abbrev S2x16x512x1024 : Shape := ⟨4, ![2, 16, 512, 1024]⟩
abbrev S1x1024x1024 : Shape := ⟨3, ![1, 1024, 1024]⟩
abbrev S1024x1024 : Shape := ⟨2, ![1024, 1024]⟩
abbrev S1024x16 : Shape := ⟨2, ![1024, 16]⟩
abbrev S1x1x1x1x1024 : Shape := ⟨5, ![1, 1, 1, 1, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩
abbrev S1x1x1024 : Shape := ⟨3, ![1, 1, 1024]⟩

abbrev nBuf : Space → Nat
  | .hbm => 12
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .f32⟩
  | .hbm, ⟨2, _⟩ => ⟨S16384x16, .f32⟩
  | .hbm, ⟨3, _⟩ => ⟨S2x6x24x1x1024, .f32⟩
  | .hbm, ⟨4, _⟩ => ⟨S2x16x1024x512, .f32⟩
  | .hbm, ⟨5, _⟩ => ⟨S2x16x1024x512, .f32⟩
  | .hbm, ⟨6, _⟩ => ⟨S2x16x512x1024, .f32⟩
  | .hbm, ⟨7, _⟩ => ⟨S2x16x1024x512, .bf16⟩
  | .hbm, ⟨8, _⟩ => ⟨S2x16x1024x512, .bf16⟩
  | .hbm, ⟨9, _⟩ => ⟨S2x16x512x1024, .bf16⟩
  | .hbm, ⟨10, _⟩ => ⟨S16384x1024, .bf16⟩
  | .hbm, ⟨11, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x16, .f32⟩
  | .local _ .vmem, ⟨5, _⟩ => ⟨S1024x16, .f32⟩
  | .local _ .vmem, ⟨6, _⟩ => ⟨S1x1x1x1x1024, .f32⟩
  | .local _ .vmem, ⟨7, _⟩ => ⟨S1x1x1x1x1024, .f32⟩
  | .local _ .vmem, ⟨8, _⟩ => ⟨S1x1x1024x512, .bf16⟩
  | .local _ .vmem, ⟨9, _⟩ => ⟨S1x1x1024x512, .bf16⟩
  | .local _ .vmem, ⟨10, _⟩ => ⟨S1x1x1024x512, .bf16⟩
  | .local _ .vmem, ⟨11, _⟩ => ⟨S1x1x1024x512, .bf16⟩
  | .local _ .vmem, ⟨12, _⟩ => ⟨S1x1x512x1024, .bf16⟩
  | .local _ .vmem, ⟨13, _⟩ => ⟨S1x1x512x1024, .bf16⟩
  | .local _ .vmem, ⟨14, _⟩ => ⟨S1x1024x1024, .f32⟩
  | .local _ .vmem, ⟨15, _⟩ => ⟨S1x1024x1024, .f32⟩
  | .local _ .vmem, ⟨16, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v33 : BitVec 1 := Scalar.cmpi .eq arg1 c15_i32
  let v34 : BitVec 32 := Scalar.extui v33
  let c0_i32_24 : BitVec 32 := 0#32
  let v35 : BitVec 1 := Scalar.cmpi .ne v34 c0_i32_24
  v35

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 v16
  let c0_i32_4 : BitVec 32 := 0#32
  let c5_i32 : BitVec 32 := 5#32
  let c0_i32_5 : BitVec 32 := 0#32
  let c0_i32_6 : BitVec 32 := 0#32
  let c0_i32_7 : BitVec 32 := 0#32
  ![c0_i32_4.toNat, c5_i32.toNat, v17.toNat, c0_i32_5.toNat, c0_i32_6.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeRefIdeal.lean ====
abbrev S4x4096x1024 : Shape := ⟨3, ![4, 4096, 1024]⟩
abbrev S16384x1024 : Shape := ⟨2, ![16384, 1024]⟩
abbrev S16384x16 : Shape := ⟨2, ![16384, 16]⟩
abbrev S2x6x24x1x1024 : Shape := ⟨5, ![2, 6, 24, 1, 1024]⟩
abbrev S2x16x1024x512 : Shape := ⟨4, ![2, 16, 1024, 512]⟩
abbrev S2x16x512x1024 : Shape := ⟨4, ![2, 16, 512, 1024]⟩
abbrev S1x16x1024x512 : Shape := ⟨4, ![1, 16, 1024, 512]⟩
abbrev S16x1024x512 : Shape := ⟨3, ![16, 1024, 512]⟩
abbrev S1x16x512x1024 : Shape := ⟨4, ![1, 16, 512, 1024]⟩
abbrev S16x512x1024 : Shape := ⟨3, ![16, 512, 1024]⟩
abbrev S16384x16x512 : Shape := ⟨3, ![16384, 16, 512]⟩
abbrev S_ : Shape := ⟨0, ![]⟩
abbrev S16384x16x1 : Shape := ⟨3, ![16384, 16, 1]⟩
abbrev S16x1024x16384 : Shape := ⟨3, ![16, 1024, 16384]⟩
abbrev S16384x16x1024 : Shape := ⟨3, ![16384, 16, 1024]⟩
abbrev S1x1x4x1x1024 : Shape := ⟨5, ![1, 1, 4, 1, 1024]⟩
abbrev S4x1x1024 : Shape := ⟨3, ![4, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x1024, .f32⟩
  | .hbm, ⟨2, _⟩ => ⟨S16384x16, .f32⟩
  | .hbm, ⟨3, _⟩ => ⟨S2x6x24x1x1024, .f32⟩
  | .hbm, ⟨4, _⟩ => ⟨S2x16x1024x512, .f32⟩
  | .hbm, ⟨5, _⟩ => ⟨S2x16x1024x512, .f32⟩
  | .hbm, ⟨6, _⟩ => ⟨S2x16x512x1024, .f32⟩
  | .hbm, ⟨7, _⟩ => ⟨S1x16x1024x512, .f32⟩
  | .hbm, ⟨8, _⟩ => ⟨S16x1024x512, .f32⟩
  | .hbm, ⟨9, _⟩ => ⟨S1x16x1024x512, .f32⟩
  | .hbm, ⟨10, _⟩ => ⟨S16x1024x512, .f32⟩
  | .hbm, ⟨11, _⟩ => ⟨S1x16x512x1024, .f32⟩
  | .hbm, ⟨12, _⟩ => ⟨S16x512x1024, .f32⟩
  | .hbm, ⟨13, _⟩ => ⟨S16384x16x512, .f32⟩
  | .hbm, ⟨14, _⟩ => ⟨S16384x16x512, .f32⟩
  | .hbm, ⟨15, _⟩ => ⟨S16384x16x512, .f32⟩
  | .hbm, ⟨16, _⟩ => ⟨S_, .f32⟩
  | .hbm, ⟨17, _⟩ => ⟨S16384x16x512, .f32⟩
  | .hbm, ⟨18, _⟩ => ⟨S16384x16x512, .f32⟩
  | .hbm, ⟨19, _⟩ => ⟨S_, .f32⟩
  | .hbm, ⟨20, _⟩ => ⟨S16384x16x512, .f32⟩
  | .hbm, ⟨21, _⟩ => ⟨S16384x16x512, .f32⟩
  | .hbm, ⟨22, _⟩ => ⟨S16384x16x512, .f32⟩
  | .hbm, ⟨23, _⟩ => ⟨S16384x16x512, .f32⟩
  | .hbm, ⟨24, _⟩ => ⟨S16384x16x512, .f32⟩
  | .hbm, ⟨25, _⟩ => ⟨S16384x16x1, .f32⟩
  | .hbm, ⟨26, _⟩ => ⟨S16x1024x16384, .f32⟩
  | .hbm, ⟨27, _⟩ => ⟨S16384x16x1024, .f32⟩
  | .hbm, ⟨28, _⟩ => ⟨S16384x16x1024, .f32⟩
  | .hbm, ⟨29, _⟩ => ⟨S16384x16x1024, .f32⟩
  | .hbm, ⟨30, _⟩ => ⟨S_, .f32⟩
  | .hbm, ⟨31, _⟩ => ⟨S16384x1024, .f32⟩
  | .hbm, ⟨32, _⟩ => ⟨S1x1x4x1x1024, .f32⟩
  | .hbm, ⟨33, _⟩ => ⟨S4x1x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Proj.lean ====
abbrev S4x4096x1024 : Shape := ⟨3, ![4, 4096, 1024]⟩
abbrev S2x6x24x1x1024 : Shape := ⟨5, ![2, 6, 24, 1, 1024]⟩
abbrev S2x1024 : Shape := ⟨2, ![2, 1024]⟩
abbrev S2x1024x4676 : Shape := ⟨3, ![2, 1024, 4676]⟩
abbrev S2x64 : Shape := ⟨2, ![2, 64]⟩
abbrev S128x128 : Shape := ⟨2, ![128, 128]⟩
abbrev S1x2x1x64 : Shape := ⟨4, ![1, 2, 1, 64]⟩
abbrev S1x2x2x64 : Shape := ⟨4, ![1, 2, 2, 64]⟩
abbrev S2x128 : Shape := ⟨2, ![2, 128]⟩
abbrev S2x1x128 : Shape := ⟨3, ![2, 1, 128]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S2x1x1024 : Shape := ⟨3, ![2, 1, 1024]⟩
abbrev S2x1024x512 : Shape := ⟨3, ![2, 1024, 512]⟩
abbrev S2x1024x128 : Shape := ⟨3, ![2, 1024, 128]⟩
abbrev S2x1024x256 : Shape := ⟨3, ![2, 1024, 256]⟩
abbrev S2x1024x64 : Shape := ⟨3, ![2, 1024, 64]⟩
abbrev S2x1024x4 : Shape := ⟨3, ![2, 1024, 4]⟩
abbrev S2x1024x2048 : Shape := ⟨3, ![2, 1024, 2048]⟩
abbrev S2x1024x5120 : Shape := ⟨3, ![2, 1024, 5120]⟩
abbrev S16384x512 : Shape := ⟨2, ![16384, 512]⟩
abbrev S16384x256 : Shape := ⟨2, ![16384, 256]⟩
abbrev S16384x8 : Shape := ⟨2, ![16384, 8]⟩
abbrev S16384x2048 : Shape := ⟨2, ![16384, 2048]⟩
abbrev S4x16x256x256 : Shape := ⟨4, ![4, 16, 256, 256]⟩
abbrev S4x16x128x256 : Shape := ⟨4, ![4, 16, 128, 256]⟩
abbrev S4x16x512x256 : Shape := ⟨4, ![4, 16, 512, 256]⟩
abbrev S4x128x4096 : Shape := ⟨3, ![4, 128, 4096]⟩
abbrev S4x64x4096 : Shape := ⟨3, ![4, 64, 4096]⟩
abbrev S4x512x4096 : Shape := ⟨3, ![4, 512, 4096]⟩
abbrev S1x256x1024 : Shape := ⟨3, ![1, 256, 1024]⟩
abbrev S1x1x1x1x1024 : Shape := ⟨5, ![1, 1, 1, 1, 1024]⟩
abbrev S1x1x1024 : Shape := ⟨3, ![1, 1, 1024]⟩
abbrev S1x1024x5120 : Shape := ⟨3, ![1, 1024, 5120]⟩
abbrev S256x128 : Shape := ⟨2, ![256, 128]⟩
abbrev S1x1x128 : Shape := ⟨3, ![1, 1, 128]⟩
abbrev S256x512 : Shape := ⟨2, ![256, 512]⟩
abbrev S256x256 : Shape := ⟨2, ![256, 256]⟩
abbrev S256x8 : Shape := ⟨2, ![256, 8]⟩
abbrev S256x2048 : Shape := ⟨2, ![256, 2048]⟩
abbrev S1x1x256x256 : Shape := ⟨4, ![1, 1, 256, 256]⟩
abbrev S1x1x128x256 : Shape := ⟨4, ![1, 1, 128, 256]⟩
abbrev S1x1x512x256 : Shape := ⟨4, ![1, 1, 512, 256]⟩
abbrev S1x128x256 : Shape := ⟨3, ![1, 128, 256]⟩
abbrev S1x64x256 : Shape := ⟨3, ![1, 64, 256]⟩
abbrev S1x512x256 : Shape := ⟨3, ![1, 512, 256]⟩
abbrev S1x256 : Shape := ⟨2, ![1, 256]⟩
abbrev S1x256x1 : Shape := ⟨3, ![1, 256, 1]⟩
abbrev S1x1024 : Shape := ⟨2, ![1, 1024]⟩
abbrev S256x1024 : Shape := ⟨2, ![256, 1024]⟩
abbrev S1x128 : Shape := ⟨2, ![1, 128]⟩
abbrev S1x1024x512 : Shape := ⟨3, ![1, 1024, 512]⟩
abbrev S1024x512 : Shape := ⟨2, ![1024, 512]⟩
abbrev S1x1024x256 : Shape := ⟨3, ![1, 1024, 256]⟩
abbrev S1024x256 : Shape := ⟨2, ![1024, 256]⟩
abbrev S128x256 : Shape := ⟨2, ![128, 256]⟩
abbrev S64x256 : Shape := ⟨2, ![64, 256]⟩
abbrev S1x1024x128 : Shape := ⟨3, ![1, 1024, 128]⟩
abbrev S1024x128 : Shape := ⟨2, ![1024, 128]⟩
abbrev S512x256 : Shape := ⟨2, ![512, 256]⟩

abbrev nBuf : Space → Nat
  | .hbm => 83
  | .vmem => 45
  | .smem => 0
  | _ => 0

abbrev bufTy : (tb : Table) → Fin (tcTables nBuf tb) → BufTy
  | .hbm, ⟨0, _⟩ => ⟨S4x4096x1024, .f32⟩
  | .hbm, ⟨1, _⟩ => ⟨S2x6x24x1x1024, .f32⟩
  | .hbm, ⟨2, _⟩ => ⟨S2x1024, .f32⟩
  | .hbm, ⟨3, _⟩ => ⟨S2x1024x4676, .f32⟩
  | .hbm, ⟨4, _⟩ => ⟨S2x64, .f32⟩
  | .hbm, ⟨5, _⟩ => ⟨S2x64, .f32⟩
  | .hbm, ⟨6, _⟩ => ⟨S128x128, .bf16⟩
  | .hbm, ⟨7, _⟩ => ⟨S1x2x1x64, .f32⟩
  | .hbm, ⟨8, _⟩ => ⟨S1x2x2x64, .f32⟩
  | .hbm, ⟨9, _⟩ => ⟨S2x128, .f32⟩
  | .hbm, ⟨10, _⟩ => ⟨S2x1x128, .f32⟩
  | .hbm, ⟨11, _⟩ => ⟨S1x2x1x64, .f32⟩
  | .hbm, ⟨12, _⟩ => ⟨S1x2x2x64, .f32⟩
  | .hbm, ⟨13, _⟩ => ⟨S2x128, .f32⟩
  | .hbm, ⟨14, _⟩ => ⟨S2x1x128, .f32⟩
  | .hbm, ⟨15, _⟩ => ⟨S4096, .i32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S4096, .f32⟩
  | .hbm, ⟨31, _⟩ => ⟨S4096x1, .f32⟩
  | .hbm, ⟨32, _⟩ => ⟨S1x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x128, .f32⟩
  | .hbm, ⟨39, _⟩ => ⟨S4096x32, .f32⟩
  | .hbm, ⟨40, _⟩ => ⟨S4096x32, .f32⟩
  | .hbm, ⟨41, _⟩ => ⟨S4096x128, .f32⟩
  | .hbm, ⟨42, _⟩ => ⟨S2x1x1024, .f32⟩
  | .hbm, ⟨43, _⟩ => ⟨S2x1024x512, .f32⟩
  | .hbm, ⟨44, _⟩ => ⟨S2x1024x128, .f32⟩
  | .hbm, ⟨45, _⟩ => ⟨S2x1024x128, .f32⟩
  | .hbm, ⟨46, _⟩ => ⟨S2x1024x256, .f32⟩
  | .hbm, ⟨47, _⟩ => ⟨S2x1024x64, .f32⟩
  | .hbm, ⟨48, _⟩ => ⟨S2x1024x4, .f32⟩
  | .hbm, ⟨49, _⟩ => ⟨S2x1024x512, .f32⟩
  | .hbm, ⟨50, _⟩ => ⟨S2x1024x512, .f32⟩
  | .hbm, ⟨51, _⟩ => ⟨S2x1024x512, .f32⟩
  | .hbm, ⟨52, _⟩ => ⟨S2x1024x2048, .f32⟩
  | .hbm, ⟨53, _⟩ => ⟨S_, .i32⟩
  | .hbm, ⟨54, _⟩ => ⟨S_, .f32⟩
  | .hbm, ⟨55, _⟩ => ⟨S2x1024x128, .f32⟩
  | .hbm, ⟨56, _⟩ => ⟨S2x1024x64, .f32⟩
  | .hbm, ⟨57, _⟩ => ⟨S2x1024x64, .f32⟩
  | .hbm, ⟨58, _⟩ => ⟨S2x1024x64, .f32⟩
  | .hbm, ⟨59, _⟩ => ⟨S2x1024x64, .f32⟩
  | .hbm, ⟨60, _⟩ => ⟨S2x1024x256, .f32⟩
  | .hbm, ⟨61, _⟩ => ⟨S2x1024x64, .f32⟩
  | .hbm, ⟨62, _⟩ => ⟨S2x1024x64, .f32⟩
  | .hbm, ⟨63, _⟩ => ⟨S2x1024x64, .f32⟩
  | .hbm, ⟨64, _⟩ => ⟨S2x1024x64, .f32⟩
  | .hbm, ⟨65, _⟩ => ⟨S2x1024x256, .f32⟩
  | .hbm, ⟨66, _⟩ => ⟨S2x1024x5120, .f32⟩
  | .hbm, ⟨67, _⟩ => ⟨S2x1024x5120, .bf16⟩
  | .hbm, ⟨68, _⟩ => ⟨S16384x512, .bf16⟩
  | .hbm, ⟨69, _⟩ => ⟨S16384x256, .bf16⟩
  | .hbm, ⟨70, _⟩ => ⟨S16384x8, .f32⟩
  | .hbm, ⟨71, _⟩ => ⟨S16384x512, .bf16⟩
  | .hbm, ⟨72, _⟩ => ⟨S16384x2048, .f32⟩
  | .hbm, ⟨73, _⟩ => ⟨S16384x256, .bf16⟩
  | .hbm, ⟨74, _⟩ => ⟨S16384x512, .bf16⟩
  | .hbm, ⟨75, _⟩ => ⟨S4x16x256x256, .bf16⟩
  | .hbm, ⟨76, _⟩ => ⟨S4x16x128x256, .bf16⟩
  | .hbm, ⟨77, _⟩ => ⟨S4x16x512x256, .bf16⟩
  | .hbm, ⟨78, _⟩ => ⟨S4x128x4096, .f32⟩
  | .hbm, ⟨79, _⟩ => ⟨S4x128x4096, .f32⟩
  | .hbm, ⟨80, _⟩ => ⟨S4x64x4096, .f32⟩
  | .hbm, ⟨81, _⟩ => ⟨S4x512x4096, .f32⟩
  | .hbm, ⟨82, _⟩ => ⟨S4x512x4096, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1x1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1024, .f32⟩
  | .local _ .vmem, ⟨7, _⟩ => ⟨S1x1024x5120, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x1x128, .f32⟩
  | .local _ .vmem, ⟨13, _⟩ => ⟨S1x1x128, .f32⟩
  | .local _ .vmem, ⟨14, _⟩ => ⟨S128x128, .bf16⟩
  | .local _ .vmem, ⟨15, _⟩ => ⟨S256x512, .bf16⟩
  | .local _ .vmem, ⟨16, _⟩ => ⟨S256x512, .bf16⟩
  | .local _ .vmem, ⟨17, _⟩ => ⟨S256x256, .bf16⟩
  | .local _ .vmem, ⟨18, _⟩ => ⟨S256x256, .bf16⟩
  | .local _ .vmem, ⟨19, _⟩ => ⟨S256x8, .f32⟩
  | .local _ .vmem, ⟨20, _⟩ => ⟨S256x8, .f32⟩
  | .local _ .vmem, ⟨21, _⟩ => ⟨S256x512, .bf16⟩
  | .local _ .vmem, ⟨22, _⟩ => ⟨S256x512, .bf16⟩
  | .local _ .vmem, ⟨23, _⟩ => ⟨S256x2048, .f32⟩
  | .local _ .vmem, ⟨24, _⟩ => ⟨S256x2048, .f32⟩
  | .local _ .vmem, ⟨25, _⟩ => ⟨S256x256, .bf16⟩
  | .local _ .vmem, ⟨26, _⟩ => ⟨S256x256, .bf16⟩
  | .local _ .vmem, ⟨27, _⟩ => ⟨S256x512, .bf16⟩
  | .local _ .vmem, ⟨28, _⟩ => ⟨S256x512, .bf16⟩
  | .local _ .vmem, ⟨29, _⟩ => ⟨S1x1x256x256, .bf16⟩
  | .local _ .vmem, ⟨30, _⟩ => ⟨S1x1x256x256, .bf16⟩
  | .local _ .vmem, ⟨31, _⟩ => ⟨S1x1x128x256, .bf16⟩
  | .local _ .vmem, ⟨32, _⟩ => ⟨S1x1x128x256, .bf16⟩
  | .local _ .vmem, ⟨33, _⟩ => ⟨S1x1x512x256, .bf16⟩
  | .local _ .vmem, ⟨34, _⟩ => ⟨S1x1x512x256, .bf16⟩
  | .local _ .vmem, ⟨35, _⟩ => ⟨S1x128x256, .f32⟩
  | .local _ .vmem, ⟨36, _⟩ => ⟨S1x128x256, .f32⟩
  | .local _ .vmem, ⟨37, _⟩ => ⟨S1x128x256, .f32⟩
  | .local _ .vmem, ⟨38, _⟩ => ⟨S1x128x256, .f32⟩
  | .local _ .vmem, ⟨39, _⟩ => ⟨S1x64x256, .f32⟩
  | .local _ .vmem, ⟨40, _⟩ => ⟨S1x64x256, .f32⟩
  | .local _ .vmem, ⟨41, _⟩ => ⟨S1x512x256, .f32⟩
  | .local _ .vmem, ⟨42, _⟩ => ⟨S1x512x256, .f32⟩
  | .local _ .vmem, ⟨43, _⟩ => ⟨S1x512x256, .f32⟩
  | .local _ .vmem, ⟨44, _⟩ => ⟨S1x512x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c : Ref sig .tc := ⟨.hbm, 53, rfl⟩
abbrev main_call0_v0 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55_0 : Ref sig .tc := ⟨.hbm, 68, rfl⟩
abbrev main_v55_1 : Ref sig .tc := ⟨.hbm, 69, rfl⟩
abbrev main_v55_2 : Ref sig .tc := ⟨.hbm, 70, rfl⟩
abbrev main_v55_3 : Ref sig .tc := ⟨.hbm, 71, rfl⟩
abbrev main_v55_4 : Ref sig .tc := ⟨.hbm, 72, rfl⟩
abbrev main_v55_5 : Ref sig .tc := ⟨.hbm, 73, rfl⟩
abbrev main_v55_6 : Ref sig .tc := ⟨.hbm, 74, rfl⟩
abbrev main_v55_7 : Ref sig .tc := ⟨.hbm, 75, rfl⟩
abbrev main_v55_8 : Ref sig .tc := ⟨.hbm, 76, rfl⟩
abbrev main_v55_9 : Ref sig .tc := ⟨.hbm, 77, rfl⟩
abbrev main_v55_10 : Ref sig .tc := ⟨.hbm, 78, rfl⟩
abbrev main_v55_11 : Ref sig .tc := ⟨.hbm, 79, rfl⟩
abbrev main_v55_12 : Ref sig .tc := ⟨.hbm, 80, rfl⟩
abbrev main_v55_13 : Ref sig .tc := ⟨.hbm, 81, rfl⟩
abbrev main_v55_14 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_stg24_0 : Ref sig .tc := ⟨.vmem, 43, rfl⟩
abbrev cc0_stg24_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42
abbrev cc0_sem24_0 : DmaSem sig := 43
abbrev cc0_sem24_1 : DmaSem sig := 44

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.addi c16_i32_4 v16
  let c0_i32_5 : BitVec 32 := 0#32
  let c0_i32_6 : BitVec 32 := 0#32
  let c0_i32_7 : BitVec 32 := 0#32
  let c0_i32_8 : BitVec 32 := 0#32
  let c0_i32_9 : BitVec 32 := 0#32
  ![c0_i32_5.toNat, c0_i32_6.toNat, v17.toNat, c0_i32_7.toNat, c0_i32_8.toNat]

def cc0_transform_2 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let v17 : BitVec 32 := Scalar.addi c16_i32_4 v16
  let c0_i32_5 : BitVec 32 := 0#32
  let c1_i32_6 : BitVec 32 := 1#32
  let c0_i32_7 : BitVec 32 := 0#32
  let c0_i32_8 : BitVec 32 := 0#32
  let c0_i32_9 : BitVec 32 := 0#32
  ![c0_i32_5.toNat, c1_i32_6.toNat, v17.toNat, c0_i32_7.toNat, c0_i32_8.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_18 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_19 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_20 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_21 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_22 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_23 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_24 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x128x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x128x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x128x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x64x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x512x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x512x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== ProjRefIdeal.lean ====
abbrev S4x4096x1024 : Shape := ⟨3, ![4, 4096, 1024]⟩
abbrev S2x6x24x1x1024 : Shape := ⟨5, ![2, 6, 24, 1, 1024]⟩
abbrev S2x1024 : Shape := ⟨2, ![2, 1024]⟩
abbrev S2x1024x4676 : Shape := ⟨3, ![2, 1024, 4676]⟩
abbrev S2x64 : Shape := ⟨2, ![2, 64]⟩
abbrev S1x1x4x1x1024 : Shape := ⟨5, ![1, 1, 4, 1, 1024]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x4676 : Shape := ⟨3, ![1, 1024, 4676]⟩
abbrev S1024x4676 : Shape := ⟨2, ![1024, 4676]⟩
abbrev S4x4096x4676 : Shape := ⟨3, ![4, 4096, 4676]⟩
abbrev S4x4096x512 : Shape := ⟨3, ![4, 4096, 512]⟩
abbrev S4x4096x128 : Shape := ⟨3, ![4, 4096, 128]⟩
abbrev S4x4096x256 : Shape := ⟨3, ![4, 4096, 256]⟩
abbrev S4x4096x64 : Shape := ⟨3, ![4, 4096, 64]⟩
abbrev S4x4096x4 : Shape := ⟨3, ![4, 4096, 4]⟩
abbrev S4x4096x2048 : Shape := ⟨3, ![4, 4096, 2048]⟩
abbrev S4096 : Shape := ⟨1, ![4096]⟩
abbrev S4x4096x8x64 : Shape := ⟨4, ![4, 4096, 8, 64]⟩
abbrev S1x64 : Shape := ⟨2, ![1, 64]⟩
abbrev S64 : Shape := ⟨1, ![64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x8x32 : Shape := ⟨4, ![4, 4096, 8, 32]⟩
abbrev S1x4096x1x32 : Shape := ⟨4, ![1, 4096, 1, 32]⟩
abbrev S4x4096x2x64 : Shape := ⟨4, ![4, 4096, 2, 64]⟩
abbrev S4x4096x2 : Shape := ⟨3, ![4, 4096, 2]⟩
abbrev S4x4096x2x1 : Shape := ⟨4, ![4, 4096, 2, 1]⟩
abbrev S4x4096x2x32 : Shape := ⟨4, ![4, 4096, 2, 32]⟩
abbrev S4x4096x4x64 : Shape := ⟨4, ![4, 4096, 4, 64]⟩
abbrev S4x4096x4x32 : Shape := ⟨4, ![4, 4096, 4, 32]⟩
abbrev S4x4096x1x64 : Shape := ⟨4, ![4, 4096, 1, 64]⟩
abbrev S4x4096x1x32 : Shape := ⟨4, ![4, 4096, 1, 32]⟩
abbrev S16384x512 : Shape := ⟨2, ![16384, 512]⟩
abbrev S16384x256 : Shape := ⟨2, ![16384, 256]⟩
abbrev S16384x4 : Shape := ⟨2, ![16384, 4]⟩
abbrev S16384x8 : Shape := ⟨2, ![16384, 8]⟩
abbrev S16384x2048 : Shape := ⟨2, ![16384, 2048]⟩
abbrev S4x128x4096 : Shape := ⟨3, ![4, 128, 4096]⟩
abbrev S4x64x4096 : Shape := ⟨3, ![4, 64, 4096]⟩
abbrev S4x512x4096 : Shape := ⟨3, ![4, 512, 4096]⟩

abbrev nBuf : Space → Nat
  | .hbm => 291
  | .vmem => 0
  | .smem => 0
  | _ => 0

abbrev hbmTy0_0 (i : Nat) : BufTy := match i % 128 with
  | 0 => ⟨S4x4096x1024, .f32⟩
  | 1 => ⟨S2x6x24x1x1024, .f32⟩
  | 2 => ⟨S2x1024, .f32⟩
  | 3 => ⟨S2x1024x4676, .f32⟩
  | 4 => ⟨S2x64, .f32⟩
  | 5 => ⟨S2x64, .f32⟩
  | 6 => ⟨S1x1x4x1x1024, .f32⟩
  | 7 => ⟨S4x1x1024, .f32⟩
  | 8 => ⟨S1x1x4x1x1024, .f32⟩
  | 9 => ⟨S4x1x1024, .f32⟩
  | 10 => ⟨S1x1024, .f32⟩
  | 11 => ⟨S1024, .f32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x1024, .f32⟩
  | 24 => ⟨S4x4096x1024, .f32⟩
  | 25 => ⟨S1x1x1024, .f32⟩
  | 26 => ⟨S4x4096x1024, .f32⟩
  | 27 => ⟨S4x4096x1024, .f32⟩
  | 28 => ⟨S_, .f32⟩
  | 29 => ⟨S4x1x1024, .f32⟩
  | 30 => ⟨S4x1x1024, .f32⟩
  | 31 => ⟨S4x4096x1024, .f32⟩
  | 32 => ⟨S4x4096x1024, .f32⟩
  | 33 => ⟨S4x4096x1024, .f32⟩
  | 34 => ⟨S4x4096x1024, .f32⟩
  | 35 => ⟨S1x1024x4676, .f32⟩
  | 36 => ⟨S1024x4676, .f32⟩
  | 37 => ⟨S4x4096x4676, .f32⟩
  | 38 => ⟨S4x4096x512, .f32⟩
  | 39 => ⟨S4x4096x128, .f32⟩
  | 40 => ⟨S4x4096x128, .f32⟩
  | 41 => ⟨S4x4096x256, .f32⟩
  | 42 => ⟨S4x4096x64, .f32⟩
  | 43 => ⟨S4x4096x4, .f32⟩
  | 44 => ⟨S4x4096x512, .f32⟩
  | 45 => ⟨S4x4096x512, .f32⟩
  | 46 => ⟨S4x4096x512, .f32⟩
  | 47 => ⟨S4x4096x2048, .f32⟩
  | 48 => ⟨S4096, .i32⟩
  | 49 => ⟨S4x4096x8x64, .f32⟩
  | 50 => ⟨S1x64, .f32⟩
  | 51 => ⟨S64, .f32⟩
  | 52 => ⟨S4x4096x8x64, .f32⟩
  | 53 => ⟨S_, .f32⟩
  | 54 => ⟨S4x4096x8, .f32⟩
  | 55 => ⟨S4x4096x8x1, .f32⟩
  | 56 => ⟨S_, .f32⟩
  | 57 => ⟨S4x4096x8x1, .f32⟩
  | 58 => ⟨S4x4096x8x1, .f32⟩
  | 59 => ⟨S_, .f32⟩
  | 60 => ⟨S4x4096x8x1, .f32⟩
  | 61 => ⟨S4x4096x8x1, .f32⟩
  | 62 => ⟨S4x4096x8x1, .f32⟩
  | 63 => ⟨S4x4096x8x64, .f32⟩
  | 64 => ⟨S4x4096x8x64, .f32⟩
  | 65 => ⟨S1x1x1x64, .f32⟩
  | 66 => ⟨S4x4096x8x64, .f32⟩
  | 67 => ⟨S4x4096x8x64, .f32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S4096, .f32⟩
  | 83 => ⟨S4096x1, .f32⟩
  | 84 => ⟨S1x32, .f32⟩
  | 85 => ⟨S4096x32, .f32⟩
  | 86 => ⟨S4096x32, .f32⟩
  | 87 => ⟨S4096x32, .f32⟩
  | 88 => ⟨S4096x32, .f32⟩
  | 89 => ⟨S4096x1x32, .f32⟩
  | 90 => ⟨S4096x32, .f32⟩
  | 91 => ⟨S4096x1x32, .f32⟩
  | 92 => ⟨S4x4096x8x32, .f32⟩
  | 93 => ⟨S4x4096x8x32, .f32⟩
  | 94 => ⟨S1x4096x1x32, .f32⟩
  | 95 => ⟨S4x4096x8x32, .f32⟩
  | 96 => ⟨S4x4096x8x32, .f32⟩
  | 97 => ⟨S1x4096x1x32, .f32⟩
  | 98 => ⟨S4x4096x8x32, .f32⟩
  | 99 => ⟨S4x4096x8x32, .f32⟩
  | 100 => ⟨S4x4096x8x32, .f32⟩
  | 101 => ⟨S1x4096x1x32, .f32⟩
  | 102 => ⟨S4x4096x8x32, .f32⟩
  | 103 => ⟨S4x4096x8x32, .f32⟩
  | 104 => ⟨S1x4096x1x32, .f32⟩
  | 105 => ⟨S4x4096x8x32, .f32⟩
  | 106 => ⟨S4x4096x8x32, .f32⟩
  | 107 => ⟨S4x4096x8x32, .f32⟩
  | 108 => ⟨S4x4096x8x64, .f32⟩
  | 109 => ⟨S4x4096x2x64, .f32⟩
  | 110 => ⟨S1x64, .f32⟩
  | 111 => ⟨S64, .f32⟩
  | 112 => ⟨S4x4096x2x64, .f32⟩
  | 113 => ⟨S_, .f32⟩
  | 114 => ⟨S4x4096x2, .f32⟩
  | 115 => ⟨S4x4096x2x1, .f32⟩
  | 116 => ⟨S_, .f32⟩
  | 117 => ⟨S4x4096x2x1, .f32⟩
  | 118 => ⟨S4x4096x2x1, .f32⟩
  | 119 => ⟨S_, .f32⟩
  | 120 => ⟨S4x4096x2x1, .f32⟩
  | 121 => ⟨S4x4096x2x1, .f32⟩
  | 122 => ⟨S4x4096x2x1, .f32⟩
  | 123 => ⟨S4x4096x2x64, .f32⟩
  | 124 => ⟨S4x4096x2x64, .f32⟩
  | 125 => ⟨S1x1x1x64, .f32⟩
  | 126 => ⟨S4x4096x2x64, .f32⟩
  | 127 => ⟨S4x4096x2x64, .f32⟩
  | _ => ⟨S4x4096x1024, .f32⟩

abbrev hbmTy0_1 (i : Nat) : BufTy := match i % 128 with
  | 0 => ⟨S32, .f32⟩
  | 1 => ⟨S_, .f32⟩
  | 2 => ⟨S32, .f32⟩
  | 3 => ⟨S32, .f32⟩
  | 4 => ⟨S_, .f32⟩
  | 5 => ⟨S32, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S4096, .f32⟩
  | 15 => ⟨S4096x1, .f32⟩
  | 16 => ⟨S1x32, .f32⟩
  | 17 => ⟨S4096x32, .f32⟩
  | 18 => ⟨S4096x32, .f32⟩
  | 19 => ⟨S4096x32, .f32⟩
  | 20 => ⟨S4096x32, .f32⟩
  | 21 => ⟨S4096x1x32, .f32⟩
  | 22 => ⟨S4096x32, .f32⟩
  | 23 => ⟨S4096x1x32, .f32⟩
  | 24 => ⟨S4x4096x2x32, .f32⟩
  | 25 => ⟨S4x4096x2x32, .f32⟩
  | 26 => ⟨S1x4096x1x32, .f32⟩
  | 27 => ⟨S4x4096x2x32, .f32⟩
  | 28 => ⟨S4x4096x2x32, .f32⟩
  | 29 => ⟨S1x4096x1x32, .f32⟩
  | 30 => ⟨S4x4096x2x32, .f32⟩
  | 31 => ⟨S4x4096x2x32, .f32⟩
  | 32 => ⟨S4x4096x2x32, .f32⟩
  | 33 => ⟨S1x4096x1x32, .f32⟩
  | 34 => ⟨S4x4096x2x32, .f32⟩
  | 35 => ⟨S4x4096x2x32, .f32⟩
  | 36 => ⟨S1x4096x1x32, .f32⟩
  | 37 => ⟨S4x4096x2x32, .f32⟩
  | 38 => ⟨S4x4096x2x32, .f32⟩
  | 39 => ⟨S4x4096x2x32, .f32⟩
  | 40 => ⟨S4x4096x2x64, .f32⟩
  | 41 => ⟨S4x4096x4x64, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S4096, .f32⟩
  | 57 => ⟨S4096x1, .f32⟩
  | 58 => ⟨S1x32, .f32⟩
  | 59 => ⟨S4096x32, .f32⟩
  | 60 => ⟨S4096x32, .f32⟩
  | 61 => ⟨S4096x32, .f32⟩
  | 62 => ⟨S4096x32, .f32⟩
  | 63 => ⟨S4096x1x32, .f32⟩
  | 64 => ⟨S4096x32, .f32⟩
  | 65 => ⟨S4096x1x32, .f32⟩
  | 66 => ⟨S4x4096x4x32, .f32⟩
  | 67 => ⟨S4x4096x4x32, .f32⟩
  | 68 => ⟨S1x4096x1x32, .f32⟩
  | 69 => ⟨S4x4096x4x32, .f32⟩
  | 70 => ⟨S4x4096x4x32, .f32⟩
  | 71 => ⟨S1x4096x1x32, .f32⟩
  | 72 => ⟨S4x4096x4x32, .f32⟩
  | 73 => ⟨S4x4096x4x32, .f32⟩
  | 74 => ⟨S4x4096x4x32, .f32⟩
  | 75 => ⟨S1x4096x1x32, .f32⟩
  | 76 => ⟨S4x4096x4x32, .f32⟩
  | 77 => ⟨S4x4096x4x32, .f32⟩
  | 78 => ⟨S1x4096x1x32, .f32⟩
  | 79 => ⟨S4x4096x4x32, .f32⟩
  | 80 => ⟨S4x4096x4x32, .f32⟩
  | 81 => ⟨S4x4096x4x32, .f32⟩
  | 82 => ⟨S4x4096x4x64, .f32⟩
  | 83 => ⟨S4x4096x1x64, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S32, .f32⟩
  | 92 => ⟨S_, .f32⟩
  | 93 => ⟨S32, .f32⟩
  | 94 => ⟨S32, .f32⟩
  | 95 => ⟨S_, .f32⟩
  | 96 => ⟨S32, .f32⟩
  | 97 => ⟨S32, .f32⟩
  | 98 => ⟨S4096, .f32⟩
  | 99 => ⟨S4096x1, .f32⟩
  | 100 => ⟨S1x32, .f32⟩
  | 101 => ⟨S4096x32, .f32⟩
  | 102 => ⟨S4096x32, .f32⟩
  | 103 => ⟨S4096x32, .f32⟩
  | 104 => ⟨S4096x32, .f32⟩
  | 105 => ⟨S4096x1x32, .f32⟩
  | 106 => ⟨S4096x32, .f32⟩
  | 107 => ⟨S4096x1x32, .f32⟩
  | 108 => ⟨S4x4096x1x32, .f32⟩
  | 109 => ⟨S4x4096x1x32, .f32⟩
  | 110 => ⟨S1x4096x1x32, .f32⟩
  | 111 => ⟨S4x4096x1x32, .f32⟩
  | 112 => ⟨S4x4096x1x32, .f32⟩
  | 113 => ⟨S1x4096x1x32, .f32⟩
  | 114 => ⟨S4x4096x1x32, .f32⟩
  | 115 => ⟨S4x4096x1x32, .f32⟩
  | 116 => ⟨S4x4096x1x32, .f32⟩
  | 117 => ⟨S1x4096x1x32, .f32⟩
  | 118 => ⟨S4x4096x1x32, .f32⟩
  | 119 => ⟨S4x4096x1x32, .f32⟩
  | 120 => ⟨S1x4096x1x32, .f32⟩
  | 121 => ⟨S4x4096x1x32, .f32⟩
  | 122 => ⟨S4x4096x1x32, .f32⟩
  | 123 => ⟨S4x4096x1x32, .f32⟩
  | 124 => ⟨S4x4096x1x64, .f32⟩
  | 125 => ⟨S4x4096x64, .f32⟩
  | 126 => ⟨S_, .f32⟩
  | 127 => ⟨S4x4096x4, .f32⟩
  | _ => ⟨S4x4096x1024, .f32⟩

abbrev hbmTy0_2 (i : Nat) : BufTy := match i % 128 with
  | 0 => ⟨S4x4096x4, .f32⟩
  | 1 => ⟨S16384x512, .f32⟩
  | 2 => ⟨S_, .f32⟩
  | 3 => ⟨S16384x512, .f32⟩
  | 4 => ⟨S16384x512, .f32⟩
  | 5 => ⟨S16384x512, .bf16⟩
  | 6 => ⟨S16384x256, .f32⟩
  | 7 => ⟨S_, .f32⟩
  | 8 => ⟨S16384x256, .f32⟩
  | 9 => ⟨S16384x256, .f32⟩
  | 10 => ⟨S16384x256, .bf16⟩
  | 11 => ⟨S16384x4, .f32⟩
  | 12 => ⟨S_, .i32⟩
  | 13 => ⟨S_, .f32⟩
  | 14 => ⟨S16384x8, .f32⟩
  | 15 => ⟨S16384x512, .f32⟩
  | 16 => ⟨S_, .f32⟩
  | 17 => ⟨S16384x512, .f32⟩
  | 18 => ⟨S16384x512, .f32⟩
  | 19 => ⟨S16384x512, .bf16⟩
  | 20 => ⟨S4x4096x2048, .f32⟩
  | 21 => ⟨S4x4096x2048, .f32⟩
  | 22 => ⟨S_, .f32⟩
  | 23 => ⟨S4x4096x2048, .f32⟩
  | 24 => ⟨S4x4096x2048, .f32⟩
  | 25 => ⟨S_, .f32⟩
  | 26 => ⟨S4x4096x2048, .f32⟩
  | 27 => ⟨S4x4096x2048, .f32⟩
  | 28 => ⟨S16384x2048, .f32⟩
  | 29 => ⟨S4x4096x128, .f32⟩
  | 30 => ⟨S4x128x4096, .f32⟩
  | 31 => ⟨S4x128x4096, .f32⟩
  | 32 => ⟨S4x64x4096, .f32⟩
  | 33 => ⟨S4x512x4096, .f32⟩
  | 34 => ⟨S4x512x4096, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_10 : Ref sig .tc := ⟨.hbm, 113, rfl⟩
abbrev main_v96 : Ref sig .tc := ⟨.hbm, 114, rfl⟩
abbrev main_v97 : Ref sig .tc := ⟨.hbm, 115, rfl⟩
abbrev main_cst_11 : Ref sig .tc := ⟨.hbm, 116, rfl⟩
abbrev main_v98 : Ref sig .tc := ⟨.hbm, 117, rfl⟩
abbrev main_v99 : Ref sig .tc := ⟨.hbm, 118, rfl⟩
abbrev main_cst_12 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_cst_13 : Ref sig .tc := ⟨.hbm, 129, rfl⟩
abbrev main_v109 : Ref sig .tc := ⟨.hbm, 130, rfl⟩
abbrev main_v110 : Ref sig .tc := ⟨.hbm, 131, rfl⟩
abbrev main_cst_14 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_15 : Ref sig .tc := ⟨.hbm, 136, rfl⟩
abbrev main_v114 : Ref sig .tc := ⟨.hbm, 137, rfl⟩
abbrev main_v115 : Ref sig .tc := ⟨.hbm, 138, rfl⟩
abbrev main_cst_16 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_cst_17 : Ref sig .tc := ⟨.hbm, 171, rfl⟩
abbrev main_v147 : Ref sig .tc := ⟨.hbm, 172, rfl⟩
abbrev main_v148 : Ref sig .tc := ⟨.hbm, 173, rfl⟩
abbrev main_cst_18 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_cst_19 : Ref sig .tc := ⟨.hbm, 178, rfl⟩
abbrev main_v152 : Ref sig .tc := ⟨.hbm, 179, rfl⟩
abbrev main_v153 : Ref sig .tc := ⟨.hbm, 180, rfl⟩
abbrev main_cst_20 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_cst_21 : Ref sig .tc := ⟨.hbm, 213, rfl⟩
abbrev main_v185 : Ref sig .tc := ⟨.hbm, 214, rfl⟩
abbrev main_v186 : Ref sig .tc := ⟨.hbm, 215, rfl⟩
abbrev main_cst_22 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_cst_23 : Ref sig .tc := ⟨.hbm, 220, rfl⟩
abbrev main_v190 : Ref sig .tc := ⟨.hbm, 221, rfl⟩
abbrev main_v191 : Ref sig .tc := ⟨.hbm, 222, rfl⟩
abbrev main_cst_24 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_cst_25 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_cst_26 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_cst_27 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_c : Ref sig .tc := ⟨.hbm, 268, rfl⟩
abbrev main_call0_v0 : Ref sig .tc := ⟨.hbm, 269, rfl⟩
abbrev main_v233 : Ref sig .tc := ⟨.hbm, 270, rfl⟩
abbrev main_v234 : Ref sig .tc := ⟨.hbm, 271, rfl⟩
abbrev main_cst_28 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_cst_29 : Ref sig .tc := ⟨.hbm, 278, rfl⟩
abbrev main_v240 : Ref sig .tc := ⟨.hbm, 279, rfl⟩
abbrev main_v241 : Ref sig .tc := ⟨.hbm, 280, rfl⟩
abbrev main_cst_30 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩

abbrev nD : Nat := 1
abbrev τ : Topo := Topo.v7x

variable {F : FTy → Type} [FloatOps F]
-- ==== Proof.StickIdealLoop.lean ====
/-
  The stick-breaking kernel's loop over the earlier key blocks. `Cert.StickIdeal`'s body stores the row sums of the logarithms
  (`r`) and the accumulated output (`acc`) in two scratch buffers and, after the diagonal block, calls the loop's label,
  which takes one more key block a trip while a counter is below the query block's number and the flag computed from `r`
  is set. Here: the loop's state as a function of the trips left (`loopTo`), and the label's specification met by its body
  by induction on the trips left.
-/
module

public import proofs.«01_k».proof.Proof.Gen.StickIdeal.Launch
public import proofs.«01_k».proof.Proof.Gen.StickIdeal.Skeleton
public import proofs.«01_k».proof.Proof.Gen.StickIdeal.Points
public import Idealize.ShloMosaic.Lib.Pipeline.FrameBody
public import Idealize.ShloMosaic.Lib.Pipeline.ValueKit
public import Idealize.ShloMosaic.Lib.Pointwise
public import Idealize.ShloMosaic.Lib.Ring
public import Idealize.ShloMosaic.Lib.Tactic
public import Idealize.ShloMosaic.Lib.WordCmp

@[expose] public section

set_option maxRecDepth 16384

noncomputable section

namespace Cert.Proof.StickIdeal

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The calls' variants: the naturals, the trips left. -/
abbrev 𝒱₀ : Variants := Variants.nat

theorem hz2 : (![0, 0] : Fin 2 → Nat) = fun _ => 0 := funext fun a => by fin_cases a <;> rfl

/-- A store of a whole buffer, the last of several, read back whole; -/
theorem read_whole {S : Shape} {κ : Kind} {sp : Space} {e : EltTy} (v : View sig κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩), View.canon_cons_unit_zero h]

/-- and loaded whole. -/
theorem readCov_whole {S : Shape} {κ : Kind} {sp : Space} {e : EltTy} (v : View sig κ sp S e) {off : Fin S.rank → Nat}
    (h : off = fun _ => 0) (inb : ∀ a, off a + S.size a ≤ S.size a) (w : S.Idx → Elt F e) (L : List (View.Piece (Elt F) S e)) :
    v.readCov (⟨Rect.unit off S.size inb, w⟩ :: L) (Rect.unit off S.size inb).toLoadRect = w := by
  rw [View.readCov_eq_canon_ld _ _ _ (fun y => ⟨_, List.mem_cons_self, View.mem_set_unit_zero h inb y⟩), View.canon_cons_unit_zero h,
    View.ld_unit_zero h]

/-! ## The state -/

/-- Key block `k` of the keys' block (the keys transposed: feature, key). -/
def kblk (x1 : Vec F S1x16x128x256 .bf16) (k : ℕ) : Vec F S1x1x128x256 .bf16 :=
  fun y => x1 (Idealize.ShloMosaic.ix4 (0 : Fin 1) (Fin.ofNat 16 k) (y 2 : Fin 128) (y 3 : Fin 256))

/-- The values of key block `k`. -/
def vblk (x2 : Vec F S4096x128 .bf16) (k : ℕ) : Vec F S256x128 .bf16 :=
  fun y => x2 (Idealize.ShloMosaic.ix2 (Fin.ofNat 4096 (256 * k + (y 0 : Fin 256).val)) (y 1 : Fin 128))

/-- The row sums after key block `k`, from those before it. -/
def stepR (q : FVec F S512x128 .bf16) (x1 : Vec F S1x16x128x256 .bf16) (k : ℕ) (r : Vec F S512x1 .f32) : Vec F S512x1 .f32 :=
  k0_pay6 (k0_pay19 q (kblk x1 k)) r

/-- The accumulated output after key block `k`. -/
def stepA (q : FVec F S512x128 .bf16) (tri : Vec F S256x256 .bf16) (x1 : Vec F S1x16x128x256 .bf16) (x2 : Vec F S4096x128 .bf16) (k : ℕ)
    (r : Vec F S512x1 .f32) (a : Vec F S512x128 .f32) : Vec F S512x128 .f32 :=
  k0_pay5 (k0_pay20 q tri (kblk x1 k) r a (vblk x2 k))

/-- The flag the loop tests: some row's sum is not below the cut-off. -/
def flag (r : Vec F S512x1 .f32) : BitVec 32 :=
  Scalar.select (Scalar.cmpf .oge (k0_pay7 r) (Named.named κ "cutoff" 0xC2F00000#32)) 1#32 0#32

/-- The two scratch buffers when the loop ends, `n` trips at most to run (the key blocks `n - 1` down to 0), from flag `l`. -/
def loopTo (q : FVec F S512x128 .bf16) (tri : Vec F S256x256 .bf16) (x1 : Vec F S1x16x128x256 .bf16) (x2 : Vec F S4096x128 .bf16) :
    ℕ → BitVec 32 → Vec F S512x1 .f32 → Vec F S512x128 .f32 → Vec F S512x1 .f32 × Vec F S512x128 .f32
  | 0, _, r, a => (r, a)
  | n + 1, l, r, a =>
    if Scalar.cmpi .sgt l 0#32 = 1#1 then
      loopTo q tri x1 x2 n (flag (stepR q x1 n r)) (stepR q x1 n r) (stepA q tri x1 x2 n r a)
    else (r, a)

/-! ## The words -/

/-- The while's test: trips left and the flag set. -/
theorem test_iff (n i : ℕ) (hi : i < 16) (hn : n ≤ i) (l : BitVec 32) :
    Scalar.andi (Scalar.cmpi .slt (BitVec.ofNat 32 (i - n)) (BitVec.ofNat 32 i)) (Scalar.cmpi .sgt l 0#32) = 1#1
      ↔ 0 < n ∧ Scalar.cmpi .sgt l 0#32 = 1#1 := by
  have h : ∀ n i : Fin 16, n.val ≤ i.val → (Scalar.cmpi .slt (BitVec.ofNat 32 (i.val - n.val)) (BitVec.ofNat 32 i.val) = 1#1 ↔ 0 < n.val) := by
    decide +kernel
  have h2 : ∀ a b : BitVec 1, Scalar.andi a b = 1#1 ↔ a = 1#1 ∧ b = 1#1 := by decide +kernel
  rw [h2, h ⟨n, by omega⟩ ⟨i, hi⟩ hn]

theorem counter_succ (n i : ℕ) (hn : n + 1 ≤ i) (hi : i < 16) :
    Scalar.addi (BitVec.ofNat 32 (i - (n + 1))) 1#32 = BitVec.ofNat 32 (i - n) := by
  have h : ∀ n i : Fin 16, n.val + 1 ≤ i.val → Scalar.addi (BitVec.ofNat 32 (i.val - (n.val + 1))) 1#32 = BitVec.ofNat 32 (i.val - n.val) := by
    decide +kernel
  exact h ⟨n, by omega⟩ ⟨i, hi⟩ hn

theorem off3_eq (i : grid0.Coords) (n : ℕ) (hn : n + 1 ≤ (i 2).val) :
    k0_off3 i (BitVec.ofNat 32 ((i 2).val - (n + 1))) = ![0, n, 0, 0] := by
  have hi : (i 2).val < 16 := (i 2).isLt
  have h : ∀ n i : Fin 16, n.val + 1 ≤ i.val →
      (Scalar.indexCast (Scalar.subi (Scalar.subi (BitVec.ofNat 32 i.val) 1#32) (BitVec.ofNat 32 (i.val - (n.val + 1))))).toNat = n.val := by
    decide +kernel
  unfold k0_off3
  dsimp only
  rw [h ⟨n, by omega⟩ ⟨_, hi⟩ hn]

theorem off4_eq (i : grid0.Coords) (n : ℕ) (hn : n + 1 ≤ (i 2).val) :
    k0_off4 i (BitVec.ofNat 32 ((i 2).val - (n + 1))) = ![256 * n, 0] := by
  have hi : (i 2).val < 16 := (i 2).isLt
  have h : ∀ n i : Fin 16, n.val + 1 ≤ i.val →
      (Scalar.indexCast (Scalar.muli (Scalar.subi (Scalar.subi (BitVec.ofNat 32 i.val) 1#32) (BitVec.ofNat 32 (i.val - (n.val + 1)))) 256#32)).toNat
        = 256 * n.val := by
    decide +kernel
  unfold k0_off4
  dsimp only
  rw [h ⟨n, by omega⟩ ⟨_, hi⟩ hn]

theorem chk (i : grid0.Coords) (n : ℕ) (hn : n + 1 ≤ (i 2).val) : k0_chk1 i (BitVec.ofNat 32 ((i 2).val - (n + 1))) := by
  have hi : (i 2).val < 16 := (i 2).isLt
  have h : ∀ n i : Fin 16, n.val + 1 ≤ i.val →
      (Scalar.muli (Scalar.subi (Scalar.subi (BitVec.ofNat 32 i.val) 1#32) (BitVec.ofNat 32 (i.val - (n.val + 1)))) 256#32).toNat
        = 256 * n.val := by
    decide +kernel
  refine ⟨⟨n, ?_⟩, ?_, ?_⟩
  · unfold k0_mult2
    exact h ⟨n, by omega⟩ ⟨_, hi⟩ hn
  · rw [off3_eq i n hn]
    intro a
    match a with
    | ⟨0, _⟩ => show 0 + 1 ≤ 1; omega
    | ⟨1, _⟩ => show n + 1 ≤ 16; omega
    | ⟨2, _⟩ => show 0 + 128 ≤ 128; omega
    | ⟨3, _⟩ => show 0 + 256 ≤ 256; omega
  · rw [off4_eq i n hn]
    intro a
    match a with
    | ⟨0, _⟩ => show 256 * n + 256 ≤ 4096; omega
    | ⟨1, _⟩ => show 0 + 128 ≤ 128; omega

/-! ## The label's specification -/

section Label

variable (c : Dev nD) (i : grid0.Coords) (arg4 : Memref sig .tc .vmem S1x16x128x256 .bf16) (harg4 : arg4.IsWhole)
  (q : FVec F S512x128 .bf16) (tri : Vec F S256x256 .bf16) (arg8 : Memref sig .tc .vmem S512x1 .f32) (harg8 : arg8.IsWhole)
  (arg9 : Memref sig .tc .vmem S512x128 .f32) (harg9 : arg9.IsWhole) (arg5 : Memref sig .tc .vmem S4096x128 .bf16) (harg5 : arg5.IsWhole)
  (x1 : Vec F S1x16x128x256 .bf16) (x2 : Vec F S4096x128 .bf16)

/-- What the loop holds: the keys' and the values' buffers, the row sums and the accumulated output. -/
def held (s : Vec F S512x1 .f32 × Vec F S512x128 .f32) : sProp 𝕄 :=
  iprop(owns (c : Thread nD τ) arg4 fullShare x1 ∗ owns (c : Thread nD τ) arg5 fullShare x2
    ∗ owns (c : Thread nD τ) arg8 fullShare s.1 ∗ owns (c : Thread nD τ) arg9 fullShare s.2)

/-- The label's specification, at most `n` trips to run: from the scratch buffers at `r`, `a` to the loop's final state. -/
def spec (n : ℕ) (l : BitVec 32) (r : Vec F S512x1 .f32) (a : Vec F S512x128 .f32) : sWPT 𝕄 (BitVec 32 × BitVec 32) := do
  sWPT.consume (held c arg4 arg8 arg9 arg5 x1 x2 (r, a))
  let res ← sWPT.arbitrary
  sWPT.produce (held c arg4 arg8 arg9 arg5 x1 x2 (loopTo q tri x1 x2 n l r a))
  pure res

theorem spec_apply (n : ℕ) (l : BitVec 32) (r : Vec F S512x1 .f32) (a : Vec F S512x128 .f32) (K : BitVec 32 × BitVec 32 → sProp 𝕄) :
    spec c arg4 q tri arg8 arg9 arg5 x1 x2 n l r a K
      = iprop(held c arg4 arg8 arg9 arg5 x1 x2 (r, a)
          ∗ ∀ res : BitVec 32 × BitVec 32, (held c arg4 arg8 arg9 arg5 x1 x2 (loopTo q tri x1 x2 n l r a) -∗ K res)) := rfl

set_option maxHeartbeats 400000 in
theorem spec_le (E : Set ℕ) : ∀ n, n ≤ (i 2).val → ∀ l r a K, spec c arg4 q tri arg8 arg9 arg5 x1 x2 n l r a K
    ⊢ wp frame (wpE (defs₀ (F := F)) 𝒱₀ (c : Thread nD τ) (some n)) E
        (defs₀ (F := F) .tc 1 ⟨i, arg4, harg4, q, tri, arg8, harg8, arg9, harg9, arg5, harg5, BitVec.ofNat 32 ((i 2).val - n), l⟩) K := by
  have hi : (i 2).val < 16 := (i 2).isLt
  intro n
  induction n with
  | zero =>
    intro hn l r a K
    rw [spec_apply]
    show _ ⊢ wp frame (wpE (defs₀ (F := F)) 𝒱₀ (c : Thread nD τ) (some 0)) E
      (cc0_while1 i arg4 harg4 q tri arg8 harg8 arg9 harg9 arg5 harg5 (BitVec.ofNat 32 ((i 2).val - 0)) l) K
    simp only [cc0_while1_eq_skeleton]; unfold cc0_while1_skel
    have ht := (test_iff 0 (i 2).val hi hn l)
    simp only [ht, lt_irrefl, false_and, ↓reduceIte, Prog.pure_eq_ret]
    iintro ⟨H, Hk⟩
    rw [wp_ret]; imodintro
    iapply Hk
    simp only [loopTo]; iexact H
  | succ n ih =>
    intro hn l r a K
    rw [spec_apply]
    show _ ⊢ wp frame (wpE (defs₀ (F := F)) 𝒱₀ (c : Thread nD τ) (some (n + 1))) E
      (cc0_while1 i arg4 harg4 q tri arg8 harg8 arg9 harg9 arg5 harg5 (BitVec.ofNat 32 ((i 2).val - (n + 1))) l) K
    simp only [cc0_while1_eq_skeleton]; unfold cc0_while1_skel
    have ht := (test_iff (n + 1) (i 2).val hi hn l)
    by_cases hl : Scalar.cmpi .sgt l 0#32 = 1#1
    · have hT := ht.mpr ⟨Nat.succ_pos n, hl⟩
      simp only [hT, ↓reduceIte]
      simp only [k0_part3_eq_skeleton]
      unfold held owns
      iintro ⟨⟨⟨%f4, %hf4, H4⟩, ⟨%f5, %hf5, H5⟩, ⟨%f8, %hf8, H8⟩, ⟨%f9, %hf9, H9⟩⟩, Hk⟩
      obtain rfl := harg4.eq_unread hf4; obtain rfl := harg5.eq_unread hf5
      obtain rfl := harg8.eq_unread hf8; obtain rfl := harg9.eq_unread hf9
      sl_exec (disch := first | sl_exact (chk i n hn))
      have e4 : View.readAt (Elt F) arg4.view (Rect.unit (s := S1x16x128x256) (k0_off3 i (BitVec.ofNat 32 ((i 2).val - (n + 1)))) S1x1x128x256.size (chk i n hn).2.1).toLoadRect
          (harg4.unread x1) = kblk x1 n := by
        rw [View.readAt_eq_ld, harg4.read_unread]
        exact funext fun y => View.ld_unit_apply_of x1 _ _ _ y _ fun a => by
          rw [congrFun (off3_eq i n hn) a]
          match a with
          | ⟨0, _⟩ => exact (Nat.lt_one_iff.mp (y 0).isLt).symm ▸ rfl
          | ⟨1, _⟩ =>
            have h1 : (y 1).val = 0 := Nat.lt_one_iff.mp (y 1).isLt
            show n % 16 = n + (y 1).val
            omega
          | ⟨2, _⟩ => exact (Nat.zero_add _).symm
          | ⟨3, _⟩ => exact (Nat.zero_add _).symm
      have e5 : View.readAt (Elt F) arg5.view (Rect.unit (s := S4096x128) (k0_off4 i (BitVec.ofNat 32 ((i 2).val - (n + 1)))) S256x128.size (chk i n hn).2.2).toLoadRect
          (harg5.unread x2) = vblk x2 n := by
        rw [View.readAt_eq_ld, harg5.read_unread]
        exact funext fun y => View.ld_unit_apply_of x2 _ _ _ y _ fun a => by
          rw [congrFun (off4_eq i n hn) a]
          match a with
          | ⟨0, _⟩ =>
            have h1 : (y 0).val < 256 := (y 0).isLt
            show (256 * n + (y 0).val) % 4096 = 256 * n + (y 0).val
            omega
          | ⟨1, _⟩ => exact (Nat.zero_add _).symm
      rw [counter_succ n _ hn hi]
      sl_unfold_words
      unfold k0_off3 at e4
      unfold k0_off4 at e5
      simp only [e4, e5, View.readAt_eq_ld, harg8.read_unread, harg9.read_unread, View.ld_unit_zero (S := S512x1) hz2,
        View.ld_unit_zero (S := S512x128) hz2, View.readCov_unit_zero (S := S512x1) _ hz2]
      have hR : k0_pay6 (k0_pay19 q (kblk x1 n)) r = stepR q x1 n r := rfl
      have hA : k0_pay5 (k0_pay20 q tri (kblk x1 n) r a (vblk x2 n)) = stepA q tri x1 x2 n r a := rfl
      have hF : Scalar.select (Scalar.cmpf .oge (k0_pay7 (stepR q x1 n r)) (Named.named κ "cutoff" 0xC2F00000#32)) 1#32 0#32 = flag (stepR q x1 n r) := rfl
      simp only [hR, hA, hF]
      have hloop : loopTo q tri x1 x2 (n + 1) l r a
          = loopTo q tri x1 x2 n (flag (stepR q x1 n r)) (stepR q x1 n r) (stepA q tri x1 x2 n r a) := by
        simp only [loopTo, hl, ↓reduceIte]
      rw [hloop]
      clear hR hA hF hloop e4 e5
      generalize flag (stepR q x1 n r) = l'
      generalize stepR q x1 n r = r'
      generalize stepA q tri x1 x2 n r a = a'
      iapply (wp_call_spec 𝒱₀ (c : Thread nD τ) (some (n + 1)) E
        (spec c arg4 q tri arg8 arg9 arg5 x1 x2 n l' r' a') n
        (fun u hu => by cases hu; exact Nat.lt_succ_self n)
        (ih (by omega) l' r' a'))
      rw [spec_apply]
      unfold held owns
      isplitl [H4 H5 H8 H9]
      · isplitl [H4]
        · iexists _; isplitr; swap; iexact H4; ipureintro; exact hf4
        isplitl [H5]
        · iexists _; isplitr; swap; iexact H5; ipureintro; exact hf5
        isplitl [H8]
        · iexists _; isplitr; swap; iexact H8; ipureintro
          exact read_whole (S := S512x1) _ _ hz2 _ _ _
        · iexists _; isplitr; swap; iexact H9; ipureintro
          exact read_whole (S := S512x128) _ _ hz2 _ _ _
      · iintro %res H
        rw [wp_ret]; imodintro
        iapply Hk
        iexact H
    · have hT := mt ht.mp (fun h => hl h.2)
      simp only [hT, ↓reduceIte, Prog.pure_eq_ret]
      iintro ⟨H, Hk⟩
      rw [wp_ret]; imodintro
      iapply Hk
      simp only [loopTo, hl, ↓reduceIte]; iexact H

end Label

end Cert.Proof.StickIdeal

end
-- ==== Proof.StickIdealBody.lean ====
/-
  One grid point of the stick-breaking kernel (`Cert.StickIdeal`): the diagonal key block, then the loop over the earlier ones
  (the label's specification of `StickIdealLoop.lean`), then the output block from the accumulated output's two halves. The
  point's output block is a function `outBlk` of the four staged blocks and of the query block's number.
-/
module

public import proofs.«01_k».proof.Proof.StickIdealLoop

@[expose] public section

set_option maxRecDepth 16384

noncomputable section

namespace Cert.Proof.StickIdeal

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The row sums after the diagonal block, key block `k`. -/
def diagR (k : ℕ) (x0 : Vec F S256x128 .bf16) (x1 : Vec F S1x16x128x256 .bf16) : Vec F S512x1 .f32 :=
  k0_pay2 (k0_pay15 (k0_pay8 x0) (k0_pay11 (kblk x1 k)) (constant S512x256 .f32 0x00000000#32)) k0_pay9

/-- The accumulated output after the diagonal block. -/
def diagA (k : ℕ) (x0 : Vec F S256x128 .bf16) (x1 : Vec F S1x16x128x256 .bf16) (x2 : Vec F S4096x128 .bf16) (x3 : Vec F S256x256 .bf16) :
    Vec F S512x128 .f32 :=
  k0_pay1 (k0_pay16 (k0_pay8 x0) x3 (k0_pay11 (kblk x1 k)) (constant S512x256 .f32 0x00000000#32) k0_pay9 k0_pay10 (vblk x2 k))

/-- The scratch buffers at the end of the loop. -/
def endState (k : ℕ) (x0 : Vec F S256x128 .bf16) (x1 : Vec F S1x16x128x256 .bf16) (x2 : Vec F S4096x128 .bf16) (x3 : Vec F S256x256 .bf16) :
    Vec F S512x1 .f32 × Vec F S512x128 .f32 :=
  loopTo (k0_pay8 x0) x3 x1 x2 k (flag (diagR k x0 x1)) (diagR k x0 x1) (diagA k x0 x1 x2 x3)

/-- The output block: the two heads' halves of the accumulated output side by side. -/
def joinHeads (a : Vec F S512x128 .f32) : Vec F S256x128 .bf16 :=
  k0_pay4 (View.ld a (Rect.unit (s := S512x128) ![0, 0] S256x128.size inb_S512x128_S256x128_0_0))
    (View.ld a (Rect.unit (s := S512x128) ![256, 0] S256x128.size inb_S512x128_S256x128_256_0))

/-- What the point of query block `k` writes. -/
def outBlk (k : ℕ) (x0 : Vec F S256x128 .bf16) (x1 : Vec F S1x16x128x256 .bf16) (x2 : Vec F S4096x128 .bf16) (x3 : Vec F S256x256 .bf16) :
    Vec F S256x128 .bf16 :=
  joinHeads (endState k x0 x1 x2 x3).2

set_option maxHeartbeats 1000000 in
/-- The body's triple on any staging buffers and scratch: the inputs stay, the output holds `outBlk`. -/
theorem body_run (c : Dev nD) (i : grid0.Coords) (arg3 : Memref sig .tc .vmem S256x128 .bf16) (harg3 : arg3.IsWhole)
    (arg4 : Memref sig .tc .vmem S1x16x128x256 .bf16) (harg4 : arg4.IsWhole) (arg5 : Memref sig .tc .vmem S4096x128 .bf16) (harg5 : arg5.IsWhole)
    (arg6 : Memref sig .tc .vmem S256x256 .bf16) (harg6 : arg6.IsWhole) (arg7 : Memref sig .tc .vmem S256x128 .bf16) (harg7 : arg7.IsWhole)
    (arg8 : Memref sig .tc .vmem S512x1 .f32) (harg8 : arg8.IsWhole) (arg9 : Memref sig .tc .vmem S512x128 .f32) (harg9 : arg9.IsWhole)
    (x0 : Vec F S256x128 .bf16) (x1 : Vec F S1x16x128x256 .bf16) (x2 : Vec F S4096x128 .bf16) (x3 : Vec F S256x256 .bf16)
    (d4 : Vec F S256x128 .bf16) (d8 : Vec F S512x1 .f32) (d9 : Vec F S512x128 .f32) (K : PUnit → sProp 𝕄) :
    iprop(owns (c : Thread nD τ) arg3 fullShare x0 ∗ owns (c : Thread nD τ) arg4 fullShare x1 ∗ owns (c : Thread nD τ) arg5 fullShare x2
      ∗ owns (c : Thread nD τ) arg6 fullShare x3 ∗ owns (c : Thread nD τ) arg7 fullShare d4 ∗ owns (c : Thread nD τ) arg8 fullShare d8
      ∗ owns (c : Thread nD τ) arg9 fullShare d9
      ∗ ((owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare (outBlk (i 2).val x0 x1 x2 x3)
          ∗ (∃ e, owns (c : Thread nD τ) arg8 fullShare e) ∗ (∃ e, owns (c : Thread nD τ) arg9 fullShare e)) -∗ K ⟨⟩))
    ⊢ wp frame (wpE (defs₀ (F := F)) 𝒱₀ (c : Thread nD τ) none) Set.univ
        (cc0_mix_b_prompt i arg3 harg3 arg4 harg4 arg5 harg5 arg6 harg6 arg7 harg7 arg8 harg8 arg9 harg9) K := by
  have hi : (i 2).val < 16 := (i 2).isLt
  simp only [cc0_mix_b_prompt_eq_skeleton]; unfold cc0_mix_b_prompt_skel
  simp only [k0_part1_eq_skeleton, k0_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6; obtain rfl := harg7.eq_unread hf7
  obtain rfl := harg8.eq_unread hf8; obtain rfl := harg9.eq_unread hf9
  sl_exec
  have e4 : View.readAt (Elt F) arg4.view (Rect.unit (s := S1x16x128x256) (k0_off1 i) S1x1x128x256.size (k0_off1_inb i)).toLoadRect
      (harg4.unread x1) = kblk x1 (i 2).val := by
    rw [View.readAt_eq_ld, harg4.read_unread]
    exact funext fun y => View.ld_unit_apply_of x1 _ _ _ y _ fun a => by
      rw [congrFun (k0_off1_eq i) a]
      match a with
      | ⟨0, _⟩ => exact (Nat.lt_one_iff.mp (y 0).isLt).symm ▸ rfl
      | ⟨1, _⟩ =>
        have h1 : (y 1).val = 0 := Nat.lt_one_iff.mp (y 1).isLt
        show (i 2).val % 16 = (i 2).val + (y 1).val
        omega
      | ⟨2, _⟩ => exact (Nat.zero_add _).symm
      | ⟨3, _⟩ => exact (Nat.zero_add _).symm
  have e5 : View.readAt (Elt F) arg5.view (Rect.unit (s := S4096x128) (k0_off2 i) S256x128.size (k0_off2_inb i)).toLoadRect
      (harg5.unread x2) = vblk x2 (i 2).val := by
    rw [View.readAt_eq_ld, harg5.read_unread]
    exact funext fun y => View.ld_unit_apply_of x2 _ _ _ y _ fun a => by
      rw [congrFun (k0_off2_eq i) a]
      match a with
      | ⟨0, _⟩ =>
        have h1 : (y 0).val < 256 := (y 0).isLt
        show (256 * (i 2).val + (y 0).val) % 4096 = 256 * (i 2).val + (y 0).val
        omega
      | ⟨1, _⟩ => exact (Nat.zero_add _).symm
  sl_unfold_words
  unfold k0_off1 at e4
  unfold k0_off2 at e5
  simp only [e4, e5, View.readAt_eq_ld, harg3.read_unread, harg6.read_unread, View.ld_unit_zero (S := S256x128) hz2,
    View.ld_unit_zero (S := S256x256) hz2, readCov_whole (S := S512x1) _ hz2, readCov_whole (S := S512x128) _ hz2]
  clear e4 e5
  have hR : k0_pay2 (k0_pay15 (k0_pay8 x0) (k0_pay11 (kblk x1 (i 2).val)) (constant S512x256 .f32 0x00000000#32)) k0_pay9 = diagR (i 2).val x0 x1 := rfl
  have hA : k0_pay1 (k0_pay16 (k0_pay8 x0) x3 (k0_pay11 (kblk x1 (i 2).val)) (constant S512x256 .f32 0x00000000#32) k0_pay9 k0_pay10 (vblk x2 (i 2).val))
      = diagA (i 2).val x0 x1 x2 x3 := rfl
  have hF : Scalar.select (Scalar.cmpf .oge (k0_pay3 (diagR (i 2).val x0 x1)) (Named.named κ "cutoff" 0xC2F00000#32)) 1#32 0#32 = flag (diagR (i 2).val x0 x1) := rfl
  simp only [hR, hA, hF]
  clear hR hA hF
  have hE : outBlk (i 2).val x0 x1 x2 x3 = joinHeads (loopTo (k0_pay8 x0) x3 x1 x2 (i 2).val (flag (diagR (i 2).val x0 x1)) (diagR (i 2).val x0 x1)
      (diagA (i 2).val x0 x1 x2 x3)).2 := rfl
  rw [hE]
  clear hE
  generalize flag (diagR (i 2).val x0 x1) = l'
  generalize diagR (i 2).val x0 x1 = r'
  generalize diagA (i 2).val x0 x1 x2 x3 = a'
  have hS := spec_le c i arg4 harg4 (k0_pay8 x0) x3 arg8 harg8 arg9 harg9 arg5 harg5 x1 x2 Set.univ (i 2).val (le_refl _) l' r' a'
  rw [Nat.sub_self] at hS
  generalize k0_pay8 x0 = q' at hS ⊢
  iapply (wp_call_spec 𝒱₀ (c : Thread nD τ) none Set.univ (spec c arg4 q' x3 arg8 arg9 arg5 x1 x2 (i 2).val l' r' a') (i 2).val
    (fun u hu => nomatch hu) hS)
  rw [spec_apply]
  generalize loopTo q' x3 x1 x2 (i 2).val l' r' a' = fin'
  unfold held owns
  isplitl [H4 H5 H8 H9]
  · isplitl [H4]
    · iexists _; isplitr; swap; iexact H4; ipureintro; exact hf4
    isplitl [H5]
    · iexists _; isplitr; swap; iexact H5; ipureintro; exact hf5
    isplitl [H8]
    · iexists _; isplitr; swap; iexact H8; ipureintro
      exact read_whole (S := S512x1) _ _ hz2 _ _ _
    · iexists _; isplitr; swap; iexact H9; ipureintro
      exact read_whole (S := S512x128) _ _ hz2 _ _ _
  · iintro %res ⟨⟨%f4, %hf4, H4⟩, ⟨%f5, %hf5, H5⟩, ⟨%f8, %hf8, H8⟩, ⟨%f9, %hf9, H9⟩⟩
    obtain rfl := harg9.eq_unread hf9
    sl_exec
    sl_step
    iapply Hk
    isplitl [H3]
    · iexists _; isplitr; swap; iexact H3; ipureintro; exact hf3
    isplitl [H4]
    · iexists _; isplitr; swap; iexact H4; ipureintro; exact hf4
    isplitl [H5]
    · iexists _; isplitr; swap; iexact H5; ipureintro; exact hf5
    isplitl [H6]
    · iexists _; isplitr; swap; iexact H6; ipureintro; exact hf6
    isplitl [H7]
    · iexists _; isplitr; swap; iexact H7; ipureintro
      sl_unfold_words
      rw [read_whole (S := S256x128) _ _ hz2 _ _ _]
      simp only [View.readAt_eq_ld, harg9.read_unread]
      rfl
    isplitl [H8]
    · iexists _; iexists _; isplitr; swap; iexact H8; ipureintro; rfl
    · iexists _; iexists _; isplitr; swap; iexact H9; ipureintro; rfl

end Cert.Proof.StickIdeal

end
-- ==== Proof.StickIdealFrame.lean ====
/-
  The frame of the stick-breaking program `Cert.StickIdeal`: the host lines before the launch, the pipelined launch over the grid
  with the body's triple of `StickIdealBody.lean` at each point, and what the arrays hold when it ends.
-/
module

public import proofs.«01_k».proof.Proof.StickIdealBody

@[expose] public section

set_option maxRecDepth 16384

noncomputable section

namespace Cert.Proof.StickIdeal

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host lines before the launch -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, of its array as the host lines leave it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The output block of point `t`. -/
def pointOut (c : Dev nD) (t : Fin (cfg0 (F := F)).N) : Vec F S256x128 .bf16 :=
  outBlk (grid0.coords t 2).val (iblk m c 0 t) (iblk m c 1 t) (iblk m c 2 t) (iblk m c 3 t)

/-- The proof data: the arrays, what each buffer holds after a point, and an invariant that says nothing of the scratch. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => pointOut m c t
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; try rfl
theorem after0_1 (c : Dev nD) (t : Fin (cfg0 (F := F)).N) : (dats m 0 c).after 1 t = iblk m c 1 t := by dsimp only [dats]; try rfl
theorem after0_2 (c : Dev nD) (t : Fin (cfg0 (F := F)).N) : (dats m 0 c).after 2 t = iblk m c 2 t := by dsimp only [dats]; try rfl
theorem after0_3 (c : Dev nD) (t : Fin (cfg0 (F := F)).N) : (dats m 0 c).after 3 t = iblk m c 3 t := by dsimp only [dats]; try rfl
theorem after0_4 (c : Dev nD) (t : Fin (cfg0 (F := F)).N) : (dats m 0 c).after 4 t = pointOut m c t := by dsimp only [dats]; try rfl

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

theorem liveAt0_0 : ∀ t : Fin (cfg0 (F := F)).N, (cfg0 (F := F)).idle 0 (grid0.coords t) = false := fun _ => rfl
theorem liveAt0_1 : ∀ t : Fin (cfg0 (F := F)).N, (cfg0 (F := F)).idle 1 (grid0.coords t) = false := fun _ => rfl
theorem liveAt0_2 : ∀ t : Fin (cfg0 (F := F)).N, (cfg0 (F := F)).idle 2 (grid0.coords t) = false := fun _ => rfl
theorem liveAt0_3 : ∀ t : Fin (cfg0 (F := F)).N, (cfg0 (F := F)).idle 3 (grid0.coords t) = false := fun _ => rfl
theorem liveAt0_4 : ∀ t : Fin (cfg0 (F := F)).N, (cfg0 (F := F)).idle 4 (grid0.coords t) = false := fun _ => rfl

abbrev ms0_0 (t : Fin (cfg0 (F := F)).N) : Memref sig .tc .vmem S256x128 .bf16 := win0_0.stage ((cfg0 (F := F)).slots t 0)
abbrev ms0_1 (t : Fin (cfg0 (F := F)).N) : Memref sig .tc .vmem S1x16x128x256 .bf16 := win0_1.stage ((cfg0 (F := F)).slots t 1)
abbrev ms0_2 (t : Fin (cfg0 (F := F)).N) : Memref sig .tc .vmem S4096x128 .bf16 := win0_2.stage ((cfg0 (F := F)).slots t 2)
abbrev ms0_3 (t : Fin (cfg0 (F := F)).N) : Memref sig .tc .vmem S256x256 .bf16 := win0_3.stage ((cfg0 (F := F)).slots t 3)
abbrev ms0_4 (t : Fin (cfg0 (F := F)).N) : Memref sig .tc .vmem S256x128 .bf16 := win0_4.stage ((cfg0 (F := F)).slots t 4)
abbrev scM0 : Memref sig .tc .vmem S512x1 .f32 := Memref.whole cc0_scratch0
abbrev scM1 : Memref sig .tc .vmem S512x128 .f32 := Memref.whole cc0_scratch1

theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The body obligation -/

def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin (cfg0 (F := F)).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from (by
    unfold Dat.leavesExact; rw [liveAt0_0 t]; try rfl), after0_0]
  rw [show (dats m 0 c).leavesExact 1 t = owns (c : Thread nD τ) (ms0_1 t) fullShare ((dats m 0 c).after 1 t) from (by
    unfold Dat.leavesExact; rw [liveAt0_1 t]; try rfl), after0_1]
  rw [show (dats m 0 c).leavesExact 2 t = owns (c : Thread nD τ) (ms0_2 t) fullShare ((dats m 0 c).after 2 t) from (by
    unfold Dat.leavesExact; rw [liveAt0_2 t]; try rfl), after0_2]
  rw [show (dats m 0 c).leavesExact 3 t = owns (c : Thread nD τ) (ms0_3 t) fullShare ((dats m 0 c).after 3 t) from (by
    unfold Dat.leavesExact; rw [liveAt0_3 t]; try rfl), after0_3]
  rw [show (dats m 0 c).leavesExact 4 t = owns (c : Thread nD τ) (ms0_4 t) fullShare ((dats m 0 c).after 4 t) from (by
    unfold Dat.leavesExact; rw [liveAt0_4 t]; try rfl), after0_4]
  unfold pointOut
  iintro ⟨⟨⟨⟨%e8, H8⟩, ⟨%e9, H9⟩⟩, Hg⟩, Ho, ⟨%d0, H0⟩, ⟨%d1, H1⟩, ⟨%d2, H2⟩, ⟨%d3, H3⟩, ⟨%d4, H4⟩⟩
  iapply (body_run c (grid0.coords t) _ _ _ _ _ _ _ _ _ _ _ _ _ _ (iblk m c 0 t) (iblk m c 1 t) (iblk m c 2 t) (iblk m c 3 t) _ e8 e9 _)
  isplitl [H0]; · iexact H0
  isplitl [H1]; · iexact H1
  isplitl [H2]; · iexact H2
  isplitl [H3]; · iexact H3
  isplitl [H4]; · iexact H4
  isplitl [H8]; · iexact H8
  isplitl [H9]; · iexact H9
  iintro ⟨H0, H1, H2, H3, H4, H8, H9⟩
  isplitl [H8 H9 Hg]
  · isplitl [H8 H9]
    · isplitl [H8]
      · iexact H8
      · iexact H9
    · iexact Hg
  isplitl [Ho]; · iexact Ho
  isplitl [H0]; · iexact H0
  isplitl [H1]; · iexact H1
  isplitl [H2]; · iexact H2
  isplitl [H3]; · iexact H3
  iexact H4

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats m 0 c) defs₀ 𝒱₀ () Set.univ := fun t => by
  rw [bigSep_W0, bigSep_W0, defs₀_row]
  exact triple_restated (sound_body m c t) rfl .rfl fun _ => .rfl

/-! ## The run and the frame -/

set_option backward.isDefEq.respectTransparency.types false in
/-- The launch's run: every array at the proof data's final contents, every semaphore counter zero. -/
theorem run_main_quiescent : θ_run defs (onTc (τ := τ) (main (F := F))) (s₀ m ρ)
    (fun r => (Pipeline.FramePost (cfgs (F := F)) (dats m) 0 (V m)) r ∧ r.2.sem = fun _ => 0) :=
  Pipeline.θ_run_frame_track (Q' := _) (cfgs (F := F)) (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hin := fun c => .rfl) (hout := fun c => .rfl)

theorem run_main : θ_run defs (onTc (τ := τ) (main (F := F))) (s₀ m ρ) (Pipeline.FramePost (cfgs (F := F)) (dats m) 0 (V m)) :=
  (θ_run defs _ _).mono (fun _ h => h.1) (run_main_quiescent m ρ)

/-- The frame: the arguments end as they began, every semaphore counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (show ∀ w : Fin 5, (spec0 w).arr.view.ref ≠ main_arg0 by decide))).trans (V_main_arg0 m c),
      ((h.1 c).2 main_arg1 (Pipeline.mem_restRefs_of main_arg1 (by decide) (show ∀ w : Fin 5, (spec0 w).arr.view.ref ≠ main_arg1 by decide))).trans (V_main_arg1 m c),
      ((h.1 c).2 main_arg2 (Pipeline.mem_restRefs_of main_arg2 (by decide) (show ∀ w : Fin 5, (spec0 w).arr.view.ref ≠ main_arg2 by decide))).trans (V_main_arg2 m c)⟩, h.2⟩)
    (run_main_quiescent m ρ)

end Cert.Proof.StickIdeal

end
-- ==== Proof.StickTable.lean ====
/- The strict triangle the kernel is handed: its entry at row `u` and column `x` is one where `x` is before `u`, zero elsewhere.
   The printed table is read 128 entries at a time, half a row each. -/
module

public import proofs.«01_k».proof.StickIdeal
public import Idealize.ShloMosaic.Lib.Pointwise
public import Idealize.ShloMosaic.Lib.IdealHost

@[expose] public section

set_option maxRecDepth 100000

noncomputable section

namespace Cert.Proof.StickIdeal.Table

open Cert.StickIdeal Idealize.ShloMosaic

/-- Entry `j` of half row `k` of the triangle. -/
def bit (k j : Nat) : BitVec 16 := cond (Nat.blt (128 * (k % 2) + j) (k / 2)) 0x3F80#16 0x0000#16

/-- A table of 128 entries, each the value of one function. -/
abbrev pick (f : Nat → BitVec 16) (n : Nat) : BitVec 16 := match n with
  | 0 => f 0
  | 1 => f 1
  | 2 => f 2
  | 3 => f 3
  | 4 => f 4
  | 5 => f 5
  | 6 => f 6
  | 7 => f 7
  | 8 => f 8
  | 9 => f 9
  | 10 => f 10
  | 11 => f 11
  | 12 => f 12
  | 13 => f 13
  | 14 => f 14
  | 15 => f 15
  | 16 => f 16
  | 17 => f 17
  | 18 => f 18
  | 19 => f 19
  | 20 => f 20
  | 21 => f 21
  | 22 => f 22
  | 23 => f 23
  | 24 => f 24
  | 25 => f 25
  | 26 => f 26
  | 27 => f 27
  | 28 => f 28
  | 29 => f 29
  | 30 => f 30
  | 31 => f 31
  | 32 => f 32
  | 33 => f 33
  | 34 => f 34
  | 35 => f 35
  | 36 => f 36
  | 37 => f 37
  | 38 => f 38
  | 39 => f 39
  | 40 => f 40
  | 41 => f 41
  | 42 => f 42
  | 43 => f 43
  | 44 => f 44
  | 45 => f 45
  | 46 => f 46
  | 47 => f 47
  | 48 => f 48
  | 49 => f 49
  | 50 => f 50
  | 51 => f 51
  | 52 => f 52
  | 53 => f 53
  | 54 => f 54
  | 55 => f 55
  | 56 => f 56
  | 57 => f 57
  | 58 => f 58
  | 59 => f 59
  | 60 => f 60
  | 61 => f 61
  | 62 => f 62
  | 63 => f 63
  | 64 => f 64
  | 65 => f 65
  | 66 => f 66
  | 67 => f 67
  | 68 => f 68
  | 69 => f 69
  | 70 => f 70
  | 71 => f 71
  | 72 => f 72
  | 73 => f 73
  | 74 => f 74
  | 75 => f 75
  | 76 => f 76
  | 77 => f 77
  | 78 => f 78
  | 79 => f 79
  | 80 => f 80
  | 81 => f 81
  | 82 => f 82
  | 83 => f 83
  | 84 => f 84
  | 85 => f 85
  | 86 => f 86
  | 87 => f 87
  | 88 => f 88
  | 89 => f 89
  | 90 => f 90
  | 91 => f 91
  | 92 => f 92
  | 93 => f 93
  | 94 => f 94
  | 95 => f 95
  | 96 => f 96
  | 97 => f 97
  | 98 => f 98
  | 99 => f 99
  | 100 => f 100
  | 101 => f 101
  | 102 => f 102
  | 103 => f 103
  | 104 => f 104
  | 105 => f 105
  | 106 => f 106
  | 107 => f 107
  | 108 => f 108
  | 109 => f 109
  | 110 => f 110
  | 111 => f 111
  | 112 => f 112
  | 113 => f 113
  | 114 => f 114
  | 115 => f 115
  | 116 => f 116
  | 117 => f 117
  | 118 => f 118
  | 119 => f 119
  | 120 => f 120
  | 121 => f 121
  | 122 => f 122
  | 123 => f 123
  | 124 => f 124
  | 125 => f 125
  | 126 => f 126
  | 127 => f 127
  | _ => 0#16

theorem pick_eq (f : Nat → BitVec 16) : ∀ n : Fin 128, pick f n.val = f n.val := by
  intro n
  fin_cases n <;> rfl

set_option maxHeartbeats 4000000 in
theorem half0 (n i : Nat) (hn : n < 128) (h : i / 128 % 128 = n) : lit0t1_0 i = bit (128 * 0 + n) (i % 128) := by
  unfold lit0t1_0
  rw [h]
  clear h
  refine Eq.trans ?_ (pick_eq (bit (128 * 0 + n)) ⟨i % 128, Nat.mod_lt _ (by decide)⟩)
  interval_cases n <;> exact rfl

theorem group0 (j : Fin 128) (i : Nat) (h : i / 128 = 128 * 0 + j.val) : lit0t i = bit (128 * 0 + j.val) (i % 128) := by
  have hj := j.isLt
  have h1 : i / 16384 = 0 := by omega
  unfold lit0t
  rw [h1]
  exact half0 j.val i hj (by omega)

set_option maxHeartbeats 4000000 in
theorem half1 (n i : Nat) (hn : n < 128) (h : i / 128 % 128 = n) : lit0t1_1 i = bit (128 * 1 + n) (i % 128) := by
  unfold lit0t1_1
  rw [h]
  clear h
  refine Eq.trans ?_ (pick_eq (bit (128 * 1 + n)) ⟨i % 128, Nat.mod_lt _ (by decide)⟩)
  interval_cases n <;> exact rfl

theorem group1 (j : Fin 128) (i : Nat) (h : i / 128 = 128 * 1 + j.val) : lit0t i = bit (128 * 1 + j.val) (i % 128) := by
  have hj := j.isLt
  have h1 : i / 16384 = 1 := by omega
  unfold lit0t
  rw [h1]
  exact half1 j.val i hj (by omega)

set_option maxHeartbeats 4000000 in
theorem half2 (n i : Nat) (hn : n < 128) (h : i / 128 % 128 = n) : lit0t1_2 i = bit (128 * 2 + n) (i % 128) := by
  unfold lit0t1_2
  rw [h]
  clear h
  refine Eq.trans ?_ (pick_eq (bit (128 * 2 + n)) ⟨i % 128, Nat.mod_lt _ (by decide)⟩)
  interval_cases n <;> exact rfl

theorem group2 (j : Fin 128) (i : Nat) (h : i / 128 = 128 * 2 + j.val) : lit0t i = bit (128 * 2 + j.val) (i % 128) := by
  have hj := j.isLt
  have h1 : i / 16384 = 2 := by omega
  unfold lit0t
  rw [h1]
  exact half2 j.val i hj (by omega)

set_option maxHeartbeats 4000000 in
theorem half3 (n i : Nat) (hn : n < 128) (h : i / 128 % 128 = n) : lit0t1_3 i = bit (128 * 3 + n) (i % 128) := by
  unfold lit0t1_3
  rw [h]
  clear h
  refine Eq.trans ?_ (pick_eq (bit (128 * 3 + n)) ⟨i % 128, Nat.mod_lt _ (by decide)⟩)
  interval_cases n <;> exact rfl

theorem group3 (j : Fin 128) (i : Nat) (h : i / 128 = 128 * 3 + j.val) : lit0t i = bit (128 * 3 + j.val) (i % 128) := by
  have hj := j.isLt
  have h1 : i / 16384 = 3 := by omega
  unfold lit0t
  rw [h1]
  exact half3 j.val i hj (by omega)

theorem blt_dec (a b : Nat) : Nat.blt a b = decide (a < b) :=
  Bool.eq_iff_iff.2 (by rw [Nat.blt_eq, decide_eq_true_iff])

/-- The printed table at row `u` and column `x`. -/
theorem lit_at (u x : Fin 256) : lit0t (256 * u.val + x.val) = if x < u then 0x3F80#16 else 0x0000#16 := by
  have hu := u.isLt
  have hx := x.isLt
  have key : lit0t (256 * u.val + x.val) = bit (2 * u.val + x.val / 128) ((256 * u.val + x.val) % 128) := by
    rcases (by omega : u.val / 64 = 0 ∨ u.val / 64 = 1 ∨ u.val / 64 = 2 ∨ u.val / 64 = 3) with h | h | h | h
    · rw [group0 ⟨2 * u.val + x.val / 128, by omega⟩ _ (by dsimp only; omega)]
      congr 1; dsimp only; omega
    · rw [group1 ⟨2 * u.val + x.val / 128 - 128, by omega⟩ _ (by dsimp only; omega)]
      congr 1; dsimp only; omega
    · rw [group2 ⟨2 * u.val + x.val / 128 - 256, by omega⟩ _ (by dsimp only; omega)]
      congr 1; dsimp only; omega
    · rw [group3 ⟨2 * u.val + x.val / 128 - 384, by omega⟩ _ (by dsimp only; omega)]
      congr 1; dsimp only; omega
  rw [key]
  unfold bit
  have hb : Nat.blt (128 * ((2 * u.val + x.val / 128) % 2) + (256 * u.val + x.val) % 128) ((2 * u.val + x.val / 128) / 2) = decide (x < u) := by
    rw [blt_dec]
    exact decide_eq_decide.2 (by rw [Fin.lt_def]; omega)
  rw [hb]
  by_cases h : x < u
  · rw [if_pos h, decide_eq_true h]; rfl
  · rw [if_neg h, decide_eq_false h]; rfl

/-- The triangle over the extended reals. -/
theorem tri_at (u x : Fin 256) : Ideal.ofBits .bf16 (lit0 (S256x256.rowMajor (ix2 u x))) = if x < u then (1 : EReal) else 0 := by
  have hr : (S256x256.rowMajor (ix2 u x)).val = 256 * u.val + x.val := by
    have h := rowMajor_val2 (d := ![256, 256]) (ix2 u x) 256 rfl
    rw [h]
    show u.val * 256 + x.val = _
    omega
  have hl : lit0 (S256x256.rowMajor (ix2 u x)) = lit0t (256 * u.val + x.val) := congrArg lit0t hr
  rw [hl, lit_at]
  by_cases h : x < u
  · rw [if_pos h, if_pos h]; exact Ideal.ofBits_one_bf16
  · rw [if_neg h, if_neg h]; exact Ideal.ofBits_zero_bf16

end Cert.Proof.StickIdeal.Table

end
-- ==== Proof.StickBlocks.lean ====
/- The blocks the stick-breaking kernel's points are shown, element by element: the queries scaled, the keys and the values
   by batch row, head and place, and the strict triangle. -/
module

public import proofs.«01_k».proof.Proof.StickIdealFrame
public import proofs.«01_k».proof.Proof.StickTable
public import Idealize.ShloMosaic.Lib.Pointwise
public import Idealize.ShloMosaic.Lib.StableHlo.Run

@[expose] public section

set_option maxRecDepth 16384

noncomputable section

namespace Cert.Proof.StickIdeal.Blocks

open Cert.StickIdeal Cert.StickIdeal.Gen Idealize.ShloMosaic Idealize.ShloMosaic.TcCoe Idealize.SL.Sem Idealize.ShloMosaic.StableHlo

variable (m : (ℓ : Loc nD τ sig) → Buf (Elt Ideal) ℓ)

theorem eighth : Ideal.ofBits .f32 0x3E000000#32 = ((1 / 8 : ℝ) : EReal) := by
  simp [Ideal.ofBits, Ideal.ieee, -EReal.coe_mul]; norm_num

/-- The queries, keys and values of the launch: by batch row, place, head and feature. -/
abbrev Q (c : Dev nD) : S4x4096x8x64.Idx → EReal := m ((c : Thread nD τ).loc main_arg0)
abbrev K (c : Dev nD) : S4x4096x8x64.Idx → EReal := m ((c : Thread nD τ).loc main_arg1)
abbrev U (c : Dev nD) : S4x4096x8x64.Idx → EReal := m ((c : Thread nD τ).loc main_arg2)

/-! ## The host's arrays -/

theorem v3_at (c : Dev nD) (n : Fin 16384) (f : Fin 512) : (V m c main_v3 : S16384x512.Idx → EReal) (ix2 n f)
    = (Q m c (ix4 ⟨n.val / 4096, by have := n.isLt; omega⟩ ⟨n.val % 4096, by omega⟩
        ⟨f.val / 64, by have := f.isLt; omega⟩ ⟨f.val % 64, by omega⟩) * ((1 / 8 : ℝ) : EReal) : EReal) := by
  rw [← eighth]
  unfold V
  after_results
  pointwise

theorem v6_at (c : Dev nD) (b : Fin 4) (i : Fin 16) (f : Fin 512) (x : Fin 256) : (V m c main_v6 : S4x16x512x256.Idx → EReal) (ix4 b i f x)
    = K m c (ix4 b ⟨i.val * 256 + x.val, by have := i.isLt; have := x.isLt; omega⟩
        ⟨f.val / 64, by have := f.isLt; omega⟩ ⟨f.val % 64, by omega⟩) := by
  unfold V
  after_results
  pointwise

theorem v8_at (c : Dev nD) (n : Fin 16384) (f : Fin 512) : (V m c main_v8 : S16384x512.Idx → EReal) (ix2 n f)
    = U m c (ix4 ⟨n.val / 4096, by have := n.isLt; omega⟩ ⟨n.val % 4096, by omega⟩
        ⟨f.val / 64, by have := f.isLt; omega⟩ ⟨f.val % 64, by omega⟩) := by
  unfold V
  after_results
  pointwise

theorem cst_at (c : Dev nD) (u x : Fin 256) : (V m c main_cst : S256x256.Idx → EReal) (ix2 u x) = (if x < u then 1 else 0 : EReal) := by
  rw [← Table.tri_at]
  unfold V
  after_results
  rfl

/-! ## Which block each window shows -/

theorem coord_block : ∀ t : Fin (cfg0 (F := Ideal)).N, (grid0.coords t 2).val = t.val % 16 :=
  (by decide +kernel : ∀ t : Fin grid0.N, (grid0.coords t 2).val = t.val % 16)

theorem index_q : ∀ t : Fin (cfg0 (F := Ideal)).N, win0_0.index t 0 = 16 * (t.val / 64) + t.val % 16 ∧ win0_0.index t 1 = t.val / 16 % 4 :=
  (by decide +kernel : ∀ t : Fin grid0.N, win0_0.index t 0 = 16 * (t.val / 64) + t.val % 16 ∧ win0_0.index t 1 = t.val / 16 % 4)
theorem index_k : ∀ t : Fin (cfg0 (F := Ideal)).N, win0_1.index t 0 = t.val / 64 ∧ win0_1.index t 1 = 0 ∧ win0_1.index t 2 = t.val / 16 % 4 ∧ win0_1.index t 3 = 0 :=
  (by decide +kernel : ∀ t : Fin grid0.N, win0_1.index t 0 = t.val / 64 ∧ win0_1.index t 1 = 0 ∧ win0_1.index t 2 = t.val / 16 % 4 ∧ win0_1.index t 3 = 0)
theorem index_v : ∀ t : Fin (cfg0 (F := Ideal)).N, win0_2.index t 0 = t.val / 64 ∧ win0_2.index t 1 = t.val / 16 % 4 :=
  (by decide +kernel : ∀ t : Fin grid0.N, win0_2.index t 0 = t.val / 64 ∧ win0_2.index t 1 = t.val / 16 % 4)
theorem index_tri : ∀ t : Fin (cfg0 (F := Ideal)).N, win0_3.index t 0 = 0 ∧ win0_3.index t 1 = 0 :=
  (by decide +kernel : ∀ t : Fin grid0.N, win0_3.index t 0 = 0 ∧ win0_3.index t 1 = 0)

theorem lt_points (t : Fin (cfg0 (F := Ideal)).N) : t.val < 256 := lt_of_lt_of_eq t.isLt N_0

/-- The batch row of a point. -/
def batch (t : Fin (cfg0 (F := Ideal)).N) : Fin 4 := ⟨t.val / 64, by have := lt_points t; omega⟩
/-- The head of a lane. -/
def head (t : Fin (cfg0 (F := Ideal)).N) (l : Fin 128) : Fin 8 := ⟨2 * (t.val / 16 % 4) + l.val / 64, by have := l.isLt; omega⟩
/-- The feature of a lane. -/
def feat (l : Fin 128) : Fin 64 := ⟨l.val % 64, by omega⟩
/-- The place of a query of a point. -/
def query (t : Fin (cfg0 (F := Ideal)).N) (y : Fin 256) : Fin 4096 := ⟨256 * (t.val % 16) + y.val, by have := y.isLt; omega⟩

theorem q_at (c : Dev nD) (t : Fin (cfg0 (F := Ideal)).N) (y : Fin 256) (l : Fin 128) :
    (iblk m c 0 t : S256x128.Idx → EReal) (ix2 y l) = (Q m c (ix4 (batch t) (query t y) (head t l) (feat l)) * ((1 / 8 : ℝ) : EReal) : EReal) := by
  have hi := index_q t
  have ht := lt_points t
  have hy := y.isLt
  have hl := l.isLt
  have hix : ((win0_0.blk t).view.emb (ix2 y l) : S16384x512.Idx)
      = ix2 ⟨4096 * (t.val / 64) + 256 * (t.val % 16) + y.val, by omega⟩ ⟨128 * (t.val / 16 % 4) + l.val, by omega⟩ := by
    funext a
    apply Fin.ext
    match a with
    | ⟨0, _⟩ => show win0_0.index t 0 * 256 + 1 * y.val = 4096 * (t.val / 64) + 256 * (t.val % 16) + y.val; rw [hi.1] <;> omega
    | ⟨1, _⟩ => show win0_0.index t 1 * 128 + 1 * l.val = 128 * (t.val / 16 % 4) + l.val; rw [hi.2] <;> omega
  unfold iblk
  rw [View.read_apply]
  show (V m c main_v3 : S16384x512.Idx → EReal) _ = _
  refine (congrArg (V m c main_v3 : S16384x512.Idx → EReal) hix).trans ((v3_at m c _ _).trans ?_)
  refine congrArg (fun i => (Q m c i * ((1 / 8 : ℝ) : EReal) : EReal)) (congr (congr (congr (congrArg ix4 ?_) ?_) ?_) ?_) <;>
    apply Fin.ext <;> dsimp only [batch, query, head, feat] <;> omega

theorem k_at (c : Dev nD) (t : Fin (cfg0 (F := Ideal)).N) (i : Fin 16) (l : Fin 128) (x : Fin 256) :
    (iblk m c 1 t : S1x16x128x256.Idx → EReal) (ix4 0 i l x)
      = K m c (ix4 (batch t) ⟨i.val * 256 + x.val, by have := i.isLt; have := x.isLt; omega⟩ (head t l) (feat l)) := by
  have hi := index_k t
  have ht := lt_points t
  have hx := x.isLt
  have hl := l.isLt
  have hix : ((win0_1.blk t).view.emb (ix4 0 i l x) : S4x16x512x256.Idx)
      = ix4 (batch t) i ⟨128 * (t.val / 16 % 4) + l.val, by omega⟩ x := by
    funext a
    apply Fin.ext
    match a with
    | ⟨0, _⟩ => show win0_1.index t 0 * 1 + 1 * 0 = t.val / 64; rw [hi.1] <;> omega
    | ⟨1, _⟩ => show win0_1.index t 1 * 16 + 1 * i.val = i.val; rw [hi.2.1] <;> omega
    | ⟨2, _⟩ => show win0_1.index t 2 * 128 + 1 * l.val = 128 * (t.val / 16 % 4) + l.val; rw [hi.2.2.1] <;> omega
    | ⟨3, _⟩ => show win0_1.index t 3 * 256 + 1 * x.val = x.val; rw [hi.2.2.2] <;> omega
  unfold iblk
  rw [View.read_apply]
  show (V m c main_v6 : S4x16x512x256.Idx → EReal) _ = _
  refine (congrArg (V m c main_v6 : S4x16x512x256.Idx → EReal) hix).trans ((v6_at m c _ _ _ _).trans ?_)
  refine congrArg (K m c) (congr (congr (congr (congrArg ix4 rfl) rfl) ?_) ?_) <;>
    apply Fin.ext <;> dsimp only [head, feat] <;> omega

theorem v_at (c : Dev nD) (t : Fin (cfg0 (F := Ideal)).N) (s : Fin 4096) (l : Fin 128) :
    (iblk m c 2 t : S4096x128.Idx → EReal) (ix2 s l) = U m c (ix4 (batch t) s (head t l) (feat l)) := by
  have hi := index_v t
  have ht := lt_points t
  have hs := s.isLt
  have hl := l.isLt
  have hix : ((win0_2.blk t).view.emb (ix2 s l) : S16384x512.Idx)
      = ix2 ⟨4096 * (t.val / 64) + s.val, by omega⟩ ⟨128 * (t.val / 16 % 4) + l.val, by omega⟩ := by
    funext a
    apply Fin.ext
    match a with
    | ⟨0, _⟩ => show win0_2.index t 0 * 4096 + 1 * s.val = 4096 * (t.val / 64) + s.val; rw [hi.1] <;> omega
    | ⟨1, _⟩ => show win0_2.index t 1 * 128 + 1 * l.val = 128 * (t.val / 16 % 4) + l.val; rw [hi.2] <;> omega
  unfold iblk
  rw [View.read_apply]
  show (V m c main_v8 : S16384x512.Idx → EReal) _ = _
  refine (congrArg (V m c main_v8 : S16384x512.Idx → EReal) hix).trans ((v8_at m c _ _).trans ?_)
  refine congrArg (U m c) (congr (congr (congr (congrArg ix4 ?_) ?_) ?_) ?_) <;>
    apply Fin.ext <;> dsimp only [batch, head, feat] <;> omega

theorem tri_at (c : Dev nD) (t : Fin (cfg0 (F := Ideal)).N) (u x : Fin 256) :
    (iblk m c 3 t : S256x256.Idx → EReal) (ix2 u x) = (if x < u then 1 else 0 : EReal) := by
  have hi := index_tri t
  have hix : ((win0_3.blk t).view.emb (ix2 u x) : S256x256.Idx) = ix2 u x := by
    funext a
    apply Fin.ext
    match a with
    | ⟨0, _⟩ => show win0_3.index t 0 * 256 + 1 * u.val = u.val; rw [hi.1] <;> omega
    | ⟨1, _⟩ => show win0_3.index t 1 * 256 + 1 * x.val = x.val; rw [hi.2] <;> omega
  unfold iblk
  rw [View.read_apply]
  show (V m c main_cst : S256x256.Idx → EReal) _ = _
  exact (congrArg (V m c main_cst : S256x256.Idx → EReal) hix).trans (cst_at m c u x)

end Cert.Proof.StickIdeal.Blocks

end
-- ==== Proof.StickScalar.lean ====
/- The arithmetic of one attention weight over the extended reals: the softplus, the two ways of writing the logarithm of a
   weight, the sums of a split value, and sums over blocks of keys. -/
module

public import Idealize.ShloMosaic.Lib.Pointwise

@[expose] public section

noncomputable section

namespace Cert.Proof.StickScalar

open Idealize.ShloMosaic

/-- The softplus, in the form that does not overflow. -/
def softplus (z : EReal) : EReal := max z 0 + Ideal.log (1 + Ideal.exp (0 - max z (-z)))

/-- The softplus of a real number. -/
def softplusR (r : ℝ) : ℝ := max r 0 + Real.log (1 + Real.exp (-max r (-r)))

theorem log_one : Ideal.log 1 = 0 := by
  rw [← EReal.coe_one, Ideal.log_coe, if_neg (by norm_num), Real.log_one, EReal.coe_zero]

theorem softplus_coe (r : ℝ) : softplus (r : EReal) = (softplusR r : EReal) := by
  unfold softplus softplusR
  have hm : max (r : EReal) (-(r : EReal)) = ((max r (-r) : ℝ) : EReal) := by
    rw [← EReal.coe_neg]; exact (EReal.coe_strictMono.monotone.map_max).symm
  have h0 : max (r : EReal) 0 = ((max r 0 : ℝ) : EReal) := by
    rw [← EReal.coe_zero]; exact (EReal.coe_strictMono.monotone.map_max).symm
  have hp : ¬ (1 + Real.exp (-max r (-r)) ≤ 0) := not_le.2 (by positivity)
  rw [hm, h0, zero_sub, ← EReal.coe_neg, Ideal.exp_coe, ← EReal.coe_one, ← EReal.coe_add, Ideal.log_coe, if_neg hp,
    ← EReal.coe_add]

theorem softplus_top : softplus ⊤ = ⊤ := by
  unfold softplus
  rw [max_eq_left le_top, max_eq_left le_top, EReal.sub_top, Ideal.exp_bot, add_zero, log_one, add_zero] <;> simp

theorem softplus_bot : softplus ⊥ = 0 := by
  unfold softplus
  rw [max_eq_right bot_le, EReal.neg_bot, max_eq_right bot_le, EReal.sub_top, Ideal.exp_bot, add_zero, log_one, add_zero] <;> simp

theorem softplusR_neg (r : ℝ) : softplusR (-r) = softplusR r - r := by
  unfold softplusR
  rw [neg_neg, max_comm (-r) r]
  rcases le_total 0 r with h | h
  · rw [max_eq_right (by linarith), max_eq_left h]; ring
  · rw [max_eq_left (by linarith), max_eq_right h]; ring

theorem softplus_ne_bot (z : EReal) : softplus z ≠ ⊥ := by
  induction z with
  | bot => rw [softplus_bot]; simp
  | coe r => rw [softplus_coe]; exact EReal.coe_ne_bot _
  | top => rw [softplus_top]; simp

theorem neg_softplus_ne_top (z : EReal) : 0 - softplus z ≠ ⊤ := by
  rw [zero_sub]
  intro h
  exact softplus_ne_bot z (by rw [← neg_neg (softplus z), h, EReal.neg_top])

/-- A weight's two forms: the logit less its softplus plus what lies between, and the log-sigmoid of the logit plus the
    inclusive sum less the key's own term. -/
theorem weight_eq (z B : EReal) : Ideal.exp (z - softplus z + B)
    = Ideal.exp (-softplus (-z) + (((0 - softplus z) + B) - (0 - softplus z))) := by
  congr 1
  rw [zero_sub]
  induction z with
  | bot => rw [EReal.neg_bot, softplus_top, softplus_bot, EReal.neg_top]; simp
  | top => rw [EReal.neg_top, softplus_top, softplus_bot, EReal.neg_top]; simp
  | coe r =>
    rw [← EReal.coe_neg, softplus_coe, softplus_coe, softplusR_neg]
    induction B with
    | bot => simp
    | top =>
      rw [← EReal.coe_sub, ← EReal.coe_neg, ← EReal.coe_neg, EReal.coe_add_top, EReal.coe_add_top]
      rw [EReal.top_sub_coe, EReal.coe_add_top]
    | coe b =>
      norm_cast
      ring_nf

/-- The rounding's remainder of a value that is not `⊤` adds nothing to it. -/
theorem add_sub_self_of_ne_top (a : EReal) (h : a ≠ ⊤) : a + (a - a) = a := by
  induction a with
  | bot => simp
  | top => exact absurd rfl h
  | coe r => norm_cast; ring_nf

/-- Masked sums of values and of their remainders are the masked sum of the values. -/
theorem split_sum {ι : Type} [Fintype ι] (a t : ι → EReal) (ha : ∀ x, a x ≠ ⊤) (ht : ∀ x, t x = 0 ∨ t x = 1) :
    ∑ x, a x * t x + ∑ x, (a x - a x) * t x = ∑ x, a x * t x := by
  rw [← Finset.sum_add_distrib]
  refine Finset.sum_congr rfl fun x _ => ?_
  rcases ht x with h | h
  · rw [h, mul_zero, mul_zero, add_zero]
  · rw [h, mul_one, mul_one, add_sub_self_of_ne_top _ (ha x)]

/-- A finite factor that is not negative comes out of a sum. -/
theorem sum_mul_coe {ι : Type} (s : Finset ι) (f : ι → EReal) (c : ℝ) (hc : 0 ≤ c) :
    (∑ x ∈ s, f x) * (c : EReal) = ∑ x ∈ s, f x * (c : EReal) := by
  classical
  induction s using Finset.induction_on with
  | empty => rw [Finset.sum_empty, Finset.sum_empty, zero_mul]
  | insert a s ha ih =>
    rw [Finset.sum_insert ha, Finset.sum_insert ha, ← ih]
    exact EReal.right_distrib_of_nonneg_of_ne_top (EReal.coe_nonneg.2 hc) (EReal.coe_ne_top _) _ _

/-- A sum over a block of 256 keys. -/
theorem block_sum (f : ℕ → EReal) (n : ℕ) : ∑ x : Fin 256, f (256 * n + x.val) = ∑ s ∈ Finset.Ico (256 * n) (256 * (n + 1)), f s := by
  rw [Finset.sum_Ico_eq_sum_range, show 256 * (n + 1) - 256 * n = 256 by omega, Fin.sum_univ_eq_sum_range (fun x => f (256 * n + x)) 256]

/-- A sum over the keys of a block after one of them. -/
theorem after_sum (f : ℕ → EReal) (n : ℕ) (x : Fin 256) :
    ∑ u : Fin 256, f (256 * n + u.val) * (if x < u then (1 : EReal) else 0) = ∑ s ∈ Finset.Ico (256 * n + x.val + 1) (256 * (n + 1)), f s := by
  have hx := x.isLt
  have h := block_sum (fun s => if 256 * n + x.val < s then f s else 0) n
  refine Eq.trans ?_ (h.trans ?_)
  · refine Finset.sum_congr rfl fun u _ => ?_
    by_cases hu : x < u
    · rw [if_pos hu, mul_one]; exact (if_pos (by have : x.val < u.val := hu; omega)).symm
    · rw [if_neg hu, mul_zero]; exact (if_neg (by have : ¬ x.val < u.val := hu; omega)).symm
  · rw [← Finset.sum_filter]
    refine Finset.sum_congr (Finset.ext fun s => ?_) fun _ _ => rfl
    rw [Finset.mem_filter, Finset.mem_Ico, Finset.mem_Ico]
    omega

/-- The logarithm of what a key leaves to the keys before it, for a query at place `T`; keys at or after it do nothing. -/
def leave (z : ℕ → EReal) (T s : ℕ) : EReal := if s < T then 0 - softplus (z s) else 0

/-- The keys' terms from `a` up to the end of the 4096 keys. -/
def left (z : ℕ → EReal) (T a : ℕ) : EReal := ∑ s ∈ Finset.Ico a 4096, leave z T s

/-- The weight of a key. -/
def weight (z : ℕ → EReal) (T s : ℕ) : EReal := if s < T then Ideal.exp (z s - softplus (z s) + left z T (s + 1)) else 0

/-- The weighted sum of the keys from `a` on. -/
def taken (z v : ℕ → EReal) (T a : ℕ) : EReal := ∑ s ∈ Finset.Ico a 4096, weight z T s * v s

theorem leave_ne_top (z : ℕ → EReal) (T s : ℕ) : leave z T s ≠ ⊤ := by
  unfold leave
  split
  · exact neg_softplus_ne_top _
  · simp

theorem left_block (z : ℕ → EReal) (T n : ℕ) (hn : n < 16) :
    left z T (256 * (n + 1)) + ∑ x : Fin 256, leave z T (256 * n + x.val) = left z T (256 * n) := by
  unfold left
  rw [block_sum (leave z T) n, add_comm]
  exact Finset.sum_Ico_consecutive _ (by omega) (by omega)

theorem taken_block (z v : ℕ → EReal) (T n : ℕ) (hn : n < 16) :
    taken z v T (256 * (n + 1)) + ∑ x : Fin 256, weight z T (256 * n + x.val) * v (256 * n + x.val) = taken z v T (256 * n) := by
  unfold taken
  rw [block_sum (fun s => weight z T s * v s) n, add_comm]
  exact Finset.sum_Ico_consecutive _ (by omega) (by omega)

/-- What lies between a key of a block and the query, summed by the block. -/
theorem between_block (z : ℕ → EReal) (T n : ℕ) (hn : n < 16) (x : Fin 256) :
    ∑ u : Fin 256, leave z T (256 * n + u.val) * (if x < u then (1 : EReal) else 0)
      + ∑ u : Fin 256, (leave z T (256 * n + u.val) - leave z T (256 * n + u.val)) * (if x < u then (1 : EReal) else 0)
      + left z T (256 * (n + 1)) = left z T (256 * n + x.val + 1) := by
  have hx := x.isLt
  rw [split_sum (fun u : Fin 256 => leave z T (256 * n + u.val)) (fun u => if x < u then (1 : EReal) else 0)
    (fun u => leave_ne_top z T _) (fun u => by split; exact .inr rfl; exact .inl rfl), after_sum]
  unfold left
  exact Finset.sum_Ico_consecutive _ (by omega) (by omega)

/-- Past the query nothing is left to add. -/
theorem left_past (z : ℕ → EReal) (T a : ℕ) (h : T ≤ a) : left z T a = 0 :=
  Finset.sum_eq_zero fun s hs => if_neg (by have := (Finset.mem_Ico.1 hs).1; omega)

theorem taken_past (z v : ℕ → EReal) (T a : ℕ) (h : T ≤ a) : taken z v T a = 0 :=
  Finset.sum_eq_zero fun s hs => by
    unfold weight
    rw [if_neg (by have := (Finset.mem_Ico.1 hs).1; omega), zero_mul]

/-- The weight in the other form: the log-sigmoid plus the inclusive sum less the key's own term. -/
theorem weight_other (z : ℕ → EReal) (T s : ℕ) (hs : s < 4096) : weight z T s
    = if s < T then Ideal.exp (-softplus (-z s) + (left z T s - leave z T s)) else 0 := by
  unfold weight
  by_cases h : s < T
  · rw [if_pos h, if_pos h, weight_eq]
    have hl : leave z T s = 0 - softplus (z s) := if_pos h
    have : left z T s = leave z T s + left z T (s + 1) := by
      unfold left
      rw [Finset.sum_eq_sum_Ico_succ_bot hs]
    rw [this, hl]
  · rw [if_neg h, if_neg h]

end Cert.Proof.StickScalar

end
-- ==== Proof.StickPoint.lean ====
/- The stick-breaking kernel's body, element by element, over the extended reals: the scores of a block of keys, the terms
   and weights they give, and the state after the blocks from the query's own down to the first. -/
module

public import proofs.«01_k».proof.Proof.StickIdealBody
public import proofs.«01_k».proof.Proof.StickScalar
public import Idealize.ShloMosaic.Lib.Pointwise

@[expose] public section

set_option maxRecDepth 16384

noncomputable section

namespace Cert.Proof.StickIdeal.Point

open Cert.StickIdeal Cert.StickIdeal.Gen Cert.Proof.StickScalar Idealize.ShloMosaic Idealize.ShloMosaic.TcCoe Idealize.SL.Sem

theorem lane_low (l : Fin 128) : IntOp.cmpi CmpIPredicate.slt (BitVec.ofNat 32 l.val) 64#32 = if l.val < 64 then 1#1 else 0#1 :=
  (by decide : ∀ l : Fin 128, IntOp.cmpi CmpIPredicate.slt (BitVec.ofNat 32 l.val) 64#32 = if l.val < 64 then 1#1 else 0#1) l

theorem lane_high (l : Fin 128) : IntOp.cmpi CmpIPredicate.sge (BitVec.ofNat 32 l.val) 64#32 = if l.val < 64 then 0#1 else 1#1 :=
  (by decide : ∀ l : Fin 128, IntOp.cmpi CmpIPredicate.sge (BitVec.ofNat 32 l.val) 64#32 = if l.val < 64 then 0#1 else 1#1) l

theorem select_if {p : Prop} [Decidable p] {α : Type} (a b : α) : Scalar.select (if p then 1#1 else 0#1) a b = if p then a else b := by
  by_cases h : p
  · rw [if_pos h, if_pos h]; rfl
  · rw [if_neg h, if_neg h]; rfl

theorem select_if' {p : Prop} [Decidable p] {α : Type} (a b : α) : Scalar.select (if p then 0#1 else 1#1) a b = if p then b else a := by
  by_cases h : p
  · rw [if_pos h, if_pos h]; rfl
  · rw [if_neg h, if_neg h]; rfl

/-- The stacked queries: row `r` is query `r mod 256` with the lanes of one head kept. -/
theorem q_at (x : Vec Ideal S256x128 .bf16) (r : Fin 512) (l : Fin 128) : (k0_pay8 x (ix2 r l) : EReal)
    = if r.val / 256 = l.val / 64 then x (ix2 (Fin.ofNat 256 r.val) l) else 0 := by
  pointwise [k0_pay8]
  have hr := r.isLt
  have hl := l.isLt
  split
  · next h =>
    have h : r.val < 256 := h
    rw [lane_low, select_if]
    by_cases h' : l.val < 64
    · rw [if_pos h', if_pos (by omega)]
      exact congrArg (fun i => x (ix2 i l)) (Fin.ext (Nat.mod_eq_of_lt h).symm)
    · rw [if_neg h', if_neg (by omega)]
  · next h =>
    have h : ¬ r.val < 256 := h
    rw [lane_high, select_if']
    by_cases h' : l.val < 64
    · rw [if_pos h', if_neg (by omega)]
    · rw [if_neg h']
      exact (congrArg (fun i => x (ix2 i l)) (Fin.ext (by show r.val - 256 = r.val % 256; omega))).trans (if_pos (by omega)).symm

/-- A row's score with a key of a block. -/
def score (q : FVec Ideal S512x128 .bf16) (k : Vec Ideal S1x1x128x256 .bf16) (r : Fin 512) (x : Fin 256) : EReal :=
  ∑ l : Fin 128, (q (ix2 r l) : EReal) * k (ix4 0 0 l x)

theorem z_at (q : FVec Ideal S512x128 .bf16) (k : Vec Ideal S1x1x128x256 .bf16) (r : Fin 512) (x : Fin 256) :
    (k0_pay17 q k (ix2 r x) : EReal) = score q k r x := by
  pointwise [k0_pay17, score]

theorem z0_at (q : FVec Ideal S512x128 .bf16) (k : Vec Ideal S1x1x128x256 .bf16) (r : Fin 512) (x : Fin 256) :
    (k0_pay12 q (k0_pay11 k) (constant S512x256 .f32 0x00000000#32) (ix2 r x) : EReal) = score q k r x := by
  pointwise [k0_pay12, k0_pay11, score]

theorem sp_at (q : FVec Ideal S512x128 .bf16) (k : Vec Ideal S1x1x128x256 .bf16) (r : Fin 512) (x : Fin 256) :
    (k0_pay18 q k (ix2 r x) : EReal) = softplus (score q k r x) := by
  pointwise [k0_pay18]
  rw [z_at]
  rfl

theorem sp0_at (q : FVec Ideal S512x128 .bf16) (k : Vec Ideal S1x1x128x256 .bf16) (r : Fin 512) (x : Fin 256) :
    (k0_pay13 q (k0_pay11 k) (constant S512x256 .f32 0x00000000#32) (ix2 r x) : EReal) = softplus (score q k r x) := by
  pointwise [k0_pay13]
  rw [z0_at]
  rfl

theorem earlier_bits (r : Fin 512) (x : Fin 256) : IntOp.cmpi CmpIPredicate.slt (BitVec.ofNat 32 x.val) (IntOp.andi (BitVec.ofNat 32 r.val) 255#32)
    = if x.val < r.val % 256 then 1#1 else 0#1 := by
  have hr := r.isLt
  have hx := x.isLt
  have ha : IntOp.andi (BitVec.ofNat 32 r.val) 255#32 = BitVec.ofNat 32 (r.val % 256) := by
    apply BitVec.eq_of_toNat_eq
    show (BitVec.ofNat 32 r.val &&& 255#32).toNat = _
    rw [BitVec.toNat_and, BitVec.toNat_ofNat, BitVec.toNat_ofNat, BitVec.toNat_ofNat,
      show 255 % 2 ^ 32 = 2 ^ 8 - 1 by decide, Nat.and_two_pow_sub_one_eq_mod]
    omega
  have hslt : (BitVec.ofNat 32 x.val).slt (BitVec.ofNat 32 (r.val % 256)) = decide (x.val < r.val % 256) := by
    rw [BitVec.slt_eq_decide, BitVec.toInt_ofNat', BitVec.toInt_ofNat']
    congr 1
    rw [Int.bmod_eq_of_le (by omega) (by omega), Int.bmod_eq_of_le (by omega) (by omega)]
    exact propext (by omega)
  rw [ha]
  show BitVec.ofBool _ = _
  rw [hslt]
  by_cases h : x.val < r.val % 256
  · rw [if_pos h, decide_eq_true h]; rfl
  · rw [if_neg h, decide_eq_false h]; rfl

/-- The query block's own keys: only the earlier ones leave a term. -/
theorem lk0_at (q : FVec Ideal S512x128 .bf16) (k : Vec Ideal S1x1x128x256 .bf16) (r : Fin 512) (x : Fin 256) :
    (k0_pay15 q (k0_pay11 k) (constant S512x256 .f32 0x00000000#32) (ix2 r x) : EReal)
      = if x.val < r.val % 256 then 0 - softplus (score q k r x) else 0 := by
  pointwise [k0_pay15, k0_pay14]
  rw [earlier_bits, select_if, sp0_at]

theorem lk_at (q : FVec Ideal S512x128 .bf16) (k : Vec Ideal S1x1x128x256 .bf16) (r : Fin 512) (x : Fin 256) :
    (k0_pay19 q k (ix2 r x) : EReal) = 0 - softplus (score q k r x) := by
  pointwise [k0_pay19]
  rw [sp_at]

theorem sum0_at (lk : FVec Ideal S512x256 .f32) (s : Vec Ideal S512x1 .f32) (r : Fin 512) :
    (k0_pay2 lk s (ix2 r 0) : EReal) = s (ix2 r 0) + ∑ x : Fin 256, (lk (ix2 r x) : EReal) := by
  pointwise [k0_pay2]

theorem sum_at (lk : FVec Ideal S512x256 .f32) (s : Vec Ideal S512x1 .f32) (r : Fin 512) :
    (k0_pay6 lk s (ix2 r 0) : EReal) = s (ix2 r 0) + ∑ x : Fin 256, (lk (ix2 r x) : EReal) := by
  pointwise [k0_pay6]

theorem zeroR_at (r : Fin 512) : (k0_pay9 (ix2 r 0) : Ideal .f32) = (0 : EReal) := by
  pointwise [k0_pay9]

theorem zeroA_at (r : Fin 512) (l : Fin 128) : (k0_pay10 (ix2 r l) : Ideal .f32) = (0 : EReal) := by
  pointwise [k0_pay10]

/-- The query block's own keys: what they add to the weighted sum. -/
theorem acc0_at (q : FVec Ideal S512x128 .bf16) (tri : Vec Ideal S256x256 .bf16) (k : Vec Ideal S1x1x128x256 .bf16) (s : Vec Ideal S512x1 .f32)
    (a : Vec Ideal S512x128 .f32) (v : Vec Ideal S256x128 .bf16) (r : Fin 512) (l : Fin 128) :
    (k0_pay1 (k0_pay16 q tri (k0_pay11 k) (constant S512x256 .f32 0x00000000#32) s a v) (ix2 r l) : EReal)
      = a (ix2 r l) + ∑ x : Fin 256, (if x.val < r.val % 256 then Ideal.exp (score q k r x - softplus (score q k r x)
          + (∑ u : Fin 256, (if u.val < r.val % 256 then 0 - softplus (score q k r u) else 0) * tri (ix2 u x)
              + ∑ u : Fin 256, ((if u.val < r.val % 256 then 0 - softplus (score q k r u) else 0)
                  - (if u.val < r.val % 256 then 0 - softplus (score q k r u) else 0)) * tri (ix2 u x) + s (ix2 r 0))) else 0) * v (ix2 x l) := by
  pointwise [k0_pay1, k0_pay16, k0_pay14]
  simp only [earlier_bits, select_if, z0_at, sp0_at, lk0_at, ite_mul, zero_mul]

/-- An earlier block's keys: what they add to the weighted sum. -/
theorem acc_at (q : FVec Ideal S512x128 .bf16) (tri : Vec Ideal S256x256 .bf16) (k : Vec Ideal S1x1x128x256 .bf16) (s : Vec Ideal S512x1 .f32)
    (a : Vec Ideal S512x128 .f32) (v : Vec Ideal S256x128 .bf16) (r : Fin 512) (l : Fin 128) :
    (k0_pay5 (k0_pay20 q tri k s a v) (ix2 r l) : EReal)
      = a (ix2 r l) + ∑ x : Fin 256, Ideal.exp (score q k r x - softplus (score q k r x)
          + (∑ u : Fin 256, (0 - softplus (score q k r u)) * tri (ix2 u x)
              + ∑ u : Fin 256, ((0 - softplus (score q k r u)) - (0 - softplus (score q k r u))) * tri (ix2 u x) + s (ix2 r 0))) * v (ix2 x l) := by
  pointwise [k0_pay5, k0_pay20]
  simp only [z_at, sp_at, lk_at]

/-- The joined heads: each lane from the rows of its own head. -/
theorem join_at (x y : Vec Ideal S256x128 .f32) (r : Fin 256) (l : Fin 128) :
    (k0_pay4 x y (ix2 r l) : EReal) = if l.val < 64 then x (ix2 r l) else y (ix2 r l) := by
  pointwise [k0_pay4]
  rw [lane_low, select_if]

/-! ## The state after the blocks -/

/-- A row's score with key `s`. -/
def logit (q : FVec Ideal S512x128 .bf16) (x1 : Vec Ideal S1x16x128x256 .bf16) (r : Fin 512) (s : ℕ) : EReal :=
  ∑ l : Fin 128, (q (ix2 r l) : EReal) * x1 (ix4 0 (Fin.ofNat 16 (s / 256)) l (Fin.ofNat 256 s))

/-- Key `s`'s value. -/
def val (x2 : Vec Ideal S4096x128 .bf16) (l : Fin 128) (s : ℕ) : EReal := x2 (ix2 (Fin.ofNat 4096 s) l)

theorem score_eq (q : FVec Ideal S512x128 .bf16) (x1 : Vec Ideal S1x16x128x256 .bf16) (n : ℕ) (r : Fin 512) (x : Fin 256) :
    score q (kblk x1 n) r x = logit q x1 r (256 * n + x.val) := by
  have hx := x.isLt
  have h1 : (Fin.ofNat 16 ((256 * n + x.val) / 256) : Fin 16) = Fin.ofNat 16 n :=
    Fin.ext (by show (256 * n + x.val) / 256 % 16 = n % 16; omega)
  have h2 : (Fin.ofNat 256 (256 * n + x.val) : Fin 256) = x :=
    Fin.ext (by show (256 * n + x.val) % 256 = x.val; omega)
  unfold score logit
  rw [h1, h2]
  rfl

theorem val_eq (x2 : Vec Ideal S4096x128 .bf16) (n : ℕ) (l : Fin 128) (x : Fin 256) :
    (vblk x2 n (ix2 x l) : EReal) = val x2 l (256 * n + x.val) := rfl

/-- The kernel's cut-off is `⊥`, so the loop's flag is always set. -/
theorem flag_set (r : Vec Ideal S512x1 .f32) : flag r = 1#32 := by
  unfold flag
  have h : Scalar.cmpf (F := Ideal) .oge (k0_pay7 r) (Named.named κ "cutoff" 0xC2F00000#32) = 1#1 := by
    generalize (k0_pay7 r : Ideal .f32) = m
    show BitVec.ofBool (decide ((⊥ : EReal) ≤ (m : EReal))) = 1#1
    rw [decide_eq_true bot_le]
    rfl
  rw [h]
  rfl

theorem loop_succ (q : FVec Ideal S512x128 .bf16) (tri : Vec Ideal S256x256 .bf16) (x1 : Vec Ideal S1x16x128x256 .bf16) (x2 : Vec Ideal S4096x128 .bf16)
    (n : ℕ) (r : Vec Ideal S512x1 .f32) (a : Vec Ideal S512x128 .f32) :
    loopTo q tri x1 x2 (n + 1) 1#32 r a = loopTo q tri x1 x2 n 1#32 (stepR q x1 n r) (stepA q tri x1 x2 n r a) := by
  rw [loopTo, if_pos (by decide), flag_set]

section Row

variable (q : FVec Ideal S512x128 .bf16) (tri : Vec Ideal S256x256 .bf16) (x1 : Vec Ideal S1x16x128x256 .bf16) (x2 : Vec Ideal S4096x128 .bf16)
variable (htri : ∀ u x : Fin 256, (tri (ix2 u x) : EReal) = if x < u then 1 else 0)
variable (I : ℕ)

/-- The place of a row's query when the query block is block `I`. -/
def place (r : Fin 512) : ℕ := 256 * I + r.val % 256

theorem stepR_at (n : ℕ) (hn : n < I) (hI : I < 16) (s : Vec Ideal S512x1 .f32)
    (hs : ∀ r, (s (ix2 r 0) : EReal) = left (logit q x1 r) (place I r) (256 * (n + 1))) (r : Fin 512) :
    (stepR q x1 n s (ix2 r 0) : EReal) = left (logit q x1 r) (place I r) (256 * n) := by
  unfold stepR
  rw [sum_at, hs, ← left_block _ _ n (by omega)]
  refine congrArg₂ (· + ·) rfl (Finset.sum_congr rfl fun x _ => ?_)
  have hx := x.isLt
  rw [lk_at, score_eq]
  exact (if_pos (by unfold place; omega)).symm

include htri in
theorem stepA_at (n : ℕ) (hn : n < I) (hI : I < 16) (s : Vec Ideal S512x1 .f32) (a : Vec Ideal S512x128 .f32)
    (hs : ∀ r, (s (ix2 r 0) : EReal) = left (logit q x1 r) (place I r) (256 * (n + 1)))
    (ha : ∀ r l, (a (ix2 r l) : EReal) = taken (logit q x1 r) (val x2 l) (place I r) (256 * (n + 1))) (r : Fin 512) (l : Fin 128) :
    (stepA q tri x1 x2 n s a (ix2 r l) : EReal) = taken (logit q x1 r) (val x2 l) (place I r) (256 * n) := by
  unfold stepA
  rw [acc_at, ha, ← taken_block _ _ _ n (by omega)]
  refine congrArg₂ (· + ·) rfl (Finset.sum_congr rfl fun x _ => ?_)
  have hx := x.isLt
  rw [val_eq]
  refine congrArg₂ (· * ·) ?_ rfl
  have hlk : ∀ u : Fin 256, (0 : EReal) - softplus (score q (kblk x1 n) r u) = leave (logit q x1 r) (place I r) (256 * n + u.val) := by
    intro u
    have hu := u.isLt
    rw [score_eq]
    exact (if_pos (by unfold place; omega)).symm
  simp only [hlk, htri]
  rw [hs, between_block _ _ n (by omega) x, score_eq]
  exact (if_pos (by unfold place; omega)).symm

include htri in
/-- The state the loop ends in: all keys taken. -/
theorem loop_at (hI : I < 16) : ∀ (n : ℕ) (_ : n ≤ I) (s : Vec Ideal S512x1 .f32) (a : Vec Ideal S512x128 .f32)
    (_ : ∀ r, (s (ix2 r 0) : EReal) = left (logit q x1 r) (place I r) (256 * n))
    (_ : ∀ r l, (a (ix2 r l) : EReal) = taken (logit q x1 r) (val x2 l) (place I r) (256 * n)) (r : Fin 512) (l : Fin 128),
    ((loopTo q tri x1 x2 n 1#32 s a).2 (ix2 r l) : EReal) = taken (logit q x1 r) (val x2 l) (place I r) 0
  | 0, _, s, a, _, ha, r, l => ha r l
  | n + 1, hn, s, a, hs, ha, r, l => by
    rw [loop_succ]
    exact loop_at hI n (by omega) _ _ (stepR_at q x1 I n (by omega) hI s hs)
      (stepA_at q tri x1 x2 htri I n (by omega) hI s a hs ha) r l

end Row

variable (x0 : Vec Ideal S256x128 .bf16) (x1 : Vec Ideal S1x16x128x256 .bf16) (x2 : Vec Ideal S4096x128 .bf16) (x3 : Vec Ideal S256x256 .bf16)

theorem diagR_at (I : ℕ) (hI : I < 16) (r : Fin 512) :
    (diagR I x0 x1 (ix2 r 0) : EReal) = left (logit (k0_pay8 x0) x1 r) (place I r) (256 * I) := by
  unfold diagR
  rw [sum0_at, zeroR_at, ← left_block _ _ I hI, left_past _ _ _ (by unfold place; omega)]
  refine congrArg₂ (· + ·) rfl (Finset.sum_congr rfl fun x _ => ?_)
  rw [lk0_at, score_eq]
  unfold leave place
  simp only [Nat.add_lt_add_iff_left]

theorem diagA_at (htri : ∀ u x : Fin 256, (x3 (ix2 u x) : EReal) = if x < u then 1 else 0) (I : ℕ) (hI : I < 16) (r : Fin 512) (l : Fin 128) :
    (diagA I x0 x1 x2 x3 (ix2 r l) : EReal) = taken (logit (k0_pay8 x0) x1 r) (val x2 l) (place I r) (256 * I) := by
  unfold diagA
  rw [acc0_at, zeroA_at, ← taken_block _ _ _ I hI, taken_past _ _ _ _ (by unfold place; omega)]
  refine congrArg₂ (· + ·) rfl (Finset.sum_congr rfl fun x _ => ?_)
  rw [val_eq]
  refine congrArg₂ (· * ·) ?_ rfl
  have hlk : ∀ u : Fin 256, (if u.val < r.val % 256 then (0 : EReal) - softplus (score (k0_pay8 x0) (kblk x1 I) r u) else 0)
      = leave (logit (k0_pay8 x0) x1 r) (place I r) (256 * I + u.val) := by
    intro u
    rw [score_eq]
    unfold leave place
    simp only [Nat.add_lt_add_iff_left]
  simp only [hlk, htri]
  have hb := between_block (logit (k0_pay8 x0) x1 r) (place I r) I hI x
  rw [left_past _ _ (256 * (I + 1)) (by unfold place; omega)] at hb
  rw [zeroR_at, hb, score_eq]
  unfold weight place
  simp only [Nat.add_lt_add_iff_left]

theorem end_at (htri : ∀ u x : Fin 256, (x3 (ix2 u x) : EReal) = if x < u then 1 else 0) (I : ℕ) (hI : I < 16) (r : Fin 512) (l : Fin 128) :
    ((endState I x0 x1 x2 x3).2 (ix2 r l) : EReal) = taken (logit (k0_pay8 x0) x1 r) (val x2 l) (place I r) 0 := by
  unfold endState
  rw [flag_set]
  exact loop_at _ _ _ _ htri I hI I le_rfl _ _ (diagR_at x0 x1 I hI) (diagA_at x0 x1 x2 x3 htri I hI) r l

/-- The block a point writes: lane `l` of query `y` from the rows of the head of that lane. -/
theorem out_at (htri : ∀ u x : Fin 256, (x3 (ix2 u x) : EReal) = if x < u then 1 else 0) (I : ℕ) (hI : I < 16) (y : Fin 256) (l : Fin 128) :
    (outBlk I x0 x1 x2 x3 (ix2 y l) : EReal)
      = taken (logit (k0_pay8 x0) x1 ⟨256 * (l.val / 64) + y.val, by have := y.isLt; have := l.isLt; omega⟩) (val x2 l) (256 * I + y.val) 0 := by
  have hy := y.isLt
  have hl := l.isLt
  unfold outBlk joinHeads
  rw [join_at]
  have hp : ∀ r : Fin 512, r.val % 256 = y.val → place I r = 256 * I + y.val := fun r hr => by unfold place; rw [hr]
  split
  · next h =>
    rw [← hp ⟨256 * (l.val / 64) + y.val, by omega⟩ (by dsimp only; omega), ← end_at x0 x1 x2 x3 htri I hI]
    refine congrArg (endState I x0 x1 x2 x3).2 (funext fun a => Fin.ext ?_)
    match a with
    | ⟨0, _⟩ => show 0 + 1 * y.val = 256 * (l.val / 64) + y.val; omega
    | ⟨1, _⟩ => show 0 + 1 * l.val = l.val; omega
  · next h =>
    rw [← hp ⟨256 * (l.val / 64) + y.val, by omega⟩ (by dsimp only; omega), ← end_at x0 x1 x2 x3 htri I hI]
    refine congrArg (endState I x0 x1 x2 x3).2 (funext fun a => Fin.ext ?_)
    match a with
    | ⟨0, _⟩ => show 256 + 1 * y.val = 256 * (l.val / 64) + y.val; omega
    | ⟨1, _⟩ => show 0 + 1 * l.val = l.val; omega

end Cert.Proof.StickIdeal.Point

end
-- ==== Proof.StickValue.lean ====
/- What a launch of the stick-breaking kernel leaves in its result array: the attention of every batch row, place, head and
   feature, as a function of the launch's queries, keys and values. -/
module

public import proofs.«01_k».proof.Proof.StickBlocks
public import proofs.«01_k».proof.Proof.StickPoint
public import Idealize.ShloMosaic.Lib.Pipeline.ValueKit

@[expose] public section

set_option maxRecDepth 16384

noncomputable section

namespace Cert.Proof.StickIdeal.Result

open Cert.StickIdeal Cert.StickIdeal.Gen Idealize.ShloMosaic Idealize.ShloMosaic.TcCoe Idealize.SL.Sem Idealize.ShloMosaic.StableHlo
open Cert.Proof.StickScalar Cert.Proof.StickIdeal.Blocks

variable (m : (ℓ : Loc nD τ sig) → Buf (Elt Ideal) ℓ) (ρ : Dev nD → PrngReg)

/-- The scaled inner product of a query with the key at a place. -/
def score (q k : S4x4096x8x64.Idx → EReal) (b : Fin 4) (T : Fin 4096) (h : Fin 8) (s : ℕ) : EReal :=
  (∑ e : Fin 64, q (ix4 b T h e) * k (ix4 b (Fin.ofNat 4096 s) h e)) * ((1 / 8 : ℝ) : EReal)

/-- One feature of the value at a place. -/
def valueAt (v : S4x4096x8x64.Idx → EReal) (b : Fin 4) (h : Fin 8) (d : Fin 64) (s : ℕ) : EReal := v (ix4 b (Fin.ofNat 4096 s) h d)

/-- Stick-breaking attention: every query takes from the earlier values, the nearest first. -/
def stickAt (q k v : S4x4096x8x64.Idx → EReal) (b : Fin 4) (T : Fin 4096) (h : Fin 8) (d : Fin 64) : EReal :=
  taken (score q k b T h) (valueAt v b h d) T.val 0

/-! ## A point's block -/

/-- A sum over 128 lanes of which only one half counts. -/
theorem half_sum (g : Fin 128 → EReal) (a : ℕ) (ha : a < 2) :
    ∑ l : Fin 128, (if a = l.val / 64 then g l else 0) = ∑ e : Fin 64, g ⟨64 * a + e.val, by have := e.isLt; omega⟩ := by
  refine (Fin.sum_univ_add (a := 64) (b := 64) (fun l : Fin 128 => if a = l.val / 64 then g l else 0)).trans ?_
  have ha' : a = 0 ∨ a = 1 := by omega
  rcases ha' with h | h
  · refine Eq.trans (congrArg₂ (· + ·) (Finset.sum_congr rfl fun e _ => ?_)
      (Finset.sum_eq_zero fun e _ => if_neg ?_)) (add_zero _)
    · have := e.isLt
      refine (if_pos (by show a = e.val / 64; omega)).trans (congrArg g (Fin.ext ?_))
      show e.val = 64 * a + e.val; omega
    · show ¬ a = (64 + e.val) / 64; omega
  · refine Eq.trans (congrArg₂ (· + ·) (Finset.sum_eq_zero fun e _ => if_neg ?_)
      (Finset.sum_congr rfl fun e _ => ?_)) (zero_add _)
    · have := e.isLt
      show ¬ a = e.val / 64; omega
    · have := e.isLt
      refine (if_pos (by show a = (64 + e.val) / 64; omega)).trans (congrArg g (Fin.ext ?_))
      show 64 + e.val = 64 * a + e.val; omega

theorem logit_eq (c : Dev nD) (t : Fin (cfg0 (F := Ideal)).N) (y : Fin 256) (l : Fin 128) (h : 256 * (l.val / 64) + y.val < 512) (s : ℕ) :
    Point.logit (k0_pay8 (iblk m c 0 t)) (iblk m c 1 t) ⟨256 * (l.val / 64) + y.val, h⟩ s
      = score (Q m c) (K m c) (batch t) (query t y) (head t l) s := by
  have hy := y.isLt
  have hl := l.isLt
  unfold Point.logit score
  rw [sum_mul_coe _ _ _ (by norm_num)]
  refine Eq.trans ?_ ((half_sum (fun l' => Q m c (ix4 (batch t) (query t y) (head t l') (feat l')) * ((1 / 8 : ℝ) : EReal)
      * K m c (ix4 (batch t) (Fin.ofNat 4096 s) (head t l') (feat l'))) (l.val / 64) (by omega)).trans ?_)
  · refine Finset.sum_congr rfl fun l' _ => ?_
    rw [Point.q_at, ite_mul, zero_mul]
    have hr : (Fin.ofNat 256 (256 * (l.val / 64) + y.val) : Fin 256) = y :=
      Fin.ext (by show (256 * (l.val / 64) + y.val) % 256 = y.val; omega)
    have hc : ((256 * (l.val / 64) + y.val) / 256 = l'.val / 64) = (l.val / 64 = l'.val / 64) := by
      rw [show (256 * (l.val / 64) + y.val) / 256 = l.val / 64 by omega]
    have hk : (iblk m c 1 t : S1x16x128x256.Idx → EReal) (ix4 0 (Fin.ofNat 16 (s / 256)) l' (Fin.ofNat 256 s))
        = K m c (ix4 (batch t) (Fin.ofNat 4096 s) (head t l') (feat l')) := by
      refine (k_at m c t _ l' _).trans (congrArg (fun i => K m c (ix4 (batch t) i (head t l') (feat l'))) (Fin.ext ?_))
      show s / 256 % 16 * 256 + s % 256 = s % 4096
      omega
    simp only [hc, hr]
    by_cases hh : l.val / 64 = l'.val / 64
    · rw [if_pos hh, if_pos hh]
      exact congrArg₂ (· * ·) (q_at m c t y l') hk
    · rw [if_neg hh, if_neg hh]
  · refine Finset.sum_congr rfl fun e _ => ?_
    have he := e.isLt
    have h1 : ∀ p, head t ⟨64 * (l.val / 64) + e.val, p⟩ = head t l := fun p =>
      Fin.ext (by show 2 * (t.val / 16 % 4) + (64 * (l.val / 64) + e.val) / 64 = 2 * (t.val / 16 % 4) + l.val / 64; omega)
    have h2 : ∀ p, feat ⟨64 * (l.val / 64) + e.val, p⟩ = e := fun p =>
      Fin.ext (by show (64 * (l.val / 64) + e.val) % 64 = e.val; omega)
    simp only [h1, h2]
    exact mul_right_comm _ _ _

theorem point_at (c : Dev nD) (t : Fin (cfg0 (F := Ideal)).N) (y : Fin 256) (l : Fin 128) :
    (pointOut m c t : S256x128.Idx → EReal) (ix2 y l)
      = stickAt (Q m c) (K m c) (U m c) (batch t) (query t y) (head t l) (feat l) := by
  have hI := coord_block t
  unfold pointOut
  refine (Point.out_at _ _ _ _ (tri_at m c t) _ (by rw [hI]; omega) y l).trans ?_
  unfold stickAt
  rw [hI]
  have hz := funext (logit_eq m c t y l (by have := y.isLt; have := l.isLt; omega))
  have hv : Point.val (iblk m c 2 t) l = valueAt (U m c) (batch t) (head t l) (feat l) := funext fun s => v_at m c t _ l
  rw [hv]
  exact congrArg (fun z => taken z _ _ 0) hz

/-! ## The array -/

/-- The result array: row `n` is place `n % 4096` of batch row `n / 4096`, column `f` feature `f % 64` of head `f / 64`. -/
def G (c : Dev nD) : S16384x512.Idx → EReal := fun i =>
  stickAt (Q m c) (K m c) (U m c) ⟨(i 0).val / 4096, by have h : (i 0).val < 16384 := (i 0).isLt; omega⟩ ⟨(i 0).val % 4096, by omega⟩
    ⟨(i 1).val / 64, by have h : (i 1).val < 512 := (i 1).isLt; omega⟩ ⟨(i 1).val % 64, by omega⟩

theorem index_out : ∀ t : Fin (cfg0 (F := Ideal)).N, win0_4.index t 0 = 16 * (t.val / 64) + t.val % 16 ∧ win0_4.index t 1 = t.val / 16 % 4 :=
  (by decide +kernel : ∀ t : Fin grid0.N, win0_4.index t 0 = 16 * (t.val / 64) + t.val % 16 ∧ win0_4.index t 1 = t.val / 16 % 4)

theorem final (c : Dev nD) : (dats m 0 c).arrAt 4 (cfg0 (F := Ideal)).N = G m c := by
  refine (dats m 0 c).arrAt_eq_of_covers 4 _ (show win0_4.Covers by decide +kernel) fun t hf y => ?_
  rw [after0_4]
  have hi := index_out t
  have ht := lt_points t
  let y0 : Fin 256 := y 0
  let y1 : Fin 128 := y 1
  have h0 : y0.val < 256 := y0.isLt
  have h1 : y1.val < 128 := y1.isLt
  have hy : (((cfg0 (F := Ideal)).win 4).xinj ((cfg0 (F := Ideal)).grid.coords t) y : S256x128.Idx) = ix2 y0 y1 := by
    funext a; match a with | ⟨0, _⟩ => rfl | ⟨1, _⟩ => rfl
  have e0 : ((((cfg0 (F := Ideal)).win 4).blk t).view.emb y 0).val = 4096 * (t.val / 64) + 256 * (t.val % 16) + y0.val := by
    show win0_4.index t 0 * 256 + 1 * y0.val = _
    rw [hi.1]; omega
  have e1 : ((((cfg0 (F := Ideal)).win 4).blk t).view.emb y 1).val = 128 * (t.val / 16 % 4) + y1.val := by
    show win0_4.index t 1 * 128 + 1 * y1.val = _
    rw [hi.2]; omega
  show (pointOut m c t : S256x128.Idx → EReal) (((cfg0 (F := Ideal)).win 4).xinj ((cfg0 (F := Ideal)).grid.coords t) y) = _
  rw [hy, point_at]
  unfold G
  refine congr (congr (congr (congrArg _ (Fin.ext ?_)) (Fin.ext ?_)) (Fin.ext ?_)) (Fin.ext ?_)
  · show t.val / 64 = _ / 4096; rw [e0]; omega
  · show 256 * (t.val % 16) + y0.val = _ % 4096; rw [e0]; omega
  · show 2 * (t.val / 16 % 4) + y1.val / 64 = _ / 64; rw [e1]; omega
  · show y1.val % 64 = _ % 64; rw [e1]; omega

/-! ## The run -/

theorem run : θ_run defs (onTc (τ := τ) (main (F := Ideal))) ⟨m, fun _ => 0, ρ⟩ fun r => ∀ c : Dev nD,
      r.2.mem ((c.tc : Thread nD τ).loc main_v9) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 4).trans (final m c),
      ((h c).2 main_arg0 (Pipeline.mem_restRefs_of main_arg0 (by decide) (show ∀ w : Fin 5, (spec0 w).arr.view.ref ≠ main_arg0 by decide))).trans (V_main_arg0 m c),
      ((h c).2 main_arg1 (Pipeline.mem_restRefs_of main_arg1 (by decide) (show ∀ w : Fin 5, (spec0 w).arr.view.ref ≠ main_arg1 by decide))).trans (V_main_arg1 m c),
      ((h c).2 main_arg2 (Pipeline.mem_restRefs_of main_arg2 (by decide) (show ∀ w : Fin 5, (spec0 w).arr.view.ref ≠ main_arg2 by decide))).trans (V_main_arg2 m c)⟩)
    (run_main m ρ)

end Cert.Proof.StickIdeal.Result

end
-- ==== Proof.StickRef.lean ====
/- The stick-breaking attention of the reference, read element by element, and the equality with the kernel's result. -/
module

public import proofs.«01_k».proof.Proof.Gen.StickRefIdeal.Run
public import proofs.«01_k».proof.Proof.StickValue
public import Idealize.ShloMosaic.Lib.Pointwise

@[expose] public section

set_option maxRecDepth 16384

noncomputable section

namespace Cert.StickRefIdeal.Read

open Cert.StickRefIdeal Cert.StickRefIdeal.Gen Idealize.ShloMosaic Idealize.ShloMosaic.TcCoe Idealize.SL.Sem Idealize.ShloMosaic.StableHlo
open Cert.Proof.StickScalar Cert.Proof.StickIdeal

/-! ## The reference's composed term, in pieces -/

/-- Which keys come before a query. -/
def mask : IVec S4x8x4096x4096 1 :=
  broadcastInDim S4x8x4096x4096 ![2, 3] bcast_S4096x4096_S4x8x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The scaled inner products. -/
def scores (q k : FVec Ideal S4x4096x8x64 .f32) : FVec Ideal S4x8x4096x4096 .f32 :=
  mulf (Host.dotGeneral dot_S4x4096x8x64_S4x4096x8x64_S4x8x4096x4096_3_3_1_1_02_02 none q k) (broadcastInDim S4x8x4096x4096 ![] bcast_S_S4x8x4096x4096 (constant S_ .f32 0x3E000000#32))

/-- The reference's softplus. -/
def soft (x : FVec Ideal S4x8x4096x4096 .f32) : FVec Ideal S4x8x4096x4096 .f32 :=
  select (cmpf .une (subf x (broadcastInDim S4x8x4096x4096 ![] bcast_S_S4x8x4096x4096 (constant S_ .f32 0x00000000#32))) (subf x (broadcastInDim S4x8x4096x4096 ![] bcast_S_S4x8x4096x4096 (constant S_ .f32 0x00000000#32)))) (addf x (broadcastInDim S4x8x4096x4096 ![] bcast_S_S4x8x4096x4096 (constant S_ .f32 0x00000000#32))) (addf (maximumf x (broadcastInDim S4x8x4096x4096 ![] bcast_S_S4x8x4096x4096 (constant S_ .f32 0x00000000#32))) (Host.log1p (Host.exp (Host.negf (Host.absf (subf x (broadcastInDim S4x8x4096x4096 ![] bcast_S_S4x8x4096x4096 (constant S_ .f32 0x00000000#32))))))))

/-- What every key leaves. -/
def leaves (q k : FVec Ideal S4x4096x8x64 .f32) : FVec Ideal S4x8x4096x4096 .f32 :=
  select mask (Host.negf (soft (Host.negf (Host.negf (scores q k))))) (broadcastInDim S4x8x4096x4096 ![] bcast_S_S4x8x4096x4096 (id (constant S_ .f32 0x00000000#32)))

/-- What the keys from each one on leave together. -/
def onward (q k : FVec Ideal S4x4096x8x64 .f32) : FVec Ideal S4x8x4096x4096 .f32 :=
  Host.reduceWindowAdd ![1, 1, 1, 4096] ![1, 1, 1, 1] ![0, 0, 0, 0] ![0, 0, 0, 4095] (leaves q k) (broadcastInDim S_ ![] bcast_S_S_ (constant S_ .f32 0x00000000#32)) reduceWindows_S4x8x4096x4096_S4x8x4096x4096_w1s1p0_0_w1s1p0_0_w1s1p0_0_w4096s1p0_4095 h_S_

/-- The weights. -/
def weights (q k : FVec Ideal S4x4096x8x64 .f32) : FVec Ideal S4x8x4096x4096 .f32 :=
  select mask (Host.exp (addf (Host.negf (soft (Host.negf (scores q k)))) (subf (onward q k) (leaves q k)))) (broadcastInDim S4x8x4096x4096 ![] bcast_S_S4x8x4096x4096 (id (constant S_ .f32 0x00000000#32)))

/-- The result array. -/
def term (q k v : FVec Ideal S4x4096x8x64 .f32) : FVec Ideal S16384x512 .bf16 :=
  truncf .bf16 (shapeCast _ (transpose S4x4096x8x64 [0, 3, 1, 2] (Host.dotGeneral dot_S4x4096x8x64_S4x8x4096x4096_S4x8x64x4096_1_3_3_2_02_01 none v (weights q k)) transposes_S4x8x64x4096_S4x4096x8x64_0_3_1_2) shapeCasts_S4x4096x8x64_S16384x512) bitsLt_bf16_f32

/-! ## The pieces at coordinates -/

theorem less_bits (s T : Fin 4096) : IntOp.cmpi CmpIPredicate.slt (BitVec.ofNat 32 s.val) (BitVec.ofNat 32 T.val)
    = if s.val < T.val then 1#1 else 0#1 := by
  have hs := s.isLt
  have hT := T.isLt
  have hslt : (BitVec.ofNat 32 s.val).slt (BitVec.ofNat 32 T.val) = decide (s.val < T.val) := by
    rw [BitVec.slt_eq_decide, BitVec.toInt_ofNat', BitVec.toInt_ofNat', Int.bmod_eq_of_le (by omega) (by omega),
      Int.bmod_eq_of_le (by omega) (by omega)]
    simp only [Nat.cast_lt]
  unfold IntOp.cmpi
  simp only [hslt]
  by_cases h : s.val < T.val
  · simp [h]
  · simp [h]

theorem mask_at (b : Fin 4) (h : Fin 8) (T s : Fin 4096) : mask (ix4 b h T s) = if s.val < T.val then 1#1 else 0#1 := by
  rw [← less_bits]
  pointwise [mask]

theorem scores_at (q k : FVec Ideal S4x4096x8x64 .f32) (b : Fin 4) (h : Fin 8) (T s : Fin 4096) :
    (scores q k (ix4 b h T s) : EReal) = Result.score q k b T h s.val := by
  have hs : (Fin.ofNat 4096 s.val : Fin 4096) = s := Fin.ext (Nat.mod_eq_of_lt s.isLt)
  unfold Result.score
  rw [hs, ← Blocks.eighth]
  pointwise [scores]

theorem soft_at (x : FVec Ideal S4x8x4096x4096 .f32) (b : Fin 4) (h : Fin 8) (T s : Fin 4096) :
    (soft x (ix4 b h T s) : EReal) = softplus (x (ix4 b h T s)) := by
  pointwise [soft]
  rw [if_neg (by simp)]
  unfold softplus
  rw [zero_sub]
  rfl

/-- A sum over the window from an index to the end of the last axis. -/
theorem window_sum (x : FVec Ideal S4x8x4096x4096 .f32) (init : FVec Ideal S_ .f32) (hi : ∀ i, (init i : EReal) = 0)
    (w : S4x8x4096x4096.ReduceWindows ![1, 1, 1, 4096] ![1, 1, 1, 1] ![0, 0, 0, 0] ![0, 0, 0, 4095] S4x8x4096x4096) (hu : 0 < S_.numel)
    (b : Fin 4) (h : Fin 8) (T s : Fin 4096) :
    (Host.reduceWindowAdd ![1, 1, 1, 4096] ![1, 1, 1, 1] ![0, 0, 0, 0] ![0, 0, 0, 4095] x init w hu (ix4 b h T s) : EReal)
      = ∑ u ∈ Finset.Ico s.val 4096, (x (ix4 b h T (Fin.ofNat 4096 u)) : EReal) := by
  have hs := s.isLt
  have hv : ∀ (i : S_.Idx), (init i : EReal) = 0 := hi
  have hfold : ∀ {α : Type} (l : List α) (g : α → EReal) (v : EReal), l.foldl (fun r n => r + g n) v = v + (l.map g).sum := by
    intro α l g
    induction l with
    | nil => intro v; simp
    | cons a l ih => intro v; rw [List.foldl_cons, ih, List.map_cons, List.sum_cons, add_assoc]
  show Ideal.hostReduceWindowAdd ![1, 1, 1, 4096] ![1, 1, 1, 1] ![0, 0, 0, 0] ![0, 0, 0, 4095] w x (init (Shape.Idx.first hu)) (ix4 b h T s) = _
  rw [hv]
  unfold Ideal.hostReduceWindowAdd Host.reduceWindow
  dsimp only
  rw [hfold, zero_add, ← Fin.sum_univ_def]
  let W : Shape := ⟨4, ![1, 1, 1, 4096]⟩
  let g : ℕ → EReal := fun u => if s.val + u < 4096 then x (ix4 b h T (Fin.ofNat 4096 (s.val + u))) else 0
  refine (Fintype.sum_equiv W.rowMajor.symm _ (fun i : W.Idx => g (i 3).val) fun n => ?_).trans ?_
  · have h0 : (W.rowMajor.symm n 0).val = 0 := Nat.lt_one_iff.1 (W.rowMajor.symm n 0).isLt
    have h1 : (W.rowMajor.symm n 1).val = 0 := Nat.lt_one_iff.1 (W.rowMajor.symm n 1).isLt
    have h2 : (W.rowMajor.symm n 2).val = 0 := Nat.lt_one_iff.1 (W.rowMajor.symm n 2).isLt
    have hb := b.isLt
    have hh := h.isLt
    have hT := T.isLt
    by_cases hle : s.val + (W.rowMajor.symm n 3).val < 4096
    · refine (dif_pos fun a => ?_).trans ((congrArg x (funext fun a => Fin.ext ?_)).trans (if_pos hle).symm)
      · match a with
        | ⟨0, _⟩ => show 0 ≤ b.val * 1 + (W.rowMajor.symm n 0).val ∧ b.val * 1 + (W.rowMajor.symm n 0).val - 0 < 4; rw [h0]; omega
        | ⟨1, _⟩ => show 0 ≤ h.val * 1 + (W.rowMajor.symm n 1).val ∧ h.val * 1 + (W.rowMajor.symm n 1).val - 0 < 8; rw [h1]; omega
        | ⟨2, _⟩ => show 0 ≤ T.val * 1 + (W.rowMajor.symm n 2).val ∧ T.val * 1 + (W.rowMajor.symm n 2).val - 0 < 4096; rw [h2]; omega
        | ⟨3, _⟩ => show 0 ≤ s.val * 1 + (W.rowMajor.symm n 3).val ∧ s.val * 1 + (W.rowMajor.symm n 3).val - 0 < 4096; omega
      · match a with
        | ⟨0, _⟩ => show b.val * 1 + (W.rowMajor.symm n 0).val - 0 = b.val; rw [h0]; omega
        | ⟨1, _⟩ => show h.val * 1 + (W.rowMajor.symm n 1).val - 0 = h.val; rw [h1]; omega
        | ⟨2, _⟩ => show T.val * 1 + (W.rowMajor.symm n 2).val - 0 = T.val; rw [h2]; omega
        | ⟨3, _⟩ => show s.val * 1 + (W.rowMajor.symm n 3).val - 0 = (s.val + (W.rowMajor.symm n 3).val) % 4096; omega
    · refine (dif_neg fun hin => hle ?_).trans (if_neg hle).symm
      have h3 : 0 ≤ s.val * 1 + (W.rowMajor.symm n 3).val ∧ s.val * 1 + (W.rowMajor.symm n 3).val - 0 < 4096 := hin (3 : Fin 4)
      omega
  · refine (sum_idx4 (n0 := 1) (n1 := 1) (n2 := 1) (n3 := 4096) (fun i => g (i 3).val)).trans ?_
    rw [Fin.sum_univ_one, Fin.sum_univ_one, Fin.sum_univ_one]
    refine (Fin.sum_univ_eq_sum_range g 4096).trans ?_
    rw [Finset.sum_ite, Finset.sum_const_zero, add_zero, Finset.sum_Ico_eq_sum_range]
    refine Finset.sum_congr (Finset.ext fun u => ?_) fun _ _ => rfl
    rw [Finset.mem_filter, Finset.mem_range, Finset.mem_range]
    omega

theorem leaves_at (q k : FVec Ideal S4x4096x8x64 .f32) (b : Fin 4) (h : Fin 8) (T s : Fin 4096) :
    (leaves q k (ix4 b h T s) : EReal) = leave (Result.score q k b T h) T.val s.val := by
  unfold leave
  pointwise [leaves]
  rw [mask_at, soft_at, zero_sub, ← scores_at]
  have hz : (Host.negf (Host.negf (scores q k)) (ix4 b h T s) : EReal) = scores q k (ix4 b h T s) := neg_neg (scores q k (ix4 b h T s) : EReal)
  rw [hz]
  by_cases hs : s.val < T.val
  · rw [if_pos hs, if_pos hs]; rfl
  · rw [if_neg hs, if_neg hs]; exact Ideal.ofBits_zero .f32

theorem onward_at (q k : FVec Ideal S4x4096x8x64 .f32) (b : Fin 4) (h : Fin 8) (T s : Fin 4096) :
    (onward q k (ix4 b h T s) : EReal) = left (Result.score q k b T h) T.val s.val := by
  unfold onward left
  refine (window_sum (leaves q k) _ (fun _ => Ideal.ofBits_zero .f32) _ _ b h T s).trans ?_
  refine Finset.sum_congr rfl fun u hu => ?_
  rw [leaves_at]
  exact congrArg (leave _ _) (Nat.mod_eq_of_lt (Finset.mem_Ico.1 hu).2)

theorem weights_at (q k : FVec Ideal S4x4096x8x64 .f32) (b : Fin 4) (h : Fin 8) (T s : Fin 4096) :
    (weights q k (ix4 b h T s) : EReal) = weight (Result.score q k b T h) T.val s.val := by
  rw [weight_other _ _ _ s.isLt, ← onward_at, ← leaves_at, ← scores_at]
  pointwise [weights]
  rw [mask_at, soft_at]
  by_cases hs : s.val < T.val
  · rw [if_pos hs, if_pos hs]; rfl
  · rw [if_neg hs, if_neg hs]; exact Ideal.ofBits_zero .f32

theorem term_at (q k v : FVec Ideal S4x4096x8x64 .f32) (n : Fin 16384) (f : Fin 512) :
    (term q k v (ix2 n f) : EReal) = Result.stickAt q k v ⟨n.val / 4096, by have := n.isLt; omega⟩ ⟨n.val % 4096, by omega⟩
      ⟨f.val / 64, by have := f.isLt; omega⟩ ⟨f.val % 64, by omega⟩ := by
  pointwise [term]
  unfold Result.stickAt taken
  rw [← Finset.range_eq_Ico, ← Fin.sum_univ_eq_sum_range
    (fun s => weight (Result.score q k ⟨n.val / 4096, by have := n.isLt; omega⟩ ⟨n.val % 4096, by omega⟩ ⟨f.val / 64, by have := f.isLt; omega⟩) (n.val % 4096) s
      * Result.valueAt v ⟨n.val / 4096, by have := n.isLt; omega⟩ ⟨f.val / 64, by have := f.isLt; omega⟩ ⟨f.val % 64, by omega⟩ s)]
  refine Finset.sum_congr rfl fun s _ => ?_
  rw [weights_at, mul_comm]
  have hs : (Fin.ofNat 4096 s.val : Fin 4096) = s := Fin.ext (Nat.mod_eq_of_lt s.isLt)
  unfold Result.valueAt
  rw [hs]

/-- The reference's result array is the kernel's, as functions of the three arrays. -/
theorem result_eq (m : (ℓ : Loc Cert.StickIdeal.nD Cert.StickIdeal.τ Cert.StickIdeal.sig) → Buf (Elt Ideal) ℓ) (c : Dev Cert.StickIdeal.nD) :
    (Result.G m c : S16384x512.Idx → EReal)
      = term (m ((c.tc : Thread Cert.StickIdeal.nD Cert.StickIdeal.τ).loc Cert.StickIdeal.main_arg0)) (m ((c.tc : Thread Cert.StickIdeal.nD Cert.StickIdeal.τ).loc Cert.StickIdeal.main_arg1))
          (m ((c.tc : Thread Cert.StickIdeal.nD Cert.StickIdeal.τ).loc Cert.StickIdeal.main_arg2)) := by
  funext j
  idx_vars j
  exact (term_at _ _ _ j0 j1).symm

end Cert.StickRefIdeal.Read

end
-- ==== Proof.StickClaims.lean ====
/- The five claims about the stick-breaking attention kernel: the three programs run and keep their arguments, the
   idealization's named constant stands for its literal, and kernel and reference agree over the extended reals. -/
module

public import proofs.«01_k».proof.Defs
public import proofs.«01_k».proof.Proof.StickFrame
public import proofs.«01_k».proof.Proof.StickRef
public import Idealize.ShloMosaic.Lib.Quiescent

@[expose] public section

noncomputable section

namespace Cert.Proof.StickClaims

open Idealize.ShloMosaic Idealize.ShloMosaic.TcCoe Idealize.SL.Sem

theorem frame_kernel : Cert.quiescent_Stick := fun m ρ _ => Cert.Proof.Stick.frame m ρ

theorem frame_ideal : Cert.quiescent_StickIdeal := fun m ρ _ => Cert.Proof.StickIdeal.frame m ρ

theorem frame_reference : Cert.quiescent_StickRefIdeal := fun m ρ _ =>
  (θ_run Cert.StickRefIdeal.defs _ _).mono (fun r h => ⟨fun c => (h c).2, sem_eq_zero_of_no_sems (by decide) r.2⟩)
    (Cert.StickRefIdeal.Value.run (F := Ideal) m ρ)

theorem preserves : Cert.preserves_Stick_StickIdeal :=
  IdealRules.named_const.statement _ _ _ _ _ rfl

theorem algebraic : Cert.algebraic_StickIdeal_StickRefIdeal := by
  intro m ρ m' ρ' _ hagree
  refine ⟨fun c => Cert.Proof.StickIdeal.Result.G m c, Cert.Proof.StickIdeal.Result.run m ρ, ?_⟩
  refine (θ_run Cert.StickRefIdeal.defs _ _).mono (fun _ h c => ⟨(h c).1.trans ?_, (h c).2⟩)
    (Cert.StickRefIdeal.Value.run (F := Ideal) m' ρ')
  obtain ⟨h0, h1, h2⟩ := hagree c
  refine Eq.trans (b := Cert.StickRefIdeal.Read.term (m' ((c.tc : Thread Cert.StickRefIdeal.nD Cert.StickRefIdeal.τ).loc Cert.StickRefIdeal.main_arg0))
    (m' ((c.tc : Thread Cert.StickRefIdeal.nD Cert.StickRefIdeal.τ).loc Cert.StickRefIdeal.main_arg1))
    (m' ((c.tc : Thread Cert.StickRefIdeal.nD Cert.StickRefIdeal.τ).loc Cert.StickRefIdeal.main_arg2))) rfl ?_
  rw [h0, h1, h2]
  exact (Cert.StickRefIdeal.Read.result_eq m c).symm

end Cert.Proof.StickClaims

end
-- ==== Proof.MoeCases.lean ====
/- What one grid point of the expert kernel leaves behind, as plain array expressions.
   The body adds `weight · expert(h)` to the accumulator it keeps in its scratch; the first expert's point clears the
   accumulator, the last expert's point also writes `x + gate · accumulator` to the output block. -/
module

public import proofs.«01_k».proof.Proof.Gen.MoeIdeal.Value
public import Idealize.ShloMosaic.Lib.Pipeline.Value
public import Idealize.ShloMosaic.Lib.Tactic

@[expose] public section

set_option maxRecDepth 16384

noncomputable section

namespace Cert.MoeIdeal.Cases

open Cert.MoeIdeal Cert.MoeIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The first expert of a row tile: the accumulator starts from the zero block. -/
theorem scratch_A (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x16 .f32) (harg4 : arg4.IsWhole) (arg5 : Memref sig .tc .vmem S1x1x1x1x1024 .f32) (harg5 : arg5.IsWhole) (arg6 : Memref sig .tc .vmem S1x1x1024x512 .bf16) (harg6 : arg6.IsWhole) (arg7 : Memref sig .tc .vmem S1x1x1024x512 .bf16) (harg7 : arg7.IsWhole) (arg8 : Memref sig .tc .vmem S1x1x512x1024 .bf16) (harg8 : arg8.IsWhole) (arg9 : Memref sig .tc .vmem S1x1024x1024 .f32) (harg9 : arg9.IsWhole) (arg10 : Memref sig .tc .vmem S1024x1024 .f32) (harg10 : arg10.IsWhole) (hc0 : cond0_0 i) (hc1 : ¬cond0_1 i)
    (x0 : Vec F S1x1024x1024 .f32) (x1 : Vec F S1024x1024 .bf16) (x2 : Vec F S1024x16 .f32) (x3 : Vec F S1x1x1x1x1024 .f32) (x4 : Vec F S1x1x1024x512 .bf16) (x5 : Vec F S1x1x1024x512 .bf16) (x6 : Vec F S1x1x512x1024 .bf16) :
    sout0_A_0 c i arg2 harg2 arg3 harg3 arg4 harg4 arg5 harg5 arg6 harg6 arg7 harg7 arg8 harg8 arg9 harg9 arg10 harg10 hc0 hc1 x0 x1 x2 x3 x4 x5 x6 = k0_pay4 i x1 x4 x5 x6 x2 k0_pay3 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1024x1024) hz2, View.readCov_unit_zero (S := S1024x1024) _ hz2]
  unfold k0_pay1
  simp only [View.readAt_eq_ld, harg2.read_unread, harg3.read_unread, harg4.read_unread, harg5.read_unread, harg6.read_unread, harg7.read_unread, harg8.read_unread, harg9.read_unread, harg10.read_unread, View.ld_unit_zero (S := S1024x1024) hz2, View.ld_unit_zero (S := S1024x16) hz2, View.ld_unit_zero (S := S1x1024x1024) hz3, View.ld_unit_zero (S := S1x1x1024x512) hz4, View.ld_unit_zero (S := S1x1x512x1024) hz4, View.ld_unit_zero (S := S1x1x1x1x1024) hz5, shapeCast_self]

/-- A middle expert: its share is added to the accumulator. -/
theorem scratch_B (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x16 .f32) (harg4 : arg4.IsWhole) (arg5 : Memref sig .tc .vmem S1x1x1x1x1024 .f32) (harg5 : arg5.IsWhole) (arg6 : Memref sig .tc .vmem S1x1x1024x512 .bf16) (harg6 : arg6.IsWhole) (arg7 : Memref sig .tc .vmem S1x1x1024x512 .bf16) (harg7 : arg7.IsWhole) (arg8 : Memref sig .tc .vmem S1x1x512x1024 .bf16) (harg8 : arg8.IsWhole) (arg9 : Memref sig .tc .vmem S1x1024x1024 .f32) (harg9 : arg9.IsWhole) (arg10 : Memref sig .tc .vmem S1024x1024 .f32) (harg10 : arg10.IsWhole) (hc0 : ¬cond0_0 i) (hc1 : ¬cond0_1 i)
    (x0 : Vec F S1x1024x1024 .f32) (x1 : Vec F S1024x1024 .bf16) (x2 : Vec F S1024x16 .f32) (x3 : Vec F S1x1x1x1x1024 .f32) (x4 : Vec F S1x1x1024x512 .bf16) (x5 : Vec F S1x1x1024x512 .bf16) (x6 : Vec F S1x1x512x1024 .bf16) (xs0 : Vec F S1024x1024 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay4 i x1 x4 x5 x6 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero (S := S1024x1024) hz2]
  unfold k0_pay1
  simp only [View.readAt_eq_ld, harg2.read_unread, harg3.read_unread, harg4.read_unread, harg5.read_unread, harg6.read_unread, harg7.read_unread, harg8.read_unread, harg9.read_unread, harg10.read_unread, View.ld_unit_zero (S := S1024x1024) hz2, View.ld_unit_zero (S := S1024x16) hz2, View.ld_unit_zero (S := S1x1024x1024) hz3, View.ld_unit_zero (S := S1x1x1024x512) hz4, View.ld_unit_zero (S := S1x1x512x1024) hz4, View.ld_unit_zero (S := S1x1x1x1x1024) hz5, shapeCast_self]

/-- The last expert: its share is added too. -/
theorem scratch_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x16 .f32) (harg4 : arg4.IsWhole) (arg5 : Memref sig .tc .vmem S1x1x1x1x1024 .f32) (harg5 : arg5.IsWhole) (arg6 : Memref sig .tc .vmem S1x1x1024x512 .bf16) (harg6 : arg6.IsWhole) (arg7 : Memref sig .tc .vmem S1x1x1024x512 .bf16) (harg7 : arg7.IsWhole) (arg8 : Memref sig .tc .vmem S1x1x512x1024 .bf16) (harg8 : arg8.IsWhole) (arg9 : Memref sig .tc .vmem S1x1024x1024 .f32) (harg9 : arg9.IsWhole) (arg10 : Memref sig .tc .vmem S1024x1024 .f32) (harg10 : arg10.IsWhole) (hc0 : ¬cond0_0 i) (hc1 : cond0_1 i)
    (x0 : Vec F S1x1024x1024 .f32) (x1 : Vec F S1024x1024 .bf16) (x2 : Vec F S1024x16 .f32) (x3 : Vec F S1x1x1x1x1024 .f32) (x4 : Vec F S1x1x1024x512 .bf16) (x5 : Vec F S1x1x1024x512 .bf16) (x6 : Vec F S1x1x512x1024 .bf16) (xs0 : Vec F S1024x1024 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay4 i x1 x4 x5 x6 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S1024x1024) hz2]
  unfold k0_pay1
  simp only [View.readAt_eq_ld, harg2.read_unread, harg3.read_unread, harg4.read_unread, harg5.read_unread, harg6.read_unread, harg7.read_unread, harg8.read_unread, harg9.read_unread, harg10.read_unread, View.ld_unit_zero (S := S1024x1024) hz2, View.ld_unit_zero (S := S1024x16) hz2, View.ld_unit_zero (S := S1x1024x1024) hz3, View.ld_unit_zero (S := S1x1x1024x512) hz4, View.ld_unit_zero (S := S1x1x512x1024) hz4, View.ld_unit_zero (S := S1x1x1x1x1024) hz5, shapeCast_self]

/-- The last expert's point writes the block of the result: the input block plus the gated accumulator. -/
theorem output_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x16 .f32) (harg4 : arg4.IsWhole) (arg5 : Memref sig .tc .vmem S1x1x1x1x1024 .f32) (harg5 : arg5.IsWhole) (arg6 : Memref sig .tc .vmem S1x1x1024x512 .bf16) (harg6 : arg6.IsWhole) (arg7 : Memref sig .tc .vmem S1x1x1024x512 .bf16) (harg7 : arg7.IsWhole) (arg8 : Memref sig .tc .vmem S1x1x512x1024 .bf16) (harg8 : arg8.IsWhole) (arg9 : Memref sig .tc .vmem S1x1024x1024 .f32) (harg9 : arg9.IsWhole) (arg10 : Memref sig .tc .vmem S1024x1024 .f32) (harg10 : arg10.IsWhole) (hc0 : ¬cond0_0 i) (hc1 : cond0_1 i)
    (x0 : Vec F S1x1024x1024 .f32) (x1 : Vec F S1024x1024 .bf16) (x2 : Vec F S1024x16 .f32) (x3 : Vec F S1x1x1x1x1024 .f32) (x4 : Vec F S1x1x1024x512 .bf16) (x5 : Vec F S1x1x1024x512 .bf16) (x6 : Vec F S1x1x512x1024 .bf16) (xs0 : Vec F S1024x1024 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay2 x0 x3 (k0_pay4 i x1 x4 x5 x6 x2 xs0) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S1x1024x1024) hz3, View.readCov_unit_zero (S := S1024x1024) _ hz2]
  unfold k0_pay1
  simp only [View.readAt_eq_ld, harg2.read_unread, harg3.read_unread, harg4.read_unread, harg5.read_unread, harg6.read_unread, harg7.read_unread, harg8.read_unread, harg9.read_unread, harg10.read_unread, View.ld_unit_zero (S := S1024x1024) hz2, View.ld_unit_zero (S := S1024x16) hz2, View.ld_unit_zero (S := S1x1024x1024) hz3, View.ld_unit_zero (S := S1x1x1024x512) hz4, View.ld_unit_zero (S := S1x1x512x1024) hz4, View.ld_unit_zero (S := S1x1x1x1x1024) hz5, shapeCast_self]

end Cert.MoeIdeal.Cases

end
-- ==== Proof.MoeBlocks.lean ====
/- What each input window of the expert kernel shows at a grid point, read off the launch arrays.
   Point `t` works on row tile `t / 16` and expert `t % 16`. The host only narrows the arrays to bf16 on the way in,
   which changes nothing over the reals. -/
module

public import proofs.«01_k».proof.Proof.MoeCases
public import Idealize.ShloMosaic.Lib.Pointwise
public import Idealize.ShloMosaic.Lib.StableHlo.Run

@[expose] public section

set_option maxRecDepth 16384

noncomputable section

namespace Cert.MoeIdeal.Blocks

open Cert.MoeIdeal Cert.MoeIdeal.Gen Idealize.ShloMosaic Idealize.ShloMosaic.TcCoe Idealize.SL.Sem Idealize.ShloMosaic.StableHlo

variable (m : (ℓ : Loc nD τ sig) → Buf (Elt Ideal) ℓ)

/-! ## The arrays the host narrowed -/

theorem V_main_v0 (c : Dev nD) : V m c main_v0 = (m ((c : Thread nD τ).loc main_arg4) : S2x16x1024x512.Idx → EReal) := by
  unfold V
  after_results
  rfl
theorem V_main_v1 (c : Dev nD) : V m c main_v1 = (m ((c : Thread nD τ).loc main_arg5) : S2x16x1024x512.Idx → EReal) := by
  unfold V
  after_results
  rfl
theorem V_main_v2 (c : Dev nD) : V m c main_v2 = (m ((c : Thread nD τ).loc main_arg6) : S2x16x512x1024.Idx → EReal) := by
  unfold V
  after_results
  rfl
theorem V_main_v3 (c : Dev nD) : V m c main_v3 = (m ((c : Thread nD τ).loc main_arg1) : S16384x1024.Idx → EReal) := by
  unfold V
  after_results
  rfl

/-! ## Which block each window shows -/

/-- The expert a point works on. -/
theorem coord_expert : ∀ t : Fin cfg0.N, (grid0.coords t 1).val = t.val % 16 :=
  (by decide +kernel : ∀ t : Fin grid0.N, _)

theorem index_x : ∀ t : Fin cfg0.N, win0_0.index t 0 = t.val / 64 ∧ win0_0.index t 1 = t.val / 16 % 4 ∧ win0_0.index t 2 = 0 :=
  (by decide +kernel : ∀ t : Fin grid0.N, _)
theorem index_h : ∀ t : Fin cfg0.N, win0_1.index t 0 = t.val / 16 ∧ win0_1.index t 1 = 0 :=
  (by decide +kernel : ∀ t : Fin grid0.N, _)
theorem index_w : ∀ t : Fin cfg0.N, win0_2.index t 0 = t.val / 16 ∧ win0_2.index t 1 = 0 :=
  (by decide +kernel : ∀ t : Fin grid0.N, _)
theorem index_g : ∀ t : Fin cfg0.N, win0_3.index t 0 = 0 ∧ win0_3.index t 1 = 5 ∧ win0_3.index t 2 = 16 + t.val / 64 ∧ win0_3.index t 3 = 0 ∧ win0_3.index t 4 = 0 :=
  (by decide +kernel : ∀ t : Fin grid0.N, _)
theorem index_gate : ∀ t : Fin cfg0.N, win0_4.index t 0 = 0 ∧ win0_4.index t 1 = t.val % 16 ∧ win0_4.index t 2 = 0 ∧ win0_4.index t 3 = 0 :=
  (by decide +kernel : ∀ t : Fin grid0.N, _)
theorem index_up : ∀ t : Fin cfg0.N, win0_5.index t 0 = 0 ∧ win0_5.index t 1 = t.val % 16 ∧ win0_5.index t 2 = 0 ∧ win0_5.index t 3 = 0 :=
  (by decide +kernel : ∀ t : Fin grid0.N, _)
theorem index_down : ∀ t : Fin cfg0.N, win0_6.index t 0 = 0 ∧ win0_6.index t 1 = t.val % 16 ∧ win0_6.index t 2 = 0 ∧ win0_6.index t 3 = 0 :=
  (by decide +kernel : ∀ t : Fin grid0.N, _)

theorem lt_points (t : Fin cfg0.N) : t.val < 256 := lt_of_lt_of_eq t.isLt N_0

/-- The token a row of the tile stands for. -/
def token (t : Fin cfg0.N) (r : Fin 1024) : Fin 16384 :=
  ⟨1024 * (t.val / 16) + r.val, by have := lt_points t; have := r.isLt; omega⟩
/-- The batch row of a tile. -/
def batch (t : Fin cfg0.N) : Fin 4 := ⟨t.val / 64, by have := lt_points t; omega⟩
/-- The place of a tile's row in its batch row. -/
def place (t : Fin cfg0.N) (r : Fin 1024) : Fin 4096 :=
  ⟨1024 * (t.val / 16 % 4) + r.val, by have := r.isLt; omega⟩
/-- The expert of a point. -/
def expert (t : Fin cfg0.N) : Fin 16 := ⟨t.val % 16, by omega⟩
/-- The row of the modulation table that holds a batch row's gate. -/
def gateRow (b : Fin 4) : Fin 24 := ⟨16 + b.val, by have := b.isLt; omega⟩

/-- The residual stream. -/
theorem x_at (c : Dev nD) (t : Fin cfg0.N) (r d : Fin 1024) :
    (iblk m c 0 t : S1x1024x1024.Idx → EReal) (ix3 0 r d) = (m ((c : Thread nD τ).loc main_arg0) : S4x4096x1024.Idx → EReal) (ix3 (batch t) (place t r) d) := by
  have hi := index_x t
  unfold iblk
  rw [View.read_apply]
  show (V m c main_arg0 : S4x4096x1024.Idx → EReal) _ = _
  rw [V_main_arg0]
  congr 1
  funext a
  apply Fin.ext
  match a with
  | ⟨0, _⟩ => show win0_0.index t 0 * 1 + 1 * 0 = t.val / 64; rw [hi.1] <;> omega
  | ⟨1, _⟩ => show win0_0.index t 1 * 1024 + 1 * r.val = 1024 * (t.val / 16 % 4) + r.val; rw [hi.2.1] <;> omega
  | ⟨2, _⟩ => show win0_0.index t 2 * 1024 + 1 * d.val = d.val; rw [hi.2.2] <;> omega

/-- The normalised hidden rows. -/
theorem h_at (c : Dev nD) (t : Fin cfg0.N) (r d : Fin 1024) :
    (iblk m c 1 t : S1024x1024.Idx → EReal) (ix2 r d) = (m ((c : Thread nD τ).loc main_arg1) : S16384x1024.Idx → EReal) (ix2 (token t r) d) := by
  have hi := index_h t
  unfold iblk
  rw [View.read_apply]
  show (V m c main_v3 : S16384x1024.Idx → EReal) _ = _
  rw [V_main_v3]
  congr 1
  funext a
  apply Fin.ext
  match a with
  | ⟨0, _⟩ => show win0_1.index t 0 * 1024 + 1 * r.val = 1024 * (t.val / 16) + r.val; rw [hi.1] <;> omega
  | ⟨1, _⟩ => show win0_1.index t 1 * 1024 + 1 * d.val = d.val; rw [hi.2] <;> omega

/-- The routing weights. -/
theorem w_at (c : Dev nD) (t : Fin cfg0.N) (r : Fin 1024) (e : Fin 16) :
    (iblk m c 2 t : S1024x16.Idx → EReal) (ix2 r e) = (m ((c : Thread nD τ).loc main_arg2) : S16384x16.Idx → EReal) (ix2 (token t r) e) := by
  have hi := index_w t
  unfold iblk
  rw [View.read_apply]
  show (V m c main_arg2 : S16384x16.Idx → EReal) _ = _
  rw [V_main_arg2]
  congr 1
  funext a
  apply Fin.ext
  match a with
  | ⟨0, _⟩ => show win0_2.index t 0 * 1024 + 1 * r.val = 1024 * (t.val / 16) + r.val; rw [hi.1] <;> omega
  | ⟨1, _⟩ => show win0_2.index t 1 * 16 + 1 * e.val = e.val; rw [hi.2] <;> omega

/-- The residual gate of the batch row. -/
theorem g_at (c : Dev nD) (t : Fin cfg0.N) (d : Fin 1024) :
    (iblk m c 3 t : S1x1x1x1x1024.Idx → EReal) (ix5 0 0 0 0 d) = (m ((c : Thread nD τ).loc main_arg3) : S2x6x24x1x1024.Idx → EReal) (ix5 0 5 (gateRow (batch t)) 0 d) := by
  have hi := index_g t
  unfold iblk
  rw [View.read_apply]
  show (V m c main_arg3 : S2x6x24x1x1024.Idx → EReal) _ = _
  rw [V_main_arg3]
  congr 1
  funext a
  apply Fin.ext
  match a with
  | ⟨0, _⟩ => show win0_3.index t 0 * 1 + 1 * 0 = 0; rw [hi.1] <;> omega
  | ⟨1, _⟩ => show win0_3.index t 1 * 1 + 1 * 0 = 5; rw [hi.2.1] <;> omega
  | ⟨2, _⟩ => show win0_3.index t 2 * 1 + 1 * 0 = 16 + t.val / 64; rw [hi.2.2.1] <;> omega
  | ⟨3, _⟩ => show win0_3.index t 3 * 1 + 1 * 0 = 0; rw [hi.2.2.2.1] <;> omega
  | ⟨4, _⟩ => show win0_3.index t 4 * 1024 + 1 * d.val = d.val; rw [hi.2.2.2.2] <;> omega

/-- The expert's gate weights. -/
theorem gate_at (c : Dev nD) (t : Fin cfg0.N) (k : Fin 1024) (f : Fin 512) :
    (iblk m c 4 t : S1x1x1024x512.Idx → EReal) (ix4 0 0 k f) = (m ((c : Thread nD τ).loc main_arg4) : S2x16x1024x512.Idx → EReal) (ix4 0 (expert t) k f) := by
  have hi := index_gate t
  unfold iblk
  rw [View.read_apply]
  show (V m c main_v0 : S2x16x1024x512.Idx → EReal) _ = _
  rw [V_main_v0]
  congr 1
  funext a
  apply Fin.ext
  match a with
  | ⟨0, _⟩ => show win0_4.index t 0 * 1 + 1 * 0 = 0; rw [hi.1] <;> omega
  | ⟨1, _⟩ => show win0_4.index t 1 * 1 + 1 * 0 = t.val % 16; rw [hi.2.1] <;> omega
  | ⟨2, _⟩ => show win0_4.index t 2 * 1024 + 1 * k.val = k.val; rw [hi.2.2.1] <;> omega
  | ⟨3, _⟩ => show win0_4.index t 3 * 512 + 1 * f.val = f.val; rw [hi.2.2.2] <;> omega

/-- The expert's up weights. -/
theorem up_at (c : Dev nD) (t : Fin cfg0.N) (k : Fin 1024) (f : Fin 512) :
    (iblk m c 5 t : S1x1x1024x512.Idx → EReal) (ix4 0 0 k f) = (m ((c : Thread nD τ).loc main_arg5) : S2x16x1024x512.Idx → EReal) (ix4 0 (expert t) k f) := by
  have hi := index_up t
  unfold iblk
  rw [View.read_apply]
  show (V m c main_v1 : S2x16x1024x512.Idx → EReal) _ = _
  rw [V_main_v1]
  congr 1
  funext a
  apply Fin.ext
  match a with
  | ⟨0, _⟩ => show win0_5.index t 0 * 1 + 1 * 0 = 0; rw [hi.1] <;> omega
  | ⟨1, _⟩ => show win0_5.index t 1 * 1 + 1 * 0 = t.val % 16; rw [hi.2.1] <;> omega
  | ⟨2, _⟩ => show win0_5.index t 2 * 1024 + 1 * k.val = k.val; rw [hi.2.2.1] <;> omega
  | ⟨3, _⟩ => show win0_5.index t 3 * 512 + 1 * f.val = f.val; rw [hi.2.2.2] <;> omega

/-- The expert's down weights. -/
theorem down_at (c : Dev nD) (t : Fin cfg0.N) (f : Fin 512) (d : Fin 1024) :
    (iblk m c 6 t : S1x1x512x1024.Idx → EReal) (ix4 0 0 f d) = (m ((c : Thread nD τ).loc main_arg6) : S2x16x512x1024.Idx → EReal) (ix4 0 (expert t) f d) := by
  have hi := index_down t
  unfold iblk
  rw [View.read_apply]
  show (V m c main_v2 : S2x16x512x1024.Idx → EReal) _ = _
  rw [V_main_v2]
  congr 1
  funext a
  apply Fin.ext
  match a with
  | ⟨0, _⟩ => show win0_6.index t 0 * 1 + 1 * 0 = 0; rw [hi.1] <;> omega
  | ⟨1, _⟩ => show win0_6.index t 1 * 1 + 1 * 0 = t.val % 16; rw [hi.2.1] <;> omega
  | ⟨2, _⟩ => show win0_6.index t 2 * 512 + 1 * f.val = f.val; rw [hi.2.2.1] <;> omega
  | ⟨3, _⟩ => show win0_6.index t 3 * 1024 + 1 * d.val = d.val; rw [hi.2.2.2] <;> omega

end Cert.MoeIdeal.Blocks

end
-- ==== Proof.MoePoint.lean ====
/- One expert's share of the result, element by element: what the kernel's body adds to its accumulator, and the block
   it writes at the end, as sums over the extended reals. -/
module

public import proofs.«01_k».proof.Proof.Gen.MoeIdeal.Skeleton
public import Idealize.ShloMosaic.Lib.Pointwise

@[expose] public section

set_option maxRecDepth 16384

noncomputable section

namespace Cert.MoeIdeal.Point

open Cert.MoeIdeal Cert.MoeIdeal.Gen Idealize.ShloMosaic Idealize.ShloMosaic.TcCoe Idealize.SL.Sem

/-- The zero block, read. -/
theorem zero_at (j : S1024x1024.Idx) : (k0_pay3 : FVec Ideal S1024x1024 .f32) j = 0 := by
  pointwise [k0_pay3]

/-- One expert's output at hidden row `n` and feature `d`: the down projection of the gated hidden values, with the
    routing weight in front. The arrays are the layer's own, indexed by token and expert. -/
def share (h : S16384x1024.Idx → EReal) (w : S16384x16.Idx → EReal) (wg wu : S2x16x1024x512.Idx → EReal)
    (wd : S2x16x512x1024.Idx → EReal) (n : Fin 16384) (e : Fin 16) (d : Fin 1024) : EReal :=
  w (ix2 n e) * ∑ f : Fin 512,
    ((∑ k : Fin 1024, h (ix2 n k) * wg (ix4 0 e k f)) * Ideal.logistic (∑ k : Fin 1024, h (ix2 n k) * wg (ix4 0 e k f)) *
        ∑ k : Fin 1024, h (ix2 n k) * wu (ix4 0 e k f)) * wd (ix4 0 e f d)

theorem same_expert : ∀ x e : Fin 16, IntOp.cmpi CmpIPredicate.eq (BitVec.ofNat 32 x.val) (BitVec.ofNat 32 e.val)
    = if x = e then 1#1 else 0#1 := by decide

/-- Masking all but one expert's column and adding the columns up leaves that expert's weight. -/
theorem pick_weight (e : Fin 16) (g : Fin 16 → EReal) :
    (∑ x : Fin 16, Scalar.select (IntOp.cmpi CmpIPredicate.eq (BitVec.ofNat 32 x.val) (BitVec.ofNat 32 e.val)) (g x) 0) = g e := by
  rw [Finset.sum_eq_single e]
  · rw [same_expert, if_pos rfl]; rfl
  · intro x _ hx
    rw [same_expert, if_neg hx]; rfl
  · intro h; exact absurd (Finset.mem_univ e) h

/-- The body's step, read: the accumulator plus the expert's weight times its down projection. -/
theorem step_at (i : grid0.Coords) (e : Fin 16) (he : (i 1).val = e.val) (h : Vec Ideal S1024x1024 .bf16) (wg wu : Vec Ideal S1x1x1024x512 .bf16)
    (wd : Vec Ideal S1x1x512x1024 .bf16) (w : Vec Ideal S1024x16 .f32) (acc : Vec Ideal S1024x1024 .f32) (r d : Fin 1024) :
    k0_pay4 i h wg wu wd w acc (ix2 r d) = (acc (ix2 r d) : EReal) + w (ix2 r e) * ∑ f : Fin 512,
      ((∑ k : Fin 1024, (h (ix2 r k) : EReal) * wg (ix4 0 0 k f)) * Ideal.logistic (∑ k : Fin 1024, (h (ix2 r k) : EReal) * wg (ix4 0 0 k f)) *
        ∑ k : Fin 1024, (h (ix2 r k) : EReal) * wu (ix4 0 0 k f)) * wd (ix4 0 0 f d) := by
  pointwise [k0_pay4]
  rw [he, pick_weight e fun x => w (ix2 r x)]

/-- The result block, read. -/
theorem block_at (x : Vec Ideal S1x1024x1024 .f32) (g : Vec Ideal S1x1x1x1x1024 .f32) (acc : Vec Ideal S1024x1024 .f32) (r d : Fin 1024) :
    k0_pay2 x g acc (ix3 0 r d) = (x (ix3 0 r d) : EReal) + g (ix5 0 0 0 0 d) * acc (ix2 r d) := by
  pointwise [k0_pay2]

end Cert.MoeIdeal.Point

end
-- ==== Proof.MoeValue.lean ====
/- The expert kernel's result array, element by element: the residual stream plus the batch row's gate times the sum over
   the sixteen experts of their weighted outputs. The accumulator after `k + 1` experts holds the first `k + 1` shares;
   the last expert's point writes the block. -/
module

public import proofs.«01_k».proof.Proof.MoeBlocks
public import proofs.«01_k».proof.Proof.MoePoint

@[expose] public section

set_option maxRecDepth 16384

noncomputable section

namespace Cert.MoeIdeal.Result

open Cert.MoeIdeal Cert.MoeIdeal.Gen Cert.MoeIdeal.Cases Cert.MoeIdeal.Blocks Cert.MoeIdeal.Point
open Idealize.ShloMosaic Idealize.ShloMosaic.TcCoe Idealize.SL.Sem

variable (m : (ℓ : Loc nD τ sig) → Buf (Elt Ideal) ℓ)

/-- The shares of the launch arrays. -/
abbrev shareOf (c : Dev nD) (n : Fin 16384) (e : Fin 16) (d : Fin 1024) : EReal :=
  share (m ((c : Thread nD τ).loc main_arg1)) (m ((c : Thread nD τ).loc main_arg2)) (m ((c : Thread nD τ).loc main_arg4))
    (m ((c : Thread nD τ).loc main_arg5)) (m ((c : Thread nD τ).loc main_arg6)) n e d

/-- One point's step over an accumulator: the point's expert adds its share of the token. -/
theorem point_step (c : Dev nD) (t : Fin cfg0.N) (acc : Vec Ideal S1024x1024 .f32) (r d : Fin 1024) :
    k0_pay4 (grid0.coords t) (iblk m c 1 t) (iblk m c 4 t) (iblk m c 5 t) (iblk m c 6 t) (iblk m c 2 t) acc (ix2 r d)
      = (acc (ix2 r d) : EReal) + shareOf m c (token t r) (expert t) d := by
  refine (step_at (grid0.coords t) (expert t) (coord_expert t) (iblk m c 1 t) (iblk m c 4 t) (iblk m c 5 t) (iblk m c 6 t)
    (iblk m c 2 t) acc r d).trans ?_
  simp only [h_at m c t, w_at m c t, gate_at m c t, up_at m c t, down_at m c t]
  rfl

/-- The accumulator after point `n`: the shares of the experts up to the point's own. -/
theorem scratch_at (c : Dev nD) (r d : Fin 1024) : ∀ (k n : ℕ) (hn : n < cfg0.N), n % 16 = k →
    ((outsAt0 m c n hn).2 (ix2 r d) : EReal)
      = ∑ e ∈ Finset.range (k + 1), shareOf m c (token ⟨n, hn⟩ r) (Fin.ofNat 16 e) d := by
  intro k
  induction k with
  | zero =>
    intro n hn hk
    rw [outsAt0_A m c ⟨n, hn⟩ hk (by dsimp only; omega)]
    dsimp only
    rw [scratch_A, point_step, zero_at, zero_add, Finset.sum_range_one]
    congr 1
    exact Fin.ext (by show n % 16 = _; rw [hk]; rfl)
  | succ k ih =>
    intro n hn hk
    have hlt : n < 256 := lt_points ⟨n, hn⟩
    have hprev : n - 1 < cfg0.N := Nat.lt_of_le_of_lt (Nat.sub_le _ _) hn
    have hexp : expert ⟨n, hn⟩ = Fin.ofNat 16 (k + 1) :=
      Fin.ext (by show n % 16 = (k + 1) % 16; omega)
    have htok : token ⟨n - 1, hprev⟩ r = token ⟨n, hn⟩ r :=
      Fin.ext (by show 1024 * ((n - 1) / 16) + r.val = 1024 * (n / 16) + r.val; omega)
    have hacc := ih (n - 1) hprev (by omega)
    rw [htok] at hacc
    rw [Finset.sum_range_succ, ← hexp, ← hacc]
    by_cases hl : n % 16 = 15
    · rw [outsAt0_C m c ⟨n, hn⟩ (by dsimp only; omega) hl]
      dsimp only
      rw [scratch_C, point_step]
    · rw [outsAt0_B m c ⟨n, hn⟩ (by dsimp only; omega) hl]
      dsimp only
      rw [scratch_B, point_step]

/-- The row of the flattened token array for a batch row and a place in it. -/
def flat (b : Fin 4) (s : Fin 4096) : Fin 16384 := ⟨4096 * b.val + s.val, by have := b.isLt; have := s.isLt; omega⟩

/-- The layer's output at a batch row, a place in it and a feature: the residual stream plus the gate times the sum of
    the experts' shares. -/
def layerOut (x : S4x4096x1024.Idx → EReal) (h : S16384x1024.Idx → EReal) (w : S16384x16.Idx → EReal)
    (mod : S2x6x24x1x1024.Idx → EReal) (wg wu : S2x16x1024x512.Idx → EReal) (wd : S2x16x512x1024.Idx → EReal)
    (b : Fin 4) (s : Fin 4096) (d : Fin 1024) : EReal :=
  x (ix3 b s d) + mod (ix5 0 5 (gateRow b) 0 d) * ∑ e : Fin 16, share h w wg wu wd (flat b s) e d

/-- The layer's output over the launch arrays. -/
abbrev outOf (c : Dev nD) (b : Fin 4) (s : Fin 4096) (d : Fin 1024) : EReal :=
  layerOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b s d

/-- The block a row tile's last point writes. -/
theorem output_at (c : Dev nD) (n : ℕ) (hn : n < cfg0.N) (hl : n % 16 = 15) (r d : Fin 1024) :
    ((outsAt0 m c n hn).1 (ix3 0 r d) : EReal) = outOf m c (batch ⟨n, hn⟩) (place ⟨n, hn⟩ r) d := by
  have htok : flat (batch ⟨n, hn⟩) (place ⟨n, hn⟩ r) = token ⟨n, hn⟩ r :=
    Fin.ext (by show 4096 * (n / 64) + (1024 * (n / 16 % 4) + r.val) = 1024 * (n / 16) + r.val; omega)
  unfold outOf layerOut
  rw [htok]
  have hs := scratch_at m c r d 15 n hn hl
  rw [outsAt0_C m c ⟨n, hn⟩ (by dsimp only; omega) hl] at hs ⊢
  dsimp only at hs ⊢
  rw [scratch_C] at hs
  rw [output_C, block_at, hs, Finset.sum_range]
  refine congrArg₂ (· + ·) (x_at m c ⟨n, hn⟩ r d) (congrArg₂ (· * ·) (g_at m c ⟨n, hn⟩ d) ?_)
  refine Finset.sum_congr rfl fun e _ => ?_
  congr 1
  exact Fin.ext (Nat.mod_eq_of_lt e.isLt)

/-- The result array, read at an index. -/
theorem result_at (c : Dev nD) (b : Fin 4) (s : Fin 4096) (d : Fin 1024) :
    (Value.G7 m c : S4x4096x1024.Idx → EReal) (ix3 b s d) = outOf m c b s d := by
  have hb := b.isLt
  have hs := s.isLt
  have hd := d.isLt
  have hp : Value.pt7Of (ix3 b s d) = 16 * (4 * b.val + s.val / 1024) + 15 := by
    show 16 * (4 * (b.val / 1 - 0) + 1 * (s.val / 1024 - 0) + 1 * (d.val / 1024 - 0)) + 15 = _
    omega
  have hlt : Value.pt7Of (ix3 b s d) < cfg0.N := by rw [hp, show cfg0.N = 256 from N_0]; omega
  unfold Value.G7
  rw [dif_pos hlt, ← Value.outsAt0_sweep m c _ hlt]
  have hloc : Value.loc7Of (ix3 b s d) = ix3 0 ⟨s.val % 1024, Nat.mod_lt _ (by decide)⟩ d := by
    funext a
    match a with
    | ⟨0, _⟩ => exact Fin.ext (by show b.val % 1 = 0; omega)
    | ⟨1, _⟩ => rfl
    | ⟨2, _⟩ => exact Fin.ext (by show d.val % 1024 = d.val; omega)
  rw [hloc]
  refine (output_at m c _ hlt (by rw [hp]; omega) _ d).trans ?_
  have h1 : batch ⟨Value.pt7Of (ix3 b s d), hlt⟩ = b := Fin.ext (by show Value.pt7Of (ix3 b s d) / 64 = _; rw [hp]; omega)
  have h2 : place ⟨Value.pt7Of (ix3 b s d), hlt⟩ ⟨s.val % 1024, Nat.mod_lt _ (by decide)⟩ = s :=
    Fin.ext (by show 1024 * (Value.pt7Of (ix3 b s d) / 16 % 4) + s.val % 1024 = _; rw [hp]; omega)
  rw [h1, h2]

end Cert.MoeIdeal.Result

end
-- ==== Proof.MoeRef.lean ====
/- The mixture of experts of the reference, read element by element, and the equality with the kernel's result. -/
module

public import proofs.«01_k».proof.Proof.Gen.MoeRefIdeal.Run
public import proofs.«01_k».proof.Proof.MoeValue
public import Idealize.ShloMosaic.Lib.Pointwise

@[expose] public section

set_option maxRecDepth 16384

noncomputable section

namespace Cert.MoeRefIdeal.Read

open Cert.MoeRefIdeal Cert.MoeRefIdeal.Gen Idealize.ShloMosaic Idealize.ShloMosaic.TcCoe Idealize.SL.Sem Idealize.ShloMosaic.StableHlo

/-- The reference's composed term over the seven argument arrays. -/
def term (x : FVec Ideal S4x4096x1024 .f32) (h : FVec Ideal S16384x1024 .f32) (w : FVec Ideal S16384x16 .f32) (mod : FVec Ideal S2x6x24x1x1024 .f32)
    (wg wu : FVec Ideal S2x16x1024x512 .f32) (wd : FVec Ideal S2x16x512x1024 .f32) : FVec Ideal S4x4096x1024 .f32 :=
  addf x (mulf (broadcastInDim S4x4096x1024 ![0, 1, 2] bcast_S4x1x1024_S4x4096x1024_0_1_2 (shapeCast _ (extractStridedSlice S1x1x4x1x1024 ![0, 5, 16, 0, 0] mod slices_S2x6x24x1x1024_S1x1x4x1x1024_0_5_16_0_0) shapeCasts_S1x1x4x1x1024_S4x1x1024)) (shapeCast _ (Host.reduceAdd (mulf (broadcastInDim S16384x16x1024 ![0, 1, 2] bcast_S16384x16x1_S16384x16x1024_0_1_2 (broadcastInDim S16384x16x1 ![0, 1] bcast_S16384x16_S16384x16x1_0_1 w)) (transpose S16384x16x1024 [2, 0, 1] (Host.dotGeneral dot_S16x512x1024_S16384x16x512_S16x1024x16384_1_2_2_0_0_1 none (shapeCast _ (extractStridedSlice S1x16x512x1024 ![0, 0, 0, 0] wd slices_S2x16x512x1024_S1x16x512x1024_0_0_0_0) shapeCasts_S1x16x512x1024_S16x512x1024) (mulf (mulf (Host.dotGeneral dot_S16384x1024_S16x1024x512_S16384x16x512_1_1_0_02_n_n none h (shapeCast _ (extractStridedSlice S1x16x1024x512 ![0, 0, 0, 0] wg slices_S2x16x1024x512_S1x16x1024x512_0_0_0_0) shapeCasts_S1x16x1024x512_S16x1024x512)) (Host.divf (broadcastInDim S16384x16x512 ![] bcast_S_S16384x16x512 (constant S_ .f32 0x3F800000#32)) (addf (broadcastInDim S16384x16x512 ![] bcast_S_S16384x16x512 (constant S_ .f32 0x3F800000#32)) (Host.exp (Host.negf (Host.dotGeneral dot_S16384x1024_S16x1024x512_S16384x16x512_1_1_0_02_n_n none h (shapeCast _ (extractStridedSlice S1x16x1024x512 ![0, 0, 0, 0] wg slices_S2x16x1024x512_S1x16x1024x512_0_0_0_0) shapeCasts_S1x16x1024x512_S16x1024x512))))))) (Host.dotGeneral dot_S16384x1024_S16x1024x512_S16384x16x512_1_1_0_02_n_n none h (shapeCast _ (extractStridedSlice S1x16x1024x512 ![0, 0, 0, 0] wu slices_S2x16x1024x512_S1x16x1024x512_0_0_0_0) shapeCasts_S1x16x1024x512_S16x1024x512)))) transposes_S16x1024x16384_S16384x16x1024_2_0_1)) (constant S_ .f32 0x00000000#32) reducesTo_S16384x16x1024_S16384x1024_d1 h_S_) shapeCasts_S16384x1024_S4x4096x1024))

theorem term_at (x : FVec Ideal S4x4096x1024 .f32) (h : FVec Ideal S16384x1024 .f32) (w : FVec Ideal S16384x16 .f32) (mod : FVec Ideal S2x6x24x1x1024 .f32)
    (wg wu : FVec Ideal S2x16x1024x512 .f32) (wd : FVec Ideal S2x16x512x1024 .f32) (b : Fin 4) (s : Fin 4096) (d : Fin 1024) :
    (term x h w mod wg wu wd (ix3 b s d) : EReal) = Cert.MoeIdeal.Result.layerOut x h w mod wg wu wd b s d := by
  have hn : ∀ h : b.val * 4096 + s.val < 16384, (⟨b.val * 4096 + s.val, h⟩ : Fin 16384) = Cert.MoeIdeal.Result.flat b s :=
    fun _ => Fin.ext (by show b.val * 4096 + s.val = 4096 * b.val + s.val; omega)
  pointwise [term]
  unfold Cert.MoeIdeal.Result.layerOut Cert.MoeIdeal.Point.share
  simp only [hn]
  refine congrArg₂ (· + ·) rfl (congrArg₂ (· * ·) rfl (Finset.sum_congr rfl fun e _ => congrArg₂ (· * ·) rfl
    (Finset.sum_congr rfl fun f _ => ?_)))
  rw [mul_comm]
  rfl

/-- The reference's result array is the kernel's, as functions of the seven arrays. -/
theorem result_eq (m : (ℓ : Loc Cert.MoeIdeal.nD Cert.MoeIdeal.τ Cert.MoeIdeal.sig) → Buf (Elt Ideal) ℓ) (c : Dev Cert.MoeIdeal.nD) :
    (Cert.MoeIdeal.Value.G7 m c : S4x4096x1024.Idx → EReal)
      = term (m ((c.tc : Thread Cert.MoeIdeal.nD Cert.MoeIdeal.τ).loc Cert.MoeIdeal.main_arg0)) (m ((c.tc : Thread Cert.MoeIdeal.nD Cert.MoeIdeal.τ).loc Cert.MoeIdeal.main_arg1))
          (m ((c.tc : Thread Cert.MoeIdeal.nD Cert.MoeIdeal.τ).loc Cert.MoeIdeal.main_arg2)) (m ((c.tc : Thread Cert.MoeIdeal.nD Cert.MoeIdeal.τ).loc Cert.MoeIdeal.main_arg3))
          (m ((c.tc : Thread Cert.MoeIdeal.nD Cert.MoeIdeal.τ).loc Cert.MoeIdeal.main_arg4)) (m ((c.tc : Thread Cert.MoeIdeal.nD Cert.MoeIdeal.τ).loc Cert.MoeIdeal.main_arg5))
          (m ((c.tc : Thread Cert.MoeIdeal.nD Cert.MoeIdeal.τ).loc Cert.MoeIdeal.main_arg6)) := by
  funext j
  idx_vars j
  exact (Cert.MoeIdeal.Result.result_at m c j0 j1 j2).trans (term_at _ _ _ _ _ _ _ j0 j1 j2).symm

end Cert.MoeRefIdeal.Read

end
-- ==== Proof.MoeClaims.lean ====
/- The five claims about the expert kernel: the three programs run and keep their arguments, the idealization changes
   nothing, and kernel and reference agree over the extended reals. -/
module

public import proofs.«01_k».proof.Defs
public import proofs.«01_k».proof.Proof.Gen.Moe.Frame
public import proofs.«01_k».proof.Proof.MoeRef
public import Idealize.ShloMosaic.Lib.Quiescent

@[expose] public section

noncomputable section

namespace Cert.Proof.MoeClaims

open Idealize.ShloMosaic Idealize.ShloMosaic.TcCoe Idealize.SL.Sem

theorem frame_kernel : Cert.quiescent_Moe := fun m ρ _ => Cert.Moe.Gen.frame m ρ

theorem frame_ideal : Cert.quiescent_MoeIdeal := fun m ρ _ => Cert.MoeIdeal.Gen.frame m ρ

theorem frame_reference : Cert.quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

theorem preserves : Cert.preserves_Moe_MoeIdeal := trivial

theorem algebraic : Cert.algebraic_MoeIdeal_MoeRefIdeal := by
  intro m ρ m' ρ' _ hagree
  refine ⟨fun c => Cert.MoeIdeal.Value.G7 m c, Cert.MoeIdeal.Value.run (F := Ideal) m ρ, ?_⟩
  refine (θ_run Cert.MoeRefIdeal.defs _ _).mono (fun _ h c => ⟨(h c).1.trans ?_, (h c).2⟩)
    (Cert.MoeRefIdeal.Value.run (F := Ideal) m' ρ')
  obtain ⟨h0, h1, h2, h3, h4, h5, h6⟩ := hagree c
  rw [h0, h1, h2, h3, h4, h5, h6]
  exact (Cert.MoeRefIdeal.Read.result_eq m c).symm

end Cert.Proof.MoeClaims

end
-- ==== Proof.ProjBody.lean ====
/-
  The body of the projection kernel `Cert.ProjIdeal`: the rectangles it stores, what its buffers hold
  after it, and its triple.
-/
module

public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.ProjIdeal

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev r0_0 : Rect S1x256x1024 := Rect.unit (s := S1x256x1024) ![0, 0, 0] S1x256x1024.size inb_S1x256x1024_S1x256x1024_0_0_0
abbrev r0_1 : Rect S1x1x1024 := Rect.unit (s := S1x1x1024) ![0, 0, 0] S1x1x1024.size inb_S1x1x1024_S1x1x1024_0_0_0
abbrev r0_2 : Rect S1x1x1x1x1024 := Rect.unit (s := S1x1x1x1x1024) ![0, 0, 0, 0, 0] S1x1x1x1x1024.size inb_S1x1x1x1x1024_S1x1x1x1x1024_0_0_0_0_0
abbrev r0_3 : Rect S256x128 := Rect.unit (s := S256x128) ![0, 0] S256x128.size inb_S256x128_S256x128_0_0
abbrev r0_4 : Rect S128x128 := Rect.unit (s := S128x128) ![0, 0] S128x128.size inb_S128x128_S128x128_0_0
abbrev r0_5 : Rect S1x1x128 := Rect.unit (s := S1x1x128) ![0, 0, 0] S1x1x128.size inb_S1x1x128_S1x1x128_0_0_0
abbrev r0_6 : Rect S1x1024x5120 := Rect.unit (s := S1x1024x5120) ![0, 0, 0] S1x1024x512.size inb_S1x1024x5120_S1x1024x512_0_0_0
abbrev r0_7 : Rect S256x512 := Rect.unit (s := S256x512) ![0, 0] S256x128.size inb_S256x512_S256x128_0_0
abbrev r0_8 : Rect S256x512 := Rect.unit (s := S256x512) ![0, 128] S256x128.size inb_S256x512_S256x128_0_128
abbrev r0_9 : Rect S256x512 := Rect.unit (s := S256x512) ![0, 256] S256x128.size inb_S256x512_S256x128_0_256
abbrev r0_10 : Rect S256x512 := Rect.unit (s := S256x512) ![0, 384] S256x128.size inb_S256x512_S256x128_0_384
abbrev r0_11 : Rect S1x1024x5120 := Rect.unit (s := S1x1024x5120) ![0, 0, 512] S1x1024x256.size inb_S1x1024x5120_S1x1024x256_0_0_512
abbrev r0_12 : Rect S1x1024x5120 := Rect.unit (s := S1x1024x5120) ![0, 0, 768] S1x1024x256.size inb_S1x1024x5120_S1x1024x256_0_0_768
abbrev r0_13 : Rect S1x1x256x256 := Rect.unit (s := S1x1x256x256) ![0, 0, 0, 0] S1x1x128x256.size inb_S1x1x256x256_S1x1x128x256_0_0_0_0
abbrev r0_14 : Rect S1x128x256 := Rect.unit (s := S1x128x256) ![0, 0, 0] S1x64x256.size inb_S1x128x256_S1x64x256_0_0_0
abbrev r0_15 : Rect S1x1x256x256 := Rect.unit (s := S1x1x256x256) ![0, 0, 128, 0] S1x1x128x256.size inb_S1x1x256x256_S1x1x128x256_0_0_128_0
abbrev r0_16 : Rect S1x128x256 := Rect.unit (s := S1x128x256) ![0, 64, 0] S1x64x256.size inb_S1x128x256_S1x64x256_0_64_0
abbrev r0_17 : Rect S256x256 := Rect.unit (s := S256x256) ![0, 0] S256x128.size inb_S256x256_S256x128_0_0
abbrev r0_18 : Rect S256x256 := Rect.unit (s := S256x256) ![0, 128] S256x128.size inb_S256x256_S256x128_0_128
abbrev r0_19 : Rect S1x1024x5120 := Rect.unit (s := S1x1024x5120) ![0, 0, 1024] S1x1024x256.size inb_S1x1024x5120_S1x1024x256_0_0_1024
abbrev r0_20 : Rect S1x1024x5120 := Rect.unit (s := S1x1024x5120) ![0, 0, 1280] S1x1024x128.size inb_S1x1024x5120_S1x1024x128_0_0_1280
abbrev r0_21 : Rect S1x1x128x256 := Rect.unit (s := S1x1x128x256) ![0, 0, 0, 0] S1x1x128x256.size inb_S1x1x128x256_S1x1x128x256_0_0_0_0
abbrev r0_22 : Rect S1x64x256 := Rect.unit (s := S1x64x256) ![0, 0, 0] S1x64x256.size inb_S1x64x256_S1x64x256_0_0_0
abbrev r0_23 : Rect S1x1024x5120 := Rect.unit (s := S1x1024x5120) ![0, 0, 1408] S1x1024x128.size inb_S1x1024x5120_S1x1024x128_0_0_1408
abbrev r0_24 : Rect S256x8 := Rect.unit (s := S256x8) ![0, 0] S256x8.size inb_S256x8_S256x8_0_0
abbrev r0_25 : Rect S1x1024x5120 := Rect.unit (s := S1x1024x5120) ![0, 0, 1536] S1x1024x512.size inb_S1x1024x5120_S1x1024x512_0_0_1536
abbrev r0_26 : Rect S256x512 := Rect.unit (s := S256x512) ![0, 0] S256x512.size inb_S256x512_S256x512_0_0
abbrev r0_27 : Rect S1x1024x5120 := Rect.unit (s := S1x1024x5120) ![0, 0, 2048] S1x1024x512.size inb_S1x1024x5120_S1x1024x512_0_0_2048
abbrev r0_28 : Rect S1x1x512x256 := Rect.unit (s := S1x1x512x256) ![0, 0, 0, 0] S1x1x512x256.size inb_S1x1x512x256_S1x1x512x256_0_0_0_0
abbrev r0_29 : Rect S1x512x256 := Rect.unit (s := S1x512x256) ![0, 0, 0] S1x512x256.size inb_S1x512x256_S1x512x256_0_0_0
abbrev r0_30 : Rect S1x1024x5120 := Rect.unit (s := S1x1024x5120) ![0, 0, 2560] S1x1024x512.size inb_S1x1024x5120_S1x1024x512_0_0_2560
abbrev r0_31 : Rect S1x1024x5120 := Rect.unit (s := S1x1024x5120) ![0, 0, 3072] S1x1024x512.size inb_S1x1024x5120_S1x1024x512_0_0_3072
abbrev r0_32 : Rect S256x2048 := Rect.unit (s := S256x2048) ![0, 0] S256x512.size inb_S256x2048_S256x512_0_0
abbrev r0_33 : Rect S1x1024x5120 := Rect.unit (s := S1x1024x5120) ![0, 0, 3584] S1x1024x512.size inb_S1x1024x5120_S1x1024x512_0_0_3584
abbrev r0_34 : Rect S256x2048 := Rect.unit (s := S256x2048) ![0, 512] S256x512.size inb_S256x2048_S256x512_0_512
abbrev r0_35 : Rect S1x1024x5120 := Rect.unit (s := S1x1024x5120) ![0, 0, 4096] S1x1024x512.size inb_S1x1024x5120_S1x1024x512_0_0_4096
abbrev r0_36 : Rect S256x2048 := Rect.unit (s := S256x2048) ![0, 1024] S256x512.size inb_S256x2048_S256x512_0_1024
abbrev r0_37 : Rect S1x1024x5120 := Rect.unit (s := S1x1024x5120) ![0, 0, 4608] S1x1024x512.size inb_S1x1024x5120_S1x1024x512_0_0_4608
abbrev r0_38 : Rect S256x2048 := Rect.unit (s := S256x2048) ![0, 1536] S256x512.size inb_S256x2048_S256x512_0_1536

def k0_pay53 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : FVec F S256x1024 .bf16 :=
  k0_pay5 (View.ld x0 r0_0) (View.ld x3 r0_1) (View.ld x2 r0_2) (View.ld x1 r0_2) -- `v27`
def k0_pay54 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : FVec F S256x128 .f32 :=
  k0_pay6 (View.ld x5 r0_3) -- `v29`
def k0_pay55 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : FVec F S256x128 .f32 :=
  k0_pay7 (View.ld x6 r0_3) -- `v31`
def k0_pay56 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : IVec S256x128 32 :=
  iota .tc S256x128 32 [1] iota_S256x128_d1_w32 -- `v33`
def k0_pay57 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : IVec S256x128 1 :=
  k0_pay8 -- `v37`
def k0_pay58 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : IVec S256x128 1 :=
  k0_pay9 -- `v39`
def k0_pay59 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : FVec F S1x128 .f32 :=
  k0_pay10 (View.ld x7 r0_5) -- `v41`
def k0_pay60 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : FVec F S1x128 .f32 :=
  k0_pay11 (View.ld x8 r0_5) -- `v43`
def k0_pay61 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : FVec F S256x512 .f32 :=
  k0_pay12 (k0_pay53 x0 x1 x2 x3 x4 x5 x6 x7 x8 x9) (View.ld x4 r0_6) -- `v46`
def k0_pay62 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : FVec F S1024x256 .bf16 :=
  k0_pay18 (View.ld x4 r0_11) -- `v156`
def k0_pay63 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : FVec F S256x128 .f32 :=
  k0_pay20 (k0_pay53 x0 x1 x2 x3 x4 x5 x6 x7 x8 x9) (k0_pay54 x0 x1 x2 x3 x4 x5 x6 x7 x8 x9) (k0_pay55 x0 x1 x2 x3 x4 x5 x6 x7 x8 x9) (View.ld x9 r0_4) (k0_pay57 x0 x1 x2 x3 x4 x5 x6 x7 x8 x9) (k0_pay60 x0 x1 x2 x3 x4 x5 x6 x7 x8 x9) (k0_pay62 x0 x1 x2 x3 x4 x5 x6 x7 x8 x9) -- `v180`
def k0_pay64 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : FVec F S256x128 .f32 :=
  k0_pay21 (k0_pay53 x0 x1 x2 x3 x4 x5 x6 x7 x8 x9) (k0_pay54 x0 x1 x2 x3 x4 x5 x6 x7 x8 x9) (k0_pay55 x0 x1 x2 x3 x4 x5 x6 x7 x8 x9) (View.ld x9 r0_4) (k0_pay57 x0 x1 x2 x3 x4 x5 x6 x7 x8 x9) (k0_pay60 x0 x1 x2 x3 x4 x5 x6 x7 x8 x9) (k0_pay62 x0 x1 x2 x3 x4 x5 x6 x7 x8 x9) -- `v203`
def k0_pay65 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : FVec F S256x256 .f32 :=
  k0_pay22 (k0_pay53 x0 x1 x2 x3 x4 x5 x6 x7 x8 x9) (View.ld x4 r0_12) -- `v206`

def out0_10 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : Vec F S256x512 .bf16 :=
  View.canon [⟨r0_10, k0_pay17 (k0_pay54 x0 x1 x2 x3 x4 x5 x6 x7 x8 x9) (k0_pay55 x0 x1 x2 x3 x4 x5 x6 x7 x8 x9) (View.ld x9 r0_4) (k0_pay57 x0 x1 x2 x3 x4 x5 x6 x7 x8 x9) (k0_pay59 x0 x1 x2 x3 x4 x5 x6 x7 x8 x9) (k0_pay61 x0 x1 x2 x3 x4 x5 x6 x7 x8 x9)⟩,
    ⟨r0_9, k0_pay16 (k0_pay54 x0 x1 x2 x3 x4 x5 x6 x7 x8 x9) (k0_pay55 x0 x1 x2 x3 x4 x5 x6 x7 x8 x9) (k0_pay57 x0 x1 x2 x3 x4 x5 x6 x7 x8 x9) (k0_pay59 x0 x1 x2 x3 x4 x5 x6 x7 x8 x9) (k0_pay15 (View.ld x9 r0_4) (k0_pay61 x0 x1 x2 x3 x4 x5 x6 x7 x8 x9))⟩,
    ⟨r0_8, k0_pay14 (k0_pay54 x0 x1 x2 x3 x4 x5 x6 x7 x8 x9) (k0_pay55 x0 x1 x2 x3 x4 x5 x6 x7 x8 x9) (View.ld x9 r0_4) (k0_pay57 x0 x1 x2 x3 x4 x5 x6 x7 x8 x9) (k0_pay59 x0 x1 x2 x3 x4 x5 x6 x7 x8 x9) (k0_pay61 x0 x1 x2 x3 x4 x5 x6 x7 x8 x9)⟩,
    ⟨r0_7, k0_pay13 (k0_pay53 x0 x1 x2 x3 x4 x5 x6 x7 x8 x9) (k0_pay54 x0 x1 x2 x3 x4 x5 x6 x7 x8 x9) (k0_pay55 x0 x1 x2 x3 x4 x5 x6 x7 x8 x9) (View.ld x9 r0_4) (View.ld x7 r0_5) (View.ld x4 r0_6)⟩]

theorem cover0_10 (p0 : Vec F S256x128 .bf16) (p1 : Vec F S256x128 .bf16) (p2 : Vec F S256x128 .bf16) (p3 : Vec F S256x128 .bf16) (y : S256x512.Idx) :
    ∃ pc ∈ ([⟨r0_10, p0⟩, ⟨r0_9, p1⟩, ⟨r0_8, p2⟩, ⟨r0_7, p3⟩] : List (View.Piece (Elt F) S256x512 .bf16)), y ∈ pc.1.set :=
  View.cover_of_tiled [⟨r0_10, p0⟩, ⟨r0_9, p1⟩, ⟨r0_8, p2⟩, ⟨r0_7, p3⟩] S256x128.size (by rfl) y

def out0_11 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : Vec F S256x256 .bf16 :=
  View.canon [⟨r0_18, k0_pay39 (k0_pay37 (k0_pay53 x0 x1 x2 x3 x4 x5 x6 x7 x8 x9) (k0_pay54 x0 x1 x2 x3 x4 x5 x6 x7 x8 x9) (k0_pay55 x0 x1 x2 x3 x4 x5 x6 x7 x8 x9) (k0_pay57 x0 x1 x2 x3 x4 x5 x6 x7 x8 x9) (View.ld x4 r0_19)) (k0_pay38 (F := F))⟩,
    ⟨r0_17, k0_pay36 (k0_pay53 x0 x1 x2 x3 x4 x5 x6 x7 x8 x9) (k0_pay54 x0 x1 x2 x3 x4 x5 x6 x7 x8 x9) (k0_pay55 x0 x1 x2 x3 x4 x5 x6 x7 x8 x9) (k0_pay57 x0 x1 x2 x3 x4 x5 x6 x7 x8 x9) (View.ld x4 r0_19)⟩]

theorem cover0_11 (p0 : Vec F S256x128 .bf16) (p1 : Vec F S256x128 .bf16) (y : S256x256.Idx) :
    ∃ pc ∈ ([⟨r0_18, p0⟩, ⟨r0_17, p1⟩] : List (View.Piece (Elt F) S256x256 .bf16)), y ∈ pc.1.set :=
  View.cover_of_tiled [⟨r0_18, p0⟩, ⟨r0_17, p1⟩] S256x128.size (by rfl) y

def out0_12 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : Vec F S256x8 .f32 :=
  View.canon [⟨r0_24, k0_pay43 (k0_pay53 x0 x1 x2 x3 x4 x5 x6 x7 x8 x9) (View.ld x4 r0_23)⟩]

theorem cover0_12 (p0 : Vec F S256x8 .f32) (y : S256x8.Idx) :
    ∃ pc ∈ ([⟨r0_24, p0⟩] : List (View.Piece (Elt F) S256x8 .f32)), y ∈ pc.1.set :=
  View.cover_of_tiled [⟨r0_24, p0⟩] S256x8.size (by rfl) y

def out0_13 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : Vec F S256x512 .bf16 :=
  View.canon [⟨r0_26, k0_pay45 (k0_pay53 x0 x1 x2 x3 x4 x5 x6 x7 x8 x9) (k0_pay44 (View.ld x4 r0_25)) (constant S256x512 .f32 0x00000000#32)⟩]

theorem cover0_13 (p0 : Vec F S256x512 .bf16) (y : S256x512.Idx) :
    ∃ pc ∈ ([⟨r0_26, p0⟩] : List (View.Piece (Elt F) S256x512 .bf16)), y ∈ pc.1.set :=
  View.cover_of_tiled [⟨r0_26, p0⟩] S256x512.size (by rfl) y

def out0_14 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : Vec F S256x2048 .f32 :=
  View.canon [⟨r0_38, k0_pay4 (k0_pay53 x0 x1 x2 x3 x4 x5 x6 x7 x8 x9) (View.ld x4 r0_37)⟩,
    ⟨r0_36, k0_pay3 (k0_pay53 x0 x1 x2 x3 x4 x5 x6 x7 x8 x9) (View.ld x4 r0_35)⟩,
    ⟨r0_34, k0_pay2 (k0_pay53 x0 x1 x2 x3 x4 x5 x6 x7 x8 x9) (View.ld x4 r0_33)⟩,
    ⟨r0_32, k0_pay1 (k0_pay52 (k0_pay53 x0 x1 x2 x3 x4 x5 x6 x7 x8 x9) (View.ld x4 r0_31))⟩]

theorem cover0_14 (p0 : Vec F S256x512 .f32) (p1 : Vec F S256x512 .f32) (p2 : Vec F S256x512 .f32) (p3 : Vec F S256x512 .f32) (y : S256x2048.Idx) :
    ∃ pc ∈ ([⟨r0_38, p0⟩, ⟨r0_36, p1⟩, ⟨r0_34, p2⟩, ⟨r0_32, p3⟩] : List (View.Piece (Elt F) S256x2048 .f32)), y ∈ pc.1.set :=
  View.cover_of_tiled [⟨r0_38, p0⟩, ⟨r0_36, p1⟩, ⟨r0_34, p2⟩, ⟨r0_32, p3⟩] S256x512.size (by rfl) y

def out0_15 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : Vec F S256x256 .bf16 :=
  View.canon [⟨r0_18, k0_pay34 (k0_pay56 x0 x1 x2 x3 x4 x5 x6 x7 x8 x9) (k0_pay58 x0 x1 x2 x3 x4 x5 x6 x7 x8 x9) (k0_pay65 x0 x1 x2 x3 x4 x5 x6 x7 x8 x9)⟩,
    ⟨r0_17, k0_pay33 (k0_pay56 x0 x1 x2 x3 x4 x5 x6 x7 x8 x9) (k0_pay58 x0 x1 x2 x3 x4 x5 x6 x7 x8 x9) (k0_pay65 x0 x1 x2 x3 x4 x5 x6 x7 x8 x9)⟩]

theorem cover0_15 (p0 : Vec F S256x128 .bf16) (p1 : Vec F S256x128 .bf16) (y : S256x256.Idx) :
    ∃ pc ∈ ([⟨r0_18, p0⟩, ⟨r0_17, p1⟩] : List (View.Piece (Elt F) S256x256 .bf16)), y ∈ pc.1.set :=
  View.cover_of_tiled [⟨r0_18, p0⟩, ⟨r0_17, p1⟩] S256x128.size (by rfl) y

def out0_16 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : Vec F S256x512 .bf16 :=
  View.canon [⟨r0_26, k0_pay50 (k0_pay53 x0 x1 x2 x3 x4 x5 x6 x7 x8 x9) (View.ld x4 r0_30)⟩]

theorem cover0_16 (p0 : Vec F S256x512 .bf16) (y : S256x512.Idx) :
    ∃ pc ∈ ([⟨r0_26, p0⟩] : List (View.Piece (Elt F) S256x512 .bf16)), y ∈ pc.1.set :=
  View.cover_of_tiled [⟨r0_26, p0⟩] S256x512.size (by rfl) y

def out0_17 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : Vec F S1x1x256x256 .bf16 :=
  View.canon [⟨r0_15, k0_pay28 (k0_pay64 x0 x1 x2 x3 x4 x5 x6 x7 x8 x9)⟩,
    ⟨r0_13, k0_pay24 (k0_pay63 x0 x1 x2 x3 x4 x5 x6 x7 x8 x9)⟩]

theorem cover0_17 (p0 : Vec F S1x1x128x256 .bf16) (p1 : Vec F S1x1x128x256 .bf16) (y : S1x1x256x256.Idx) :
    ∃ pc ∈ ([⟨r0_15, p0⟩, ⟨r0_13, p1⟩] : List (View.Piece (Elt F) S1x1x256x256 .bf16)), y ∈ pc.1.set :=
  View.cover_of_tiled [⟨r0_15, p0⟩, ⟨r0_13, p1⟩] S1x1x128x256.size (by rfl) y

def out0_18 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : Vec F S1x1x128x256 .bf16 :=
  View.canon [⟨r0_21, k0_pay41 (k0_pay53 x0 x1 x2 x3 x4 x5 x6 x7 x8 x9) (k0_pay54 x0 x1 x2 x3 x4 x5 x6 x7 x8 x9) (k0_pay55 x0 x1 x2 x3 x4 x5 x6 x7 x8 x9) (k0_pay57 x0 x1 x2 x3 x4 x5 x6 x7 x8 x9) (View.ld x4 r0_20)⟩]

theorem cover0_18 (p0 : Vec F S1x1x128x256 .bf16) (y : S1x1x128x256.Idx) :
    ∃ pc ∈ ([⟨r0_21, p0⟩] : List (View.Piece (Elt F) S1x1x128x256 .bf16)), y ∈ pc.1.set :=
  View.cover_of_tiled [⟨r0_21, p0⟩] S1x1x128x256.size (by rfl) y

def out0_19 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : Vec F S1x1x512x256 .bf16 :=
  View.canon [⟨r0_28, k0_pay47 (k0_pay53 x0 x1 x2 x3 x4 x5 x6 x7 x8 x9) (View.ld x4 r0_27)⟩]

theorem cover0_19 (p0 : Vec F S1x1x512x256 .bf16) (y : S1x1x512x256.Idx) :
    ∃ pc ∈ ([⟨r0_28, p0⟩] : List (View.Piece (Elt F) S1x1x512x256 .bf16)), y ∈ pc.1.set :=
  View.cover_of_tiled [⟨r0_28, p0⟩] S1x1x512x256.size (by rfl) y

def out0_20 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : Vec F S1x128x256 .f32 :=
  View.canon [⟨r0_16, k0_pay29 (k0_pay64 x0 x1 x2 x3 x4 x5 x6 x7 x8 x9)⟩,
    ⟨r0_14, k0_pay25 (k0_pay63 x0 x1 x2 x3 x4 x5 x6 x7 x8 x9)⟩]

theorem cover0_20 (p0 : Vec F S1x64x256 .f32) (p1 : Vec F S1x64x256 .f32) (y : S1x128x256.Idx) :
    ∃ pc ∈ ([⟨r0_16, p0⟩, ⟨r0_14, p1⟩] : List (View.Piece (Elt F) S1x128x256 .f32)), y ∈ pc.1.set :=
  View.cover_of_tiled [⟨r0_16, p0⟩, ⟨r0_14, p1⟩] S1x64x256.size (by rfl) y

def out0_21 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : Vec F S1x128x256 .f32 :=
  View.canon [⟨r0_16, k0_pay31 (k0_pay30 (k0_pay53 x0 x1 x2 x3 x4 x5 x6 x7 x8 x9) (View.ld x4 r0_12))⟩,
    ⟨r0_14, k0_pay26 (k0_pay53 x0 x1 x2 x3 x4 x5 x6 x7 x8 x9) (View.ld x4 r0_12)⟩]

theorem cover0_21 (p0 : Vec F S1x64x256 .f32) (p1 : Vec F S1x64x256 .f32) (y : S1x128x256.Idx) :
    ∃ pc ∈ ([⟨r0_16, p0⟩, ⟨r0_14, p1⟩] : List (View.Piece (Elt F) S1x128x256 .f32)), y ∈ pc.1.set :=
  View.cover_of_tiled [⟨r0_16, p0⟩, ⟨r0_14, p1⟩] S1x64x256.size (by rfl) y

def out0_22 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : Vec F S1x64x256 .f32 :=
  View.canon [⟨r0_22, k0_pay42 (k0_pay53 x0 x1 x2 x3 x4 x5 x6 x7 x8 x9) (k0_pay54 x0 x1 x2 x3 x4 x5 x6 x7 x8 x9) (k0_pay55 x0 x1 x2 x3 x4 x5 x6 x7 x8 x9) (k0_pay57 x0 x1 x2 x3 x4 x5 x6 x7 x8 x9) (View.ld x4 r0_20)⟩]

theorem cover0_22 (p0 : Vec F S1x64x256 .f32) (y : S1x64x256.Idx) :
    ∃ pc ∈ ([⟨r0_22, p0⟩] : List (View.Piece (Elt F) S1x64x256 .f32)), y ∈ pc.1.set :=
  View.cover_of_tiled [⟨r0_22, p0⟩] S1x64x256.size (by rfl) y

def out0_23 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : Vec F S1x512x256 .f32 :=
  View.canon [⟨r0_29, k0_pay48 (k0_pay53 x0 x1 x2 x3 x4 x5 x6 x7 x8 x9) (View.ld x4 r0_27)⟩]

theorem cover0_23 (p0 : Vec F S1x512x256 .f32) (y : S1x512x256.Idx) :
    ∃ pc ∈ ([⟨r0_29, p0⟩] : List (View.Piece (Elt F) S1x512x256 .f32)), y ∈ pc.1.set :=
  View.cover_of_tiled [⟨r0_29, p0⟩] S1x512x256.size (by rfl) y

def out0_24 (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) : Vec F S1x512x256 .f32 :=
  View.canon [⟨r0_29, k0_pay51 (k0_pay53 x0 x1 x2 x3 x4 x5 x6 x7 x8 x9) (View.ld x4 r0_30)⟩]

theorem cover0_24 (p0 : Vec F S1x512x256 .f32) (y : S1x512x256.Idx) :
    ∃ pc ∈ ([⟨r0_29, p0⟩] : List (View.Piece (Elt F) S1x512x256 .f32)), y ∈ pc.1.set :=
  View.cover_of_tiled [⟨r0_29, p0⟩] S1x512x256.size (by rfl) y

set_option maxHeartbeats 1000000 in
theorem sound_kernel (c : Dev nD) (E : Set ℕ) (i : grid0.Coords) (arg1 : Memref sig .tc .vmem S1x256x1024 .f32) (harg1 : arg1.IsWhole) (arg2 : Memref sig .tc .vmem S1x1x1x1x1024 .f32) (harg2 : arg2.IsWhole) (arg3 : Memref sig .tc .vmem S1x1x1x1x1024 .f32) (harg3 : arg3.IsWhole) (arg4 : Memref sig .tc .vmem S1x1x1024 .f32) (harg4 : arg4.IsWhole) (arg5 : Memref sig .tc .vmem S1x1024x5120 .bf16) (harg5 : arg5.IsWhole) (arg6 : Memref sig .tc .vmem S256x128 .f32) (harg6 : arg6.IsWhole) (arg7 : Memref sig .tc .vmem S256x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S128x128 .bf16) (harg10 : arg10.IsWhole) (arg11 : Memref sig .tc .vmem S256x512 .bf16) (harg11 : arg11.IsWhole) (arg12 : Memref sig .tc .vmem S256x256 .bf16) (harg12 : arg12.IsWhole) (arg13 : Memref sig .tc .vmem S256x8 .f32) (harg13 : arg13.IsWhole) (arg14 : Memref sig .tc .vmem S256x512 .bf16) (harg14 : arg14.IsWhole) (arg15 : Memref sig .tc .vmem S256x2048 .f32) (harg15 : arg15.IsWhole) (arg16 : Memref sig .tc .vmem S256x256 .bf16) (harg16 : arg16.IsWhole) (arg17 : Memref sig .tc .vmem S256x512 .bf16) (harg17 : arg17.IsWhole) (arg18 : Memref sig .tc .vmem S1x1x256x256 .bf16) (harg18 : arg18.IsWhole) (arg19 : Memref sig .tc .vmem S1x1x128x256 .bf16) (harg19 : arg19.IsWhole) (arg20 : Memref sig .tc .vmem S1x1x512x256 .bf16) (harg20 : arg20.IsWhole) (arg21 : Memref sig .tc .vmem S1x128x256 .f32) (harg21 : arg21.IsWhole) (arg22 : Memref sig .tc .vmem S1x128x256 .f32) (harg22 : arg22.IsWhole) (arg23 : Memref sig .tc .vmem S1x64x256 .f32) (harg23 : arg23.IsWhole) (arg24 : Memref sig .tc .vmem S1x512x256 .f32) (harg24 : arg24.IsWhole) (arg25 : Memref sig .tc .vmem S1x512x256 .f32) (harg25 : arg25.IsWhole)
    (x0 : Vec F S1x256x1024 .f32) (x1 : Vec F S1x1x1x1x1024 .f32) (x2 : Vec F S1x1x1x1x1024 .f32) (x3 : Vec F S1x1x1024 .f32) (x4 : Vec F S1x1024x5120 .bf16) (x5 : Vec F S256x128 .f32) (x6 : Vec F S256x128 .f32) (x7 : Vec F S1x1x128 .f32) (x8 : Vec F S1x1x128 .f32) (x9 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9) ∗ owns (c : Thread nD τ) arg12 fullShare (out0_11 x0 x1 x2 x3 x4 x5 x6 x7 x8 x9) ∗ owns (c : Thread nD τ) arg13 fullShare (out0_12 x0 x1 x2 x3 x4 x5 x6 x7 x8 x9) ∗ owns (c : Thread nD τ) arg14 fullShare (out0_13 x0 x1 x2 x3 x4 x5 x6 x7 x8 x9) ∗ owns (c : Thread nD τ) arg15 fullShare (out0_14 x0 x1 x2 x3 x4 x5 x6 x7 x8 x9) ∗ owns (c : Thread nD τ) arg16 fullShare (out0_15 x0 x1 x2 x3 x4 x5 x6 x7 x8 x9) ∗ owns (c : Thread nD τ) arg17 fullShare (out0_16 x0 x1 x2 x3 x4 x5 x6 x7 x8 x9) ∗ owns (c : Thread nD τ) arg18 fullShare (out0_17 x0 x1 x2 x3 x4 x5 x6 x7 x8 x9) ∗ owns (c : Thread nD τ) arg19 fullShare (out0_18 x0 x1 x2 x3 x4 x5 x6 x7 x8 x9) ∗ owns (c : Thread nD τ) arg20 fullShare (out0_19 x0 x1 x2 x3 x4 x5 x6 x7 x8 x9) ∗ owns (c : Thread nD τ) arg21 fullShare (out0_20 x0 x1 x2 x3 x4 x5 x6 x7 x8 x9) ∗ owns (c : Thread nD τ) arg22 fullShare (out0_21 x0 x1 x2 x3 x4 x5 x6 x7 x8 x9) ∗ owns (c : Thread nD τ) arg23 fullShare (out0_22 x0 x1 x2 x3 x4 x5 x6 x7 x8 x9) ∗ owns (c : Thread nD τ) arg24 fullShare (out0_23 x0 x1 x2 x3 x4 x5 x6 x7 x8 x9) ∗ owns (c : Thread nD τ) arg25 fullShare (out0_24 x0 x1 x2 x3 x4 x5 x6 x7 x8 x9)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover0_10 _ _ _ _)).trans ?_
    rfl
  isplitl [H11]
  · iexists _; isplitr
    swap; · iexact H11
    ipureintro
    refine (View.read_writes_eq_canon _ _ _ (cover0_11 _ _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _ _ _ _)).trans ?_
    rfl
  isplitl [H15]
  · iexists _; isplitr
    swap; · iexact H15
    ipureintro
    refine (View.read_writes_eq_canon _ _ _ (cover0_15 _ _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _ _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _ _)).trans ?_
    rfl
  isplitl [H21]
  · iexists _; isplitr
    swap; · iexact H21
    ipureintro
    refine (View.read_writes_eq_canon _ _ _ (cover0_21 _ _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  iexists _; isplitr
  swap; · iexact H24
  ipureintro
  refine (View.read_writes_eq_canon _ _ _ (cover0_24 _)).trans ?_
  rfl

end Cert.Proof.ProjIdeal

end
-- ==== Proof.ProjFrame.lean ====
/-
  The frame of the projection kernel `Cert.ProjIdeal`: the host lines before the launch, the launch over the
  grid with the triple of `ProjBody.lean` at each point, and what the arrays hold when it ends.
-/
module

public import proofs.«01_k».proof.Proof.ProjBody

@[expose] public section

set_option maxRecDepth 16384

noncomputable section

namespace Cert.Proof.ProjIdeal

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the launch finds them, after the host lines. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The block of window `w` at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1500000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-- What every window's buffer holds after the body at a grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t)
    | ⟨_ + 25, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body meets its obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 4000000 in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch ends with every array as the body's triple says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the program ends, its arguments as they were and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proof.ProjIdeal

end
-- ==== Proof.ProjSpec.lean ====
/- The input projection as mathematics: modulated rows, projected columns, head norms and rotary turns, as functions of the
   layer's arrays, and what holds of them for arrays without infinities. -/
module

public import Idealize.ShloMosaic.Lib.Pointwise
public import Idealize.ShloMosaic.Lib.IdealHost

@[expose] public section

set_option maxRecDepth 16384

noncomputable section

namespace Cert.Proof.ProjSpec

open Idealize.ShloMosaic

abbrev RowShape : Shape := ⟨3, ![4, 4096, 1024]⟩
abbrev ModShape : Shape := ⟨5, ![2, 6, 24, 1, 1024]⟩
abbrev NormShape : Shape := ⟨2, ![2, 1024]⟩
abbrev WeightShape : Shape := ⟨3, ![2, 1024, 4676]⟩
abbrev GainShape : Shape := ⟨2, ![2, 64]⟩

/-- The norms' small addend. -/
abbrev eps : EReal := Ideal.ofBits .f32 0x358637BD#32

/-- The modulation row of a batch row of the prompt. -/
def modRow (b : Fin 4) : Fin 24 := ⟨16 + b.val, by have := b.isLt; omega⟩

/-- A row of the residual stream, normed and modulated. -/
def row (x : RowShape.Idx → EReal) (mod : ModShape.Idx → EReal) (g : NormShape.Idx → EReal) (b : Fin 4) (p : Fin 4096) (k : Fin 1024) : EReal :=
  (x (ix3 b p k) * Ideal.rsqrt (Ideal.div (∑ l : Fin 1024, x (ix3 b p l) * x (ix3 b p l)) (Ideal.ofBits .f32 0x44800000#32) + eps) * g (ix2 0 k))
    * (Ideal.ofBits .f32 0x3F800000#32 + mod (ix5 0 1 (modRow b) 0 k)) + mod (ix5 0 0 (modRow b) 0 k)

/-- A column of the combined projection. -/
def proj (x : RowShape.Idx → EReal) (mod : ModShape.Idx → EReal) (g : NormShape.Idx → EReal) (w : WeightShape.Idx → EReal)
    (b : Fin 4) (p : Fin 4096) (f : Fin 4676) : EReal :=
  ∑ k : Fin 1024, row x mod g b p k * w (ix3 0 k f)

/-- The angle of a place and a feature pair. -/
def angle (p : Fin 4096) (i : Fin 32) : EReal :=
  FloatOps.sitofp (F := Ideal) .f32 (BitVec.ofNat 32 p.val) * Ideal.pow (Ideal.ofBits .f32 0x461C4000#32)
    (Ideal.div (-(Ideal.ofBits .f32 0x40000000#32 * FloatOps.sitofp (F := Ideal) .f32 (BitVec.ofNat 32 i.val))) (Ideal.ofBits .f32 0x42800000#32))

/-- The two rotary tables. -/
def cosAt (p : Fin 4096) (i : Fin 32) : EReal := Ideal.cos (angle p i)
def sinAt (p : Fin 4096) (i : Fin 32) : EReal := Ideal.sin (angle p i)

/-- A head's features turned by the place's angles. -/
def turned (u : Fin 64 → EReal) (p : Fin 4096) (j : Fin 64) : EReal :=
  if h : j.val < 32 then u j * cosAt p ⟨j.val, h⟩ - u ⟨j.val + 32, by omega⟩ * sinAt p ⟨j.val, h⟩
  else u j * cosAt p ⟨j.val - 32, by have := j.isLt; omega⟩ + u ⟨j.val - 32, by have := j.isLt; omega⟩ * sinAt p ⟨j.val - 32, by have := j.isLt; omega⟩

/-- A head's features divided by their root mean square, times the gains. -/
def normed (u g : Fin 64 → EReal) (j : Fin 64) : EReal :=
  u j * Ideal.rsqrt (Ideal.div (∑ l : Fin 64, u l * u l) (Ideal.ofBits .f32 0x42800000#32) + eps) * g j

/-- The features of one head, the head's columns beginning at `lo`. -/
def headOf (f : Fin 4676 → EReal) (lo : ℕ) (h : lo + 64 ≤ 4676) (j : Fin 64) : EReal := f ⟨lo + j.val, by have := j.isLt; omega⟩

/-! ## The results, at a batch row, a place and a feature -/

section Results

variable (x : RowShape.Idx → EReal) (mod : ModShape.Idx → EReal) (g : NormShape.Idx → EReal) (w : WeightShape.Idx → EReal)
  (gain : GainShape.Idx → EReal) (b : Fin 4) (p : Fin 4096)

/-- Attention queries: normed, turned and scaled. -/
def qaOf (f : Fin 512) : EReal :=
  turned (normed (headOf (proj x mod g w b p) (64 * (f.val / 64)) (by have := f.isLt; omega)) (fun j => gain (ix2 0 j))) p ⟨f.val % 64, by omega⟩
    * Ideal.ofBits .f32 0x3E38AA3B#32

/-- Index queries: turned and scaled. -/
def qiOf (f : Fin 256) : EReal :=
  turned (headOf (proj x mod g w b p) (768 + 64 * (f.val / 64)) (by have := f.isLt; omega)) p ⟨f.val % 64, by omega⟩ * Ideal.ofBits .f32 0x3E000000#32

/-- Index weights: halved, four of them. -/
def wiOf (f : Fin 8) : EReal :=
  if h : f.val < 4 then proj x mod g w b p ⟨1088 + f.val, by omega⟩ * Ideal.ofBits .f32 0x3F000000#32 else 0

theorem wiOf_low (f : Fin 8) (h : f.val < 4) :
    wiOf x mod g w b p f = proj x mod g w b p ⟨1088 + f.val, by omega⟩ * Ideal.ofBits .f32 0x3F000000#32 := dif_pos h

theorem wiOf_high (f : Fin 8) (h : ¬ f.val < 4) : wiOf x mod g w b p f = 0 := dif_neg h

/-- Stick-breaking queries: scaled. -/
def qbOf (f : Fin 512) : EReal := proj x mod g w b p ⟨1092 + f.val, by have := f.isLt; omega⟩ * Ideal.ofBits .f32 0x3E000000#32

/-- Gates. -/
def gateOf (f : Fin 2048) : EReal := Ideal.logistic (proj x mod g w b p ⟨2628 + f.val, by have := f.isLt; omega⟩)

/-- Attention keys: normed and turned. -/
def kaOf (f : Fin 128) : EReal :=
  turned (normed (headOf (proj x mod g w b p) (512 + 64 * (f.val / 64)) (by have := f.isLt; omega)) (fun j => gain (ix2 0 j))) p ⟨f.val % 64, by omega⟩

/-- Attention values. -/
def vaOf (f : Fin 128) : EReal := proj x mod g w b p ⟨640 + f.val, by have := f.isLt; omega⟩

/-- Index keys: turned. -/
def kiOf (f : Fin 64) : EReal := turned (headOf (proj x mod g w b p) 1024 (by omega)) p f

/-- Stick-breaking keys. -/
def kbOf (f : Fin 512) : EReal := proj x mod g w b p ⟨1604 + f.val, by have := f.isLt; omega⟩

/-- Stick-breaking values. -/
def vbOf (f : Fin 512) : EReal := proj x mod g w b p ⟨2116 + f.val, by have := f.isLt; omega⟩

end Results

/-! ## Arrays without infinities -/

/-- An extended real that is a real. -/
def IsReal (a : EReal) : Prop := ∃ y : ℝ, a = (y : EReal)

theorem IsReal.mul {a b : EReal} : IsReal a → IsReal b → IsReal (a * b) := by
  rintro ⟨x, rfl⟩ ⟨y, rfl⟩
  exact ⟨x * y, (EReal.coe_mul x y).symm⟩

theorem IsReal.add {a b : EReal} : IsReal a → IsReal b → IsReal (a + b) := by
  rintro ⟨x, rfl⟩ ⟨y, rfl⟩
  exact ⟨x + y, (EReal.coe_add x y).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert i s hi ih => rw [Finset.sum_insert hi]; exact (h i).add ih

theorem IsReal.sub_self {a : EReal} : IsReal a → a - a = 0 := by
  rintro ⟨x, rfl⟩
  rw [← EReal.coe_sub, _root_.sub_self]; rfl

theorem one_bits : Ideal.ofBits .f32 0x3F800000#32 = ((1 : ℝ) : EReal) := by
  simp [Ideal.ofBits, Ideal.ieee, -EReal.coe_mul]; norm_num

theorem width_bits : Ideal.ofBits .f32 0x44800000#32 = ((1024 : ℝ) : EReal) := by
  simp [Ideal.ofBits, Ideal.ieee, -EReal.coe_mul]; norm_num

theorem head_bits : Ideal.ofBits .f32 0x42800000#32 = ((64 : ℝ) : EReal) := by
  simp [Ideal.ofBits, Ideal.ieee, -EReal.coe_mul]; norm_num

theorem inverse_bits : Ideal.ofBits .f32 0x3C800000#32 = ((64 : ℝ)⁻¹ : ℝ) := by
  simp [Ideal.ofBits, Ideal.ieee, -EReal.coe_mul]; norm_num

theorem eps_pos : ∃ e : ℝ, 0 < e ∧ eps = (e : EReal) := by
  refine ⟨(8388608 + 407485 : ℕ) * (2 : ℝ) ^ (-43 : ℤ), by positivity, ?_⟩
  unfold eps
  simp [Ideal.ofBits, Ideal.ieee, -EReal.coe_mul]
  try norm_num

/-- A division by 64 is a product with its inverse. -/
theorem div_head (a : EReal) : Ideal.div a (Ideal.ofBits .f32 0x42800000#32) = a * Ideal.ofBits .f32 0x3C800000#32 := by
  rw [head_bits, inverse_bits]
  unfold Ideal.div
  rw [if_neg (by norm_num), ← EReal.coe_inv]

/-- The reciprocal root of a mean of squares plus the addend is real. -/
theorem IsReal.root (f : Fin 1024 → EReal) (h : ∀ l, IsReal (f l)) :
    IsReal (Ideal.rsqrt (Ideal.div (∑ l, f l * f l) (Ideal.ofBits .f32 0x44800000#32) + eps)) := by
  choose y hy using h
  obtain ⟨e, he, hee⟩ := eps_pos
  have hs : ∑ l, f l * f l = ((∑ l, y l * y l : ℝ) : EReal) := by
    simp only [hy, ← EReal.coe_mul]
    exact (map_sum (⟨⟨Real.toEReal, rfl⟩, fun a b => EReal.coe_add a b⟩ : ℝ →+ EReal) (fun l => y l * y l) Finset.univ).symm
  have hn : (0 : ℝ) ≤ ∑ l, y l * y l := Finset.sum_nonneg fun l _ => mul_self_nonneg _
  have hp : 0 < (∑ l, y l * y l) * (1024 : ℝ)⁻¹ + e := by positivity
  refine ⟨(Real.sqrt ((∑ l, y l * y l) * (1024 : ℝ)⁻¹ + e))⁻¹, ?_⟩
  rw [hs, hee, width_bits]
  unfold Ideal.div
  rw [if_neg (by norm_num), ← EReal.coe_inv, ← EReal.coe_mul, ← EReal.coe_add]
  generalize (∑ l, y l * y l) * (1024 : ℝ)⁻¹ + e = z at hp
  show (if z < 0 then (⊥ : EReal) else if z = 0 then ⊤ else ((Real.sqrt z)⁻¹ : ℝ)) = _
  rw [if_neg (not_lt.2 hp.le), if_neg hp.ne']

end Cert.Proof.ProjSpec

end
-- ==== Proof.ProjPoint.lean ====
/- The values the projection kernel's body computes, element by element: the modulated rows, the projected columns, the
   rotated columns and the columns normed by head. -/
module

public import proofs.«01_k».proof.Proof.Gen.ProjIdeal.Skeleton
public import proofs.«01_k».proof.Proof.ProjSpec
public import Idealize.ShloMosaic.Lib.Pointwise

@[expose] public section

set_option maxRecDepth 16384

noncomputable section

namespace Cert.Proof.ProjIdeal.Point

open Cert.ProjIdeal Cert.ProjIdeal.Gen Cert.Proof.ProjSpec Idealize.ShloMosaic Idealize.ShloMosaic.TcCoe Idealize.SL.Sem

/-- A modulated row's entry. -/
theorem rows_at (x : Vec Ideal S1x256x1024 .f32) (g : Vec Ideal S1x1x1024 .f32) (sc sh : Vec Ideal S1x1x1x1x1024 .f32) (r : Fin 256) (k : Fin 1024) :
    (k0_pay5 x g sc sh (ix2 r k) : EReal)
      = ((x (ix3 0 r k) : EReal) * Ideal.rsqrt (Ideal.div (∑ l : Fin 1024, (x (ix3 0 r l) : EReal) * x (ix3 0 r l)) (Ideal.ofBits .f32 0x44800000#32)
          + Ideal.ofBits .f32 0x358637BD#32) * g (ix3 0 0 k)) * (Ideal.ofBits .f32 0x3F800000#32 + sc (ix5 0 0 0 0 k)) + sh (ix5 0 0 0 0 k) := by
  pointwise [k0_pay5]

/-- A projected column. -/
abbrev col (h : FVec Ideal S256x1024 .bf16) (w : Fin 1024 → EReal) (r : Fin 256) : EReal := ∑ k : Fin 1024, (h (ix2 r k) : EReal) * w k

theorem wide_at (h : FVec Ideal S256x1024 .bf16) (w : Vec Ideal S1x1024x512 .bf16) (r : Fin 256) (c : Fin 512) :
    (k0_pay12 h w (ix2 r c) : EReal) = col h (fun k => w (ix3 0 k c)) r := by
  pointwise [k0_pay12]

theorem half_at (h : FVec Ideal S256x1024 .bf16) (w : Vec Ideal S1x1024x256 .bf16) (r : Fin 256) (c : Fin 256) :
    (k0_pay22 h w (ix2 r c) : EReal) = col h (fun k => w (ix3 0 k c)) r := by
  pointwise [k0_pay22]

/-- Whether a lane lies in the first half of its head's feature pairs, as the kernel's mask says. -/
theorem mask_bits : ∀ l : Fin 128, IntOp.cmpi CmpIPredicate.eq (IntOp.andi (BitVec.ofNat 32 l.val) 32#32) 0#32
    = if l.val % 64 < 32 then 1#1 else 0#1 := by decide +kernel

theorem mask_at (r : Fin 256) (l : Fin 128) : k0_pay8 (ix2 r l) = if l.val % 64 < 32 then 1#1 else 0#1 := by
  rw [← mask_bits]
  pointwise [k0_pay8]

/-- The lane whose value the rotation brings to a lane. -/
def partner (l : Fin 128) : Fin 128 := if l.val % 64 < 32 then ⟨(l.val + 32) % 128, by omega⟩ else ⟨(l.val + 96) % 128, by omega⟩

theorem partner_low (l : Fin 128) (h : l.val % 64 < 32) : (partner l).val = (l.val + 32) % 128 := by
  unfold partner; rw [if_pos h]

theorem partner_high (l : Fin 128) (h : ¬ l.val % 64 < 32) : (partner l).val = (l.val + 96) % 128 := by
  unfold partner; rw [if_neg h]

/-- Two heads' features turned with the tables' rows. -/
def turn (v cs sn : FVec Ideal S256x128 .f32) : FVec Ideal S256x128 .f32 :=
  addf (mulf v cs) (mulf (select k0_pay8 (dynamicRotate 1 96#32 none v rotates_S256x128_d1) (dynamicRotate 1 32#32 none v rotates_S256x128_d1)) sn)

theorem turn_at (v cs sn : FVec Ideal S256x128 .f32) (r : Fin 256) (l : Fin 128) :
    (turn v cs sn (ix2 r l) : EReal) = (v (ix2 r l) : EReal) * cs (ix2 r l) + v (ix2 r (partner l)) * sn (ix2 r l) := by
  have hl := l.isLt
  pointwise [turn]
  rw [mask_at]
  unfold partner
  by_cases h : l.val % 64 < 32
  · rw [if_pos h, if_pos h]
    have e : ∀ q, (⟨(l.val + 128 - 96) % 128, q⟩ : Fin 128) = ⟨(l.val + 32) % 128, by omega⟩ := fun q => Fin.ext (by dsimp only; omega)
    rw [e]; rfl
  · rw [if_neg h, if_neg h]
    have e : ∀ q, (⟨(l.val + 128 - 32) % 128, q⟩ : Fin 128) = ⟨(l.val + 96) % 128, by omega⟩ := fun q => Fin.ext (by dsimp only; omega)
    rw [e]; rfl

/-- What the two rotary tables hold at a row whose place is `p`. -/
def Tables (cs sn : FVec Ideal S256x128 .f32) (r : Fin 256) (p : Fin 4096) : Prop :=
  ∀ l : Fin 128, (cs (ix2 r l) : EReal) = cosAt p ⟨l.val % 32, by omega⟩
    ∧ (sn (ix2 r l) : EReal) = if l.val % 64 < 32 then -sinAt p ⟨l.val % 32, by omega⟩ else sinAt p ⟨l.val % 32, by omega⟩

/-- The turn of a head, in the kernel's lanes. -/
theorem turn_head (v cs sn : FVec Ideal S256x128 .f32) (r : Fin 256) (p : Fin 4096) (ht : Tables cs sn r p) (u : Fin 64 → EReal) (l : Fin 128)
    (hu : ∀ l' : Fin 128, l'.val / 64 = l.val / 64 → (v (ix2 r l') : EReal) = u ⟨l'.val % 64, by omega⟩) :
    (turn v cs sn (ix2 r l) : EReal) = turned u p ⟨l.val % 64, by omega⟩ := by
  have hl := l.isLt
  rw [turn_at, (ht l).1, (ht l).2, hu l rfl]
  unfold turned
  by_cases h : l.val % 64 < 32
  · rw [if_pos h, dif_pos h, mul_neg, ← sub_eq_add_neg, hu (partner l) (by have := partner_low l h; omega)]
    have e1 : (⟨l.val % 32, by omega⟩ : Fin 32) = ⟨l.val % 64, h⟩ := Fin.ext (by dsimp only; omega)
    have e2 : (⟨(partner l).val % 64, by omega⟩ : Fin 64) = ⟨l.val % 64 + 32, by omega⟩ :=
      Fin.ext (by have := partner_low l h; dsimp only; omega)
    rw [e1, e2]
  · rw [if_neg h, dif_neg h, hu (partner l) (by have := partner_high l h; omega)]
    have e1 : (⟨l.val % 32, by omega⟩ : Fin 32) = ⟨l.val % 64 - 32, by omega⟩ := Fin.ext (by dsimp only; omega)
    have e2 : (⟨(partner l).val % 64, by omega⟩ : Fin 64) = ⟨l.val % 64 - 32, by omega⟩ :=
      Fin.ext (by have := partner_high l h; dsimp only; omega)
    rw [e1, e2]

/-- Two heads' features, each divided by its root mean square, times the gains. -/
def headNorm (v : FVec Ideal S256x128 .f32) (seg : FVec Ideal S128x128 .bf16) (g : FVec Ideal S1x128 .f32) : FVec Ideal S256x128 .f32 :=
  mulf (mulf v (rsqrt (addf (mulf (addf
    (matmul dot_S256x128_S128x128_S256x128_1_0_0_1_n_n none (truncf .bf16 (mulf v v) bitsLt_bf16_f32) seg (constant S256x128 .f32 0x00000000#32))
    (matmul dot_S256x128_S128x128_S256x128_1_0_0_1_n_n none (truncf .bf16 (subf (mulf v v) (extf .f32 (truncf .bf16 (mulf v v) bitsLt_bf16_f32) bitsLt_bf16_f32)) bitsLt_bf16_f32) seg (constant S256x128 .f32 0x00000000#32)))
    (broadcast S256x128 (Scalar.ofBits .f32 0x3C800000#32))) (broadcast S256x128 (Scalar.ofBits .f32 0x358637BD#32)))))
    (broadcastTo S256x128 g broadcasts_S1x128_S256x128)

/-- A sum over 128 lanes of which one half counts. -/
theorem half_sum (g : Fin 128 → EReal) (a : ℕ) (ha : a < 2) :
    ∑ l : Fin 128, (g l * if l.val / 64 = a then 1 else 0) = ∑ e : Fin 64, g ⟨64 * a + e.val, by have := e.isLt; omega⟩ := by
  simp only [mul_ite, mul_one, mul_zero]
  refine (Fin.sum_univ_add (a := 64) (b := 64) (fun l : Fin 128 => if l.val / 64 = a then g l else 0)).trans ?_
  have ha' : a = 0 ∨ a = 1 := by omega
  rcases ha' with h | h
  · refine Eq.trans (congrArg₂ (· + ·) (Finset.sum_congr rfl fun e _ => ?_)
      (Finset.sum_eq_zero fun e _ => if_neg ?_)) (add_zero _)
    · have := e.isLt
      refine (if_pos (by show e.val / 64 = a; omega)).trans (congrArg g (Fin.ext ?_))
      show e.val = 64 * a + e.val; omega
    · show ¬ (64 + e.val) / 64 = a; omega
  · refine Eq.trans (congrArg₂ (· + ·) (Finset.sum_eq_zero fun e _ => if_neg ?_)
      (Finset.sum_congr rfl fun e _ => ?_)) (zero_add _)
    · have := e.isLt
      show ¬ e.val / 64 = a; omega
    · have := e.isLt
      refine (if_pos (by show (64 + e.val) / 64 = a; omega)).trans (congrArg g (Fin.ext ?_))
      show 64 + e.val = 64 * a + e.val; omega

theorem norm_head (v : FVec Ideal S256x128 .f32) (seg : FVec Ideal S128x128 .bf16) (g : FVec Ideal S1x128 .f32)
    (hs : ∀ i j : Fin 128, (seg (ix2 i j) : EReal) = if i.val / 64 = j.val / 64 then 1 else 0) (r : Fin 256) (l : Fin 128) (u gain : Fin 64 → EReal)
    (hv : ∀ l', IsReal (v (ix2 r l')))
    (hu : ∀ l' : Fin 128, l'.val / 64 = l.val / 64 → (v (ix2 r l') : EReal) = u ⟨l'.val % 64, by omega⟩)
    (hg : (g (ix2 0 l) : EReal) = gain ⟨l.val % 64, by omega⟩) :
    (headNorm v seg g (ix2 r l) : EReal) = normed u gain ⟨l.val % 64, by omega⟩ := by
  have hl := l.isLt
  have key : (headNorm v seg g (ix2 r l) : EReal)
      = (v (ix2 r l) : EReal) * Ideal.rsqrt ((∑ i : Fin 128, ((v (ix2 r i) : EReal) * v (ix2 r i)) * seg (ix2 i l)
          + ∑ i : Fin 128, ((v (ix2 r i) : EReal) * v (ix2 r i) - (v (ix2 r i) : EReal) * v (ix2 r i)) * seg (ix2 i l))
            * Ideal.ofBits .f32 0x3C800000#32 + eps) * g (ix2 0 l) := by
    pointwise [headNorm]
  rw [key, hg, hu l rfl]
  unfold normed
  have h0 : ∀ i : Fin 128, (v (ix2 r i) : EReal) * v (ix2 r i) - (v (ix2 r i) : EReal) * v (ix2 r i) = 0 := fun i => ((hv i).mul (hv i)).sub_self
  simp only [h0, hs, zero_mul, Finset.sum_const_zero, add_zero]
  rw [half_sum (fun i => (v (ix2 r i) : EReal) * v (ix2 r i)) (l.val / 64) (by omega), div_head]
  refine congrArg (fun s => u _ * Ideal.rsqrt (s * Ideal.ofBits .f32 0x3C800000#32 + eps) * gain _) (Finset.sum_congr rfl fun e _ => ?_)
  have he := e.isLt
  rw [hu _ (by dsimp only; omega)]
  have e1 : ∀ q, (⟨(64 * (l.val / 64) + e.val) % 64, q⟩ : Fin 64) = e := fun q => Fin.ext (by dsimp only; omega)
  rw [e1]

/-! ## The payloads in these terms -/

theorem q0 (h : FVec Ideal S256x1024 .bf16) (cs sn : FVec Ideal S256x128 .f32) (seg : FVec Ideal S128x128 .bf16) (g : Vec Ideal S1x1x128 .f32)
    (w : Vec Ideal S1x1024x512 .bf16) (i : S256x128.Idx) :
    (k0_pay13 h cs sn seg g w i : EReal) = (turn (headNorm (extractStridedSlice S256x128 ![0, 0] (k0_pay12 h w) slices_S256x512_o0_0_S256x128) seg (k0_pay10 g)) cs sn i : EReal)
      * Ideal.ofBits .f32 0x3E38AA3B#32 := rfl

theorem q1 (cs sn : FVec Ideal S256x128 .f32) (seg : FVec Ideal S128x128 .bf16) (g : FVec Ideal S1x128 .f32) (v : FVec Ideal S256x512 .f32) (i : S256x128.Idx) :
    (k0_pay14 cs sn seg k0_pay8 g v i : EReal) = (turn (headNorm (extractStridedSlice S256x128 ![0, 128] v slices_S256x512_o0_128_S256x128) seg g) cs sn i : EReal)
      * Ideal.ofBits .f32 0x3E38AA3B#32 := rfl

theorem q2 (cs sn : FVec Ideal S256x128 .f32) (seg : FVec Ideal S128x128 .bf16) (g : FVec Ideal S1x128 .f32) (v : FVec Ideal S256x512 .f32) (i : S256x128.Idx) :
    (k0_pay16 cs sn k0_pay8 g (k0_pay15 seg v) i : EReal) = (turn (headNorm (extractStridedSlice S256x128 ![0, 256] v slices_S256x512_o0_256_S256x128) seg g) cs sn i : EReal)
      * Ideal.ofBits .f32 0x3E38AA3B#32 := rfl

theorem q3 (cs sn : FVec Ideal S256x128 .f32) (seg : FVec Ideal S128x128 .bf16) (g : FVec Ideal S1x128 .f32) (v : FVec Ideal S256x512 .f32) (i : S256x128.Idx) :
    (k0_pay17 cs sn seg k0_pay8 g v i : EReal) = (turn (headNorm (extractStridedSlice S256x128 ![0, 384] v slices_S256x512_o0_384_S256x128) seg g) cs sn i : EReal)
      * Ideal.ofBits .f32 0x3E38AA3B#32 := rfl

theorem slice_at (lo : ℕ) (hlo : S256x512.Slices ![0, lo] S256x128) (h : lo + 128 ≤ 512) (v : FVec Ideal S256x512 .f32) (r : Fin 256) (l : Fin 128) :
    (extractStridedSlice S256x128 ![0, lo] v hlo (ix2 r l) : EReal) = v (ix2 r ⟨lo + l.val, by have := l.isLt; omega⟩) := by
  pointwise []

/-- A key head's two copies. -/
theorem key0 (h : FVec Ideal S256x1024 .bf16) (cs sn : FVec Ideal S256x128 .f32) (seg : FVec Ideal S128x128 .bf16) (g : FVec Ideal S1x128 .f32) (w : Vec Ideal S1x1024x256 .bf16) :
    k0_pay20 h cs sn seg k0_pay8 g (k0_pay18 w) = turn (headNorm (extractStridedSlice S256x128 ![0, 0] (k0_pay22 h w) slices_S256x256_o0_0_S256x128) seg g) cs sn := rfl

theorem key1 (h : FVec Ideal S256x1024 .bf16) (cs sn : FVec Ideal S256x128 .f32) (seg : FVec Ideal S128x128 .bf16) (g : FVec Ideal S1x128 .f32) (w : Vec Ideal S1x1024x256 .bf16) :
    k0_pay21 h cs sn seg k0_pay8 g (k0_pay18 w) = turn (headNorm (extractStridedSlice S256x128 ![0, 128] (k0_pay22 h w) slices_S256x256_o0_128_S256x128) seg g) cs sn := rfl

theorem pair_at (lo : ℕ) (hlo : S256x256.Slices ![0, lo] S256x128) (h : lo + 128 ≤ 256) (v : FVec Ideal S256x256 .f32) (r : Fin 256) (l : Fin 128) :
    (extractStridedSlice S256x128 ![0, lo] v hlo (ix2 r l) : EReal) = v (ix2 r ⟨lo + l.val, by have := l.isLt; omega⟩) := by
  pointwise []

theorem first_key_at (v : FVec Ideal S256x128 .f32) (f : Fin 64) (r : Fin 256) : (k0_pay25 v (ix3 0 f r) : EReal) = v (ix2 r ⟨f.val, by have := f.isLt; omega⟩) := by
  pointwise [k0_pay25, k0_pay23]

theorem second_key_at (v : FVec Ideal S256x128 .f32) (f : Fin 64) (r : Fin 256) : (k0_pay29 v (ix3 0 f r) : EReal) = v (ix2 r ⟨f.val, by have := f.isLt; omega⟩) := by
  pointwise [k0_pay29, k0_pay27]

theorem first_value_at (h : FVec Ideal S256x1024 .bf16) (w : Vec Ideal S1x1024x256 .bf16) (f : Fin 64) (r : Fin 256) :
    (k0_pay26 h w (ix3 0 f r) : EReal) = col h (fun k => w (ix3 0 k ⟨f.val, by have := f.isLt; omega⟩)) r := by
  pointwise [k0_pay26]
  exact half_at h w r _

theorem second_value_at (h : FVec Ideal S256x1024 .bf16) (w : Vec Ideal S1x1024x256 .bf16) (f : Fin 64) (r : Fin 256) :
    (k0_pay31 (k0_pay30 h w) (ix3 0 f r) : EReal) = col h (fun k => w (ix3 0 k ⟨128 + f.val, by have := f.isLt; omega⟩)) r := by
  pointwise [k0_pay31, k0_pay30]
  exact half_at h w r _

theorem index_query0 (h : FVec Ideal S256x1024 .bf16) (cs sn : FVec Ideal S256x128 .f32) (w : Vec Ideal S1x1024x256 .bf16) (i : S256x128.Idx) :
    (k0_pay36 h cs sn k0_pay8 w i : EReal) = (turn (extractStridedSlice S256x128 ![0, 0] (k0_pay22 h w) slices_S256x256_o0_0_S256x128) cs sn i : EReal)
      * Ideal.ofBits .f32 0x3E000000#32 := rfl

theorem index_query1 (h : FVec Ideal S256x1024 .bf16) (cs sn : FVec Ideal S256x128 .f32) (w : Vec Ideal S1x1024x256 .bf16) (i : S256x128.Idx) :
    (k0_pay39 (k0_pay37 h cs sn k0_pay8 w) k0_pay38 i : EReal) = (turn (extractStridedSlice S256x128 ![0, 128] (k0_pay22 h w) slices_S256x256_o0_128_S256x128) cs sn i : EReal)
      * Ideal.ofBits .f32 0x3E000000#32 := rfl

/-- The columns of a group of 128. -/
def group (h : FVec Ideal S256x1024 .bf16) (w : Vec Ideal S1x1024x128 .bf16) : FVec Ideal S256x128 .f32 :=
  matmul dot_S256x1024_S1024x128_S256x128_1_0_0_1_n_n none h (shapeCast S1024x128 w shapeCasts_S1x1024x128_S1024x128 : FVec Ideal S1024x128 .bf16) (constant S256x128 .f32 0x00000000#32)

theorem group_at (h : FVec Ideal S256x1024 .bf16) (w : Vec Ideal S1x1024x128 .bf16) (r : Fin 256) (c : Fin 128) :
    (group h w (ix2 r c) : EReal) = col h (fun k => w (ix3 0 k c)) r := by
  pointwise [group]

theorem index_key_at (h : FVec Ideal S256x1024 .bf16) (cs sn : FVec Ideal S256x128 .f32) (w : Vec Ideal S1x1024x128 .bf16) (f : Fin 64) (r : Fin 256) :
    (k0_pay42 h cs sn k0_pay8 w (ix3 0 f r) : EReal) = turn (group h w) cs sn (ix2 r ⟨f.val, by have := f.isLt; omega⟩) :=
  first_key_at (turn (group h w) cs sn) f r

theorem index_weight_at (h : FVec Ideal S256x1024 .bf16) (w : Vec Ideal S1x1024x128 .bf16) (r : Fin 256) (c : Fin 8) :
    (k0_pay43 h w (ix2 r c) : EReal) = col h (fun k => w (ix3 0 k ⟨c.val, by have := c.isLt; omega⟩)) r * Ideal.ofBits .f32 0x3F000000#32 := by
  pointwise [k0_pay43]

theorem stick_query_at (h : FVec Ideal S256x1024 .bf16) (w : Vec Ideal S1x1024x512 .bf16) (r : Fin 256) (c : Fin 512) :
    (k0_pay45 h (k0_pay44 w) (constant S256x512 .f32 0x00000000#32) (ix2 r c) : EReal) = col h (fun k => w (ix3 0 k c)) r * Ideal.ofBits .f32 0x3E000000#32 := by
  pointwise [k0_pay45, k0_pay44]

theorem stick_key_at (h : FVec Ideal S256x1024 .bf16) (w : Vec Ideal S1x1024x512 .bf16) (f : Fin 512) (r : Fin 256) :
    (k0_pay48 h w (ix3 0 f r) : EReal) = col h (fun k => w (ix3 0 k f)) r := by
  pointwise [k0_pay48, k0_pay46]

theorem stick_value_at (h : FVec Ideal S256x1024 .bf16) (w : Vec Ideal S1x1024x512 .bf16) (f : Fin 512) (r : Fin 256) :
    (k0_pay51 h w (ix3 0 f r) : EReal) = col h (fun k => w (ix3 0 k f)) r := by
  pointwise [k0_pay51, k0_pay49]

theorem gate0_at (h : FVec Ideal S256x1024 .bf16) (w : Vec Ideal S1x1024x512 .bf16) (r : Fin 256) (c : Fin 512) :
    (k0_pay1 (k0_pay52 h w) (ix2 r c) : EReal) = Ideal.logistic (col h (fun k => w (ix3 0 k c)) r) := by
  pointwise [k0_pay1, k0_pay52]
theorem gate1_at (h : FVec Ideal S256x1024 .bf16) (w : Vec Ideal S1x1024x512 .bf16) (r : Fin 256) (c : Fin 512) :
    (k0_pay2 h w (ix2 r c) : EReal) = Ideal.logistic (col h (fun k => w (ix3 0 k c)) r) := by
  pointwise [k0_pay2]
theorem gate2_at (h : FVec Ideal S256x1024 .bf16) (w : Vec Ideal S1x1024x512 .bf16) (r : Fin 256) (c : Fin 512) :
    (k0_pay3 h w (ix2 r c) : EReal) = Ideal.logistic (col h (fun k => w (ix3 0 k c)) r) := by
  pointwise [k0_pay3]
theorem gate3_at (h : FVec Ideal S256x1024 .bf16) (w : Vec Ideal S1x1024x512 .bf16) (r : Fin 256) (c : Fin 512) :
    (k0_pay4 h w (ix2 r c) : EReal) = Ideal.logistic (col h (fun k => w (ix3 0 k c)) r) := by
  pointwise [k0_pay4]

end Cert.Proof.ProjIdeal.Point

end
-- ==== Proof.ProjTable.lean ====
/- The table the kernel is handed to add up each head's lanes: its entry is one where row and column belong to the same half of
   128 lanes, zero elsewhere. The printed table is read a row at a time. -/
module

public import proofs.«01_k».proof.ProjIdeal
public import proofs.«01_k».proof.Proof.StickTable

@[expose] public section

set_option maxRecDepth 100000

noncomputable section

namespace Cert.Proof.ProjIdeal.Table

open Cert.ProjIdeal Idealize.ShloMosaic Cert.Proof.StickIdeal.Table

/-- Entry `j` of row `k`. -/
def halfBit (k j : Nat) : BitVec 16 := cond (Nat.beq (k / 64) (j / 64)) 0x3F80#16 0x0000#16

set_option maxHeartbeats 4000000 in
theorem row_at (n i : Nat) (hn : n < 128) (h : i / 128 = n) : lit0t i = halfBit n (i % 128) := by
  unfold lit0t
  rw [h]
  clear h
  refine Eq.trans ?_ (pick_eq (halfBit n) ⟨i % 128, Nat.mod_lt _ (by decide)⟩)
  interval_cases n <;> exact rfl

/-- The table over the extended reals. -/
theorem half_at (u x : Fin 128) : Ideal.ofBits .bf16 (lit0 (S128x128.rowMajor (ix2 u x))) = if u.val / 64 = x.val / 64 then (1 : EReal) else 0 := by
  have hu := u.isLt
  have hx := x.isLt
  have hr : (S128x128.rowMajor (ix2 u x)).val = 128 * u.val + x.val := by
    have h := rowMajor_val2 (d := ![128, 128]) (ix2 u x) 128 rfl
    rw [h]
    show u.val * 128 + x.val = _
    omega
  have hl : lit0 (S128x128.rowMajor (ix2 u x)) = lit0t (128 * u.val + x.val) := congrArg lit0t hr
  rw [hl, row_at u.val _ hu (by omega), show (128 * u.val + x.val) % 128 = x.val by omega]
  unfold halfBit
  by_cases h : u.val / 64 = x.val / 64
  · rw [if_pos h, show Nat.beq (u.val / 64) (x.val / 64) = true by rw [h]; exact Nat.beq_refl _]; exact Ideal.ofBits_one_bf16
  · rw [if_neg h, Bool.eq_false_iff.2 fun hb => h (Nat.eq_of_beq_eq_true hb)]; exact Ideal.ofBits_zero_bf16

end Cert.Proof.ProjIdeal.Table

end
-- ==== Proof.ProjBlocks.lean ====
/- The blocks the projection kernel's points are shown, element by element: the rows of the residual stream, the modulation,
   the widened weights, the rotary tables, the gains and the table of heads. -/
module

public import proofs.«01_k».proof.Proof.ProjFrame
public import proofs.«01_k».proof.Proof.ProjPoint
public import proofs.«01_k».proof.Proof.ProjTable
public import Idealize.ShloMosaic.Lib.Pointwise
public import Idealize.ShloMosaic.Lib.StableHlo.Run

@[expose] public section

set_option maxRecDepth 16384

noncomputable section

namespace Cert.Proof.ProjIdeal.Blocks

open Cert.ProjIdeal Cert.ProjIdeal.Gen Cert.Proof.ProjSpec Idealize.ShloMosaic Idealize.ShloMosaic.TcCoe Idealize.SL.Sem Idealize.ShloMosaic.StableHlo

variable (m : (ℓ : Loc nD τ sig) → Buf (Elt Ideal) ℓ)

/-- The launch's arrays. -/
abbrev X (c : Dev nD) : RowShape.Idx → EReal := m ((c : Thread nD τ).loc main_arg0)
abbrev Mod (c : Dev nD) : ModShape.Idx → EReal := m ((c : Thread nD τ).loc main_arg1)
abbrev Ng (c : Dev nD) : NormShape.Idx → EReal := m ((c : Thread nD τ).loc main_arg2)
abbrev W (c : Dev nD) : WeightShape.Idx → EReal := m ((c : Thread nD τ).loc main_arg3)
abbrev Qn (c : Dev nD) : GainShape.Idx → EReal := m ((c : Thread nD τ).loc main_arg4)
abbrev Kn (c : Dev nD) : GainShape.Idx → EReal := m ((c : Thread nD τ).loc main_arg5)

/-! ## The host's arrays -/

theorem v31_at (c : Dev nD) (k : Fin 1024) : (V m c main_v31 : S2x1x1024.Idx → EReal) (ix3 0 0 k) = Ng m c (ix2 0 k) := by
  unfold V
  simp only [hostOps0, hostOps0_1, hostOps0_2, List.flatten_cons, List.flatten_nil, List.append_nil, List.cons_append, List.nil_append]
  after_results
  pointwise

theorem v3_at (c : Dev nD) (l : Fin 128) : (V m c main_v3 : S2x1x128.Idx → EReal) (ix3 0 0 l) = Qn m c (ix2 0 ⟨l.val % 64, by omega⟩) := by
  unfold V
  simp only [hostOps0, hostOps0_1, hostOps0_2, List.flatten_cons, List.flatten_nil, List.append_nil, List.cons_append, List.nil_append]
  after_results
  pointwise

theorem v7_at (c : Dev nD) (l : Fin 128) : (V m c main_v7 : S2x1x128.Idx → EReal) (ix3 0 0 l) = Kn m c (ix2 0 ⟨l.val % 64, by omega⟩) := by
  unfold V
  simp only [hostOps0, hostOps0_1, hostOps0_2, List.flatten_cons, List.flatten_nil, List.append_nil, List.cons_append, List.nil_append]
  after_results
  pointwise

theorem cst_at (c : Dev nD) (u x : Fin 128) : (V m c main_cst : S128x128.Idx → EReal) (ix2 u x) = (if u.val / 64 = x.val / 64 then 1 else 0 : EReal) := by
  rw [← Table.half_at]
  unfold V
  simp only [hostOps0, hostOps0_1, hostOps0_2, List.flatten_cons, List.flatten_nil, List.append_nil, List.cons_append, List.nil_append]
  after_results
  rfl

theorem cos0 (c : Dev nD) (p : Fin 4096) (i : Fin 32) : (V m c main_v27 : S4096x128.Idx → EReal) (ix2 p ⟨i.val, by omega⟩) = cosAt p i := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  pointwise
  rfl

theorem sin0 (c : Dev nD) (p : Fin 4096) (i : Fin 32) : (V m c main_v30 : S4096x128.Idx → EReal) (ix2 p ⟨i.val, by omega⟩) = -sinAt p i := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  pointwise
  rfl

theorem cos1 (c : Dev nD) (p : Fin 4096) (i : Fin 32) : (V m c main_v27 : S4096x128.Idx → EReal) (ix2 p ⟨32 + i.val, by omega⟩) = cosAt p i := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  pointwise
  rfl

theorem sin1 (c : Dev nD) (p : Fin 4096) (i : Fin 32) : (V m c main_v30 : S4096x128.Idx → EReal) (ix2 p ⟨32 + i.val, by omega⟩) = sinAt p i := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  pointwise
  rfl

theorem cos2 (c : Dev nD) (p : Fin 4096) (i : Fin 32) : (V m c main_v27 : S4096x128.Idx → EReal) (ix2 p ⟨64 + i.val, by omega⟩) = cosAt p i := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  pointwise
  rw [show 64 + i.val - 32 - 32 = i.val by omega]
  rfl

theorem sin2 (c : Dev nD) (p : Fin 4096) (i : Fin 32) : (V m c main_v30 : S4096x128.Idx → EReal) (ix2 p ⟨64 + i.val, by omega⟩) = -sinAt p i := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  pointwise
  rw [show 64 + i.val - 32 - 32 = i.val by omega]
  rfl

theorem cos3 (c : Dev nD) (p : Fin 4096) (i : Fin 32) : (V m c main_v27 : S4096x128.Idx → EReal) (ix2 p ⟨96 + i.val, by omega⟩) = cosAt p i := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  pointwise
  rw [show 96 + i.val - 32 - 32 - 32 = i.val by omega]
  rfl

theorem sin3 (c : Dev nD) (p : Fin 4096) (i : Fin 32) : (V m c main_v30 : S4096x128.Idx → EReal) (ix2 p ⟨96 + i.val, by omega⟩) = sinAt p i := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  pointwise
  rw [show 96 + i.val - 32 - 32 - 32 = i.val by omega]
  rfl

/-! The widened weights, a group of columns at a time. -/

set_option maxHeartbeats 1000000 in
theorem v54_qa (c : Dev nD) (k : Fin 1024) (l : Fin 512) : (V m c main_v54 : S2x1024x5120.Idx → EReal) (ix3 0 k ⟨0 + l.val, by omega⟩)
    = W m c (ix3 0 k ⟨0 + l.val, by omega⟩) := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  pointwise
  all_goals
    refine congrArg (fun z => W m c (ix3 0 k z)) (Fin.ext ?_)
    dsimp only
    omega

set_option maxHeartbeats 1000000 in
theorem v54_ka (c : Dev nD) (k : Fin 1024) (l : Fin 256) : (V m c main_v54 : S2x1024x5120.Idx → EReal) (ix3 0 k ⟨512 + l.val, by omega⟩)
    = W m c (ix3 0 k ⟨512 + (l.val / 128 * 64 + l.val % 64), by omega⟩) := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  pointwise
  split_ifs <;> after_results_simp <;> pointwise
  all_goals
    refine congrArg (fun z => W m c (ix3 0 k z)) (Fin.ext ?_)
    dsimp only
    omega

set_option maxHeartbeats 1000000 in
theorem v54_va (c : Dev nD) (k : Fin 1024) (l : Fin 256) : (V m c main_v54 : S2x1024x5120.Idx → EReal) (ix3 0 k ⟨768 + l.val, by omega⟩)
    = W m c (ix3 0 k ⟨640 + (l.val / 128 * 64 + l.val % 64), by omega⟩) := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  pointwise
  split_ifs <;> after_results_simp <;> pointwise
  all_goals
    refine congrArg (fun z => W m c (ix3 0 k z)) (Fin.ext ?_)
    dsimp only
    omega

set_option maxHeartbeats 1000000 in
theorem v54_qi (c : Dev nD) (k : Fin 1024) (l : Fin 256) : (V m c main_v54 : S2x1024x5120.Idx → EReal) (ix3 0 k ⟨1024 + l.val, by omega⟩)
    = W m c (ix3 0 k ⟨768 + l.val, by omega⟩) := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  pointwise
  all_goals
    refine congrArg (fun z => W m c (ix3 0 k z)) (Fin.ext ?_)
    dsimp only
    omega

set_option maxHeartbeats 1000000 in
theorem v54_ki (c : Dev nD) (k : Fin 1024) (l : Fin 128) : (V m c main_v54 : S2x1024x5120.Idx → EReal) (ix3 0 k ⟨1280 + l.val, by omega⟩)
    = W m c (ix3 0 k ⟨1024 + (l.val % 64), by omega⟩) := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  pointwise
  split_ifs <;> (try after_results_simp) <;> pointwise
  all_goals first
    | exfalso; omega
    | refine congrArg (fun z => W m c (ix3 0 k z)) (Fin.ext ?_)
      dsimp only
      omega

set_option maxHeartbeats 1000000 in
theorem v54_qb (c : Dev nD) (k : Fin 1024) (l : Fin 512) : (V m c main_v54 : S2x1024x5120.Idx → EReal) (ix3 0 k ⟨1536 + l.val, by omega⟩)
    = W m c (ix3 0 k ⟨1092 + l.val, by omega⟩) := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  pointwise
  all_goals
    refine congrArg (fun z => W m c (ix3 0 k z)) (Fin.ext ?_)
    dsimp only
    omega

set_option maxHeartbeats 1000000 in
theorem v54_kb (c : Dev nD) (k : Fin 1024) (l : Fin 512) : (V m c main_v54 : S2x1024x5120.Idx → EReal) (ix3 0 k ⟨2048 + l.val, by omega⟩)
    = W m c (ix3 0 k ⟨1604 + l.val, by omega⟩) := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  pointwise
  all_goals
    refine congrArg (fun z => W m c (ix3 0 k z)) (Fin.ext ?_)
    dsimp only
    omega

set_option maxHeartbeats 1000000 in
theorem v54_vb (c : Dev nD) (k : Fin 1024) (l : Fin 512) : (V m c main_v54 : S2x1024x5120.Idx → EReal) (ix3 0 k ⟨2560 + l.val, by omega⟩)
    = W m c (ix3 0 k ⟨2116 + l.val, by omega⟩) := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  pointwise
  all_goals
    refine congrArg (fun z => W m c (ix3 0 k z)) (Fin.ext ?_)
    dsimp only
    omega

set_option maxHeartbeats 1000000 in
theorem v54_gl (c : Dev nD) (k : Fin 1024) (l : Fin 2048) : (V m c main_v54 : S2x1024x5120.Idx → EReal) (ix3 0 k ⟨3072 + l.val, by omega⟩)
    = W m c (ix3 0 k ⟨2628 + l.val, by omega⟩) := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  pointwise
  all_goals
    refine congrArg (fun z => W m c (ix3 0 k z)) (Fin.ext ?_)
    dsimp only
    omega

set_option maxHeartbeats 400000 in
theorem v54_wi (c : Dev nD) (k : Fin 1024) (l : Fin 4) : (V m c main_v54 : S2x1024x5120.Idx → EReal) (ix3 0 k ⟨1408 + l.val, by omega⟩)
    = W m c (ix3 0 k ⟨1088 + l.val, by omega⟩) := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  simp only [TRef.toBuf, TRef.ofBuf, cast_eq]
  pointwise
  split
  · refine congrArg (fun z => W m c (ix3 0 k z)) (Fin.ext ?_)
    dsimp only
    omega
  · exfalso; omega

set_option maxHeartbeats 400000 in
theorem v54_pad (c : Dev nD) (k : Fin 1024) (l : Fin 124) : (V m c main_v54 : S2x1024x5120.Idx → EReal) (ix3 0 k ⟨1412 + l.val, by omega⟩)
    = FloatOps.sitofp (F := Ideal) .f32 0#32 := by
  unfold V
  simp only [hostOps0, hostOps0_1, hostOps0_2, List.flatten_cons, List.flatten_nil, List.append_nil, List.cons_append, List.nil_append]
  after_results
  pointwise
  repeat (first | rw [dif_pos (by omega)] | rw [dif_neg (by omega)])
  after_results_simp
  simp only [TRef.toBuf, TRef.ofBuf, cast_eq]
  pointwise
  split
  · exfalso; omega
  · rfl

end Cert.Proof.ProjIdeal.Blocks

end
-- ==== Proof.ProjWindows.lean ====
/- Which part of each array a point of the projection kernel is shown. -/
module

public import proofs.«01_k».proof.Proof.ProjBlocks

@[expose] public section

set_option maxRecDepth 16384

noncomputable section

namespace Cert.Proof.ProjIdeal.Blocks

open Cert.ProjIdeal Cert.ProjIdeal.Gen Cert.Proof.ProjSpec Idealize.ShloMosaic Idealize.ShloMosaic.TcCoe Idealize.SL.Sem Idealize.ShloMosaic.StableHlo

variable (m : (ℓ : Loc nD τ sig) → Buf (Elt Ideal) ℓ)

theorem lt_points (t : Fin cfg0.N) : t.val < 64 := lt_of_lt_of_eq t.isLt N_0

/-- The batch row of a point. -/
def batch (t : Fin cfg0.N) : Fin 4 := ⟨t.val / 16, by have := lt_points t; omega⟩
/-- The place of a row of a point. -/
def place (t : Fin cfg0.N) (r : Fin 256) : Fin 4096 := ⟨256 * (t.val % 16) + r.val, by have := r.isLt; omega⟩

/-- The cosine table, any lane. -/
theorem v27_at (c : Dev nD) (p : Fin 4096) (l : Fin 128) : (V m c main_v27 : S4096x128.Idx → EReal) (ix2 p l) = cosAt p ⟨l.val % 32, by omega⟩ := by
  have hl := l.isLt
  obtain h | h | h | h : l.val / 32 = 0 ∨ l.val / 32 = 1 ∨ l.val / 32 = 2 ∨ l.val / 32 = 3 := by omega
  · refine Eq.trans (congrArg (fun z => (V m c main_v27 : S4096x128.Idx → EReal) (ix2 p z)) (Fin.ext ?_)) (cos0 m c p ⟨l.val % 32, by omega⟩)
    show l.val = l.val % 32; omega
  · refine Eq.trans (congrArg (fun z => (V m c main_v27 : S4096x128.Idx → EReal) (ix2 p z)) (Fin.ext ?_)) (cos1 m c p ⟨l.val % 32, by omega⟩)
    show l.val = 32 + l.val % 32; omega
  · refine Eq.trans (congrArg (fun z => (V m c main_v27 : S4096x128.Idx → EReal) (ix2 p z)) (Fin.ext ?_)) (cos2 m c p ⟨l.val % 32, by omega⟩)
    show l.val = 64 + l.val % 32; omega
  · refine Eq.trans (congrArg (fun z => (V m c main_v27 : S4096x128.Idx → EReal) (ix2 p z)) (Fin.ext ?_)) (cos3 m c p ⟨l.val % 32, by omega⟩)
    show l.val = 96 + l.val % 32; omega

/-- The sine table, any lane. -/
theorem v30_at (c : Dev nD) (p : Fin 4096) (l : Fin 128) : (V m c main_v30 : S4096x128.Idx → EReal) (ix2 p l)
    = (if l.val % 64 < 32 then -sinAt p ⟨l.val % 32, by omega⟩ else sinAt p ⟨l.val % 32, by omega⟩ : EReal) := by
  have hl := l.isLt
  obtain h | h | h | h : l.val / 32 = 0 ∨ l.val / 32 = 1 ∨ l.val / 32 = 2 ∨ l.val / 32 = 3 := by omega
  · rw [if_pos (by omega)]
    refine Eq.trans (congrArg (fun z => (V m c main_v30 : S4096x128.Idx → EReal) (ix2 p z)) (Fin.ext ?_)) (sin0 m c p ⟨l.val % 32, by omega⟩)
    show l.val = l.val % 32; omega
  · rw [if_neg (by omega)]
    refine Eq.trans (congrArg (fun z => (V m c main_v30 : S4096x128.Idx → EReal) (ix2 p z)) (Fin.ext ?_)) (sin1 m c p ⟨l.val % 32, by omega⟩)
    show l.val = 32 + l.val % 32; omega
  · rw [if_pos (by omega)]
    refine Eq.trans (congrArg (fun z => (V m c main_v30 : S4096x128.Idx → EReal) (ix2 p z)) (Fin.ext ?_)) (sin2 m c p ⟨l.val % 32, by omega⟩)
    show l.val = 64 + l.val % 32; omega
  · rw [if_neg (by omega)]
    refine Eq.trans (congrArg (fun z => (V m c main_v30 : S4096x128.Idx → EReal) (ix2 p z)) (Fin.ext ?_)) (sin3 m c p ⟨l.val % 32, by omega⟩)
    show l.val = 96 + l.val % 32; omega

theorem index_x : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)

theorem x_at (c : Dev nD) (t : Fin cfg0.N) (r : Fin 256) (k : Fin 1024) :
    (iblk m c 0 t : S1x256x1024.Idx → EReal) (ix3 0 r k) = X m c (ix3 (batch t) (place t r) k) := by
  have hi := index_x t
  have ht := lt_points t
  have hix : ((win0_0.blk t).view.emb (ix3 0 r k : S1x256x1024.Idx) : S4x4096x1024.Idx) = ix3 (batch t) (place t r) k := by
    funext a
    apply Fin.ext
    match a with
    | ⟨0, _⟩ => show win0_0.index t 0 * 1 + 1 * 0 = t.val / 16; rw [hi.1] <;> omega
    | ⟨1, _⟩ => show win0_0.index t 1 * 256 + 1 * r.val = 256 * (t.val % 16) + r.val; rw [hi.2.1] <;> omega
    | ⟨2, _⟩ => show win0_0.index t 2 * 1024 + 1 * k.val = k.val; rw [hi.2.2] <;> omega
  unfold iblk
  rw [View.read_apply]
  show (V m c main_arg0 : S4x4096x1024.Idx → EReal) _ = _
  rw [V_main_arg0]
  exact congrArg (m ((c : Thread nD τ).loc main_arg0) : S4x4096x1024.Idx → EReal) hix

theorem index_shift : ∀ t : Fin cfg0.N, win0_1.index t 0 = 0 ∧ win0_1.index t 1 = 0 ∧ win0_1.index t 2 = 16 + t.val / 16 ∧ win0_1.index t 3 = 0 ∧ win0_1.index t 4 = 0 :=
  (by decide +kernel : ∀ t : Fin grid0.N, win0_1.index t 0 = 0 ∧ win0_1.index t 1 = 0 ∧ win0_1.index t 2 = 16 + t.val / 16 ∧ win0_1.index t 3 = 0 ∧ win0_1.index t 4 = 0)

theorem shift_at (c : Dev nD) (t : Fin cfg0.N) (k : Fin 1024) :
    (iblk m c 1 t : S1x1x1x1x1024.Idx → EReal) (ix5 0 0 0 0 k) = Mod m c (ix5 0 0 (modRow (batch t)) 0 k) := by
  have hi := index_shift t
  have ht := lt_points t
  have hix : ((win0_1.blk t).view.emb (ix5 0 0 0 0 k : S1x1x1x1x1024.Idx) : S2x6x24x1x1024.Idx) = ix5 0 0 (modRow (batch t)) 0 k := by
    funext a
    apply Fin.ext
    match a with
    | ⟨0, _⟩ => show win0_1.index t 0 * 1 + 1 * 0 = 0; rw [hi.1] <;> omega
    | ⟨1, _⟩ => show win0_1.index t 1 * 1 + 1 * 0 = 0; rw [hi.2.1] <;> omega
    | ⟨2, _⟩ => show win0_1.index t 2 * 1 + 1 * 0 = 16 + t.val / 16; rw [hi.2.2.1] <;> omega
    | ⟨3, _⟩ => show win0_1.index t 3 * 1 + 1 * 0 = 0; rw [hi.2.2.2.1] <;> omega
    | ⟨4, _⟩ => show win0_1.index t 4 * 1024 + 1 * k.val = k.val; rw [hi.2.2.2.2] <;> omega
  unfold iblk
  rw [View.read_apply]
  show (V m c main_arg1 : S2x6x24x1x1024.Idx → EReal) _ = _
  rw [V_main_arg1]
  exact congrArg (m ((c : Thread nD τ).loc main_arg1) : S2x6x24x1x1024.Idx → EReal) hix

theorem index_scale : ∀ t : Fin cfg0.N, win0_2.index t 0 = 0 ∧ win0_2.index t 1 = 1 ∧ win0_2.index t 2 = 16 + t.val / 16 ∧ win0_2.index t 3 = 0 ∧ win0_2.index t 4 = 0 :=
  (by decide +kernel : ∀ t : Fin grid0.N, win0_2.index t 0 = 0 ∧ win0_2.index t 1 = 1 ∧ win0_2.index t 2 = 16 + t.val / 16 ∧ win0_2.index t 3 = 0 ∧ win0_2.index t 4 = 0)

theorem scale_at (c : Dev nD) (t : Fin cfg0.N) (k : Fin 1024) :
    (iblk m c 2 t : S1x1x1x1x1024.Idx → EReal) (ix5 0 0 0 0 k) = Mod m c (ix5 0 1 (modRow (batch t)) 0 k) := by
  have hi := index_scale t
  have ht := lt_points t
  have hix : ((win0_2.blk t).view.emb (ix5 0 0 0 0 k : S1x1x1x1x1024.Idx) : S2x6x24x1x1024.Idx) = ix5 0 1 (modRow (batch t)) 0 k := by
    funext a
    apply Fin.ext
    match a with
    | ⟨0, _⟩ => show win0_2.index t 0 * 1 + 1 * 0 = 0; rw [hi.1] <;> omega
    | ⟨1, _⟩ => show win0_2.index t 1 * 1 + 1 * 0 = 1; rw [hi.2.1] <;> omega
    | ⟨2, _⟩ => show win0_2.index t 2 * 1 + 1 * 0 = 16 + t.val / 16; rw [hi.2.2.1] <;> omega
    | ⟨3, _⟩ => show win0_2.index t 3 * 1 + 1 * 0 = 0; rw [hi.2.2.2.1] <;> omega
    | ⟨4, _⟩ => show win0_2.index t 4 * 1024 + 1 * k.val = k.val; rw [hi.2.2.2.2] <;> omega
  unfold iblk
  rw [View.read_apply]
  show (V m c main_arg1 : S2x6x24x1x1024.Idx → EReal) _ = _
  rw [V_main_arg1]
  exact congrArg (m ((c : Thread nD τ).loc main_arg1) : S2x6x24x1x1024.Idx → EReal) hix

theorem index_norm : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

theorem norm_at (c : Dev nD) (t : Fin cfg0.N) (k : Fin 1024) :
    (iblk m c 3 t : S1x1x1024.Idx → EReal) (ix3 0 0 k) = Ng m c (ix2 0 k) := by
  have hi := index_norm t
  have ht := lt_points t
  have hix : ((win0_3.blk t).view.emb (ix3 0 0 k : S1x1x1024.Idx) : S2x1x1024.Idx) = ix3 0 0 k := by
    funext a
    apply Fin.ext
    match a with
    | ⟨0, _⟩ => show win0_3.index t 0 * 1 + 1 * 0 = 0; rw [hi.1] <;> omega
    | ⟨1, _⟩ => show win0_3.index t 1 * 1 + 1 * 0 = 0; rw [hi.2.1] <;> omega
    | ⟨2, _⟩ => show win0_3.index t 2 * 1024 + 1 * k.val = k.val; rw [hi.2.2] <;> omega
  unfold iblk
  rw [View.read_apply]
  show (V m c main_v31 : S2x1x1024.Idx → EReal) _ = _
  exact (congrArg (V m c main_v31 : S2x1x1024.Idx → EReal) hix).trans (v31_at m c k)

theorem index_w : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)

theorem w_at (c : Dev nD) (t : Fin cfg0.N) (k : Fin 1024) (f : Fin 5120) :
    (iblk m c 4 t : S1x1024x5120.Idx → EReal) (ix3 0 k f) = (V m c main_v54 : S2x1024x5120.Idx → EReal) (ix3 0 k f) := by
  have hi := index_w t
  have ht := lt_points t
  have hix : ((win0_4.blk t).view.emb (ix3 0 k f : S1x1024x5120.Idx) : S2x1024x5120.Idx) = ix3 0 k f := by
    funext a
    apply Fin.ext
    match a with
    | ⟨0, _⟩ => show win0_4.index t 0 * 1 + 1 * 0 = 0; rw [hi.1] <;> omega
    | ⟨1, _⟩ => show win0_4.index t 1 * 1024 + 1 * k.val = k.val; rw [hi.2.1] <;> omega
    | ⟨2, _⟩ => show win0_4.index t 2 * 5120 + 1 * f.val = f.val; rw [hi.2.2] <;> omega
  unfold iblk
  rw [View.read_apply]
  show (V m c main_v54 : S2x1024x5120.Idx → EReal) _ = _
  exact (congrArg (V m c main_v54 : S2x1024x5120.Idx → EReal) hix).trans (rfl)

theorem index_cos : ∀ t : Fin cfg0.N, win0_5.index t 0 = t.val % 16 ∧ win0_5.index t 1 = 0 :=
  (by decide +kernel : ∀ t : Fin grid0.N, win0_5.index t 0 = t.val % 16 ∧ win0_5.index t 1 = 0)

theorem cos_at (c : Dev nD) (t : Fin cfg0.N) (r : Fin 256) (l : Fin 128) :
    (iblk m c 5 t : S256x128.Idx → EReal) (ix2 r l) = cosAt (place t r) ⟨l.val % 32, by omega⟩ := by
  have hi := index_cos t
  have ht := lt_points t
  have hix : ((win0_5.blk t).view.emb (ix2 r l : S256x128.Idx) : S4096x128.Idx) = ix2 (place t r) l := by
    funext a
    apply Fin.ext
    match a with
    | ⟨0, _⟩ => show win0_5.index t 0 * 256 + 1 * r.val = 256 * (t.val % 16) + r.val; rw [hi.1] <;> omega
    | ⟨1, _⟩ => show win0_5.index t 1 * 128 + 1 * l.val = l.val; rw [hi.2] <;> omega
  unfold iblk
  rw [View.read_apply]
  show (V m c main_v27 : S4096x128.Idx → EReal) _ = _
  exact (congrArg (V m c main_v27 : S4096x128.Idx → EReal) hix).trans (v27_at m c (place t r) l)

theorem index_sin : ∀ t : Fin cfg0.N, win0_6.index t 0 = t.val % 16 ∧ win0_6.index t 1 = 0 :=
  (by decide +kernel : ∀ t : Fin grid0.N, win0_6.index t 0 = t.val % 16 ∧ win0_6.index t 1 = 0)

theorem sin_at (c : Dev nD) (t : Fin cfg0.N) (r : Fin 256) (l : Fin 128) :
    (iblk m c 6 t : S256x128.Idx → EReal) (ix2 r l) = (if l.val % 64 < 32 then -sinAt (place t r) ⟨l.val % 32, by omega⟩ else sinAt (place t r) ⟨l.val % 32, by omega⟩ : EReal) := by
  have hi := index_sin t
  have ht := lt_points t
  have hix : ((win0_6.blk t).view.emb (ix2 r l : S256x128.Idx) : S4096x128.Idx) = ix2 (place t r) l := by
    funext a
    apply Fin.ext
    match a with
    | ⟨0, _⟩ => show win0_6.index t 0 * 256 + 1 * r.val = 256 * (t.val % 16) + r.val; rw [hi.1] <;> omega
    | ⟨1, _⟩ => show win0_6.index t 1 * 128 + 1 * l.val = l.val; rw [hi.2] <;> omega
  unfold iblk
  rw [View.read_apply]
  show (V m c main_v30 : S4096x128.Idx → EReal) _ = _
  exact (congrArg (V m c main_v30 : S4096x128.Idx → EReal) hix).trans (v30_at m c (place t r) l)

theorem index_qn : ∀ t : Fin cfg0.N, win0_7.index t 0 = 0 ∧ win0_7.index t 1 = 0 ∧ win0_7.index t 2 = 0 :=
  (by decide +kernel : ∀ t : Fin grid0.N, win0_7.index t 0 = 0 ∧ win0_7.index t 1 = 0 ∧ win0_7.index t 2 = 0)

theorem qn_at (c : Dev nD) (t : Fin cfg0.N) (l : Fin 128) :
    (iblk m c 7 t : S1x1x128.Idx → EReal) (ix3 0 0 l) = Qn m c (ix2 0 ⟨l.val % 64, by omega⟩) := by
  have hi := index_qn t
  have ht := lt_points t
  have hix : ((win0_7.blk t).view.emb (ix3 0 0 l : S1x1x128.Idx) : S2x1x128.Idx) = ix3 0 0 l := by
    funext a
    apply Fin.ext
    match a with
    | ⟨0, _⟩ => show win0_7.index t 0 * 1 + 1 * 0 = 0; rw [hi.1] <;> omega
    | ⟨1, _⟩ => show win0_7.index t 1 * 1 + 1 * 0 = 0; rw [hi.2.1] <;> omega
    | ⟨2, _⟩ => show win0_7.index t 2 * 128 + 1 * l.val = l.val; rw [hi.2.2] <;> omega
  unfold iblk
  rw [View.read_apply]
  show (V m c main_v3 : S2x1x128.Idx → EReal) _ = _
  exact (congrArg (V m c main_v3 : S2x1x128.Idx → EReal) hix).trans (v3_at m c l)

theorem index_kn : ∀ t : Fin cfg0.N, win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0)

theorem kn_at (c : Dev nD) (t : Fin cfg0.N) (l : Fin 128) :
    (iblk m c 8 t : S1x1x128.Idx → EReal) (ix3 0 0 l) = Kn m c (ix2 0 ⟨l.val % 64, by omega⟩) := by
  have hi := index_kn t
  have ht := lt_points t
  have hix : ((win0_8.blk t).view.emb (ix3 0 0 l : S1x1x128.Idx) : S2x1x128.Idx) = ix3 0 0 l := by
    funext a
    apply Fin.ext
    match a with
    | ⟨0, _⟩ => show win0_8.index t 0 * 1 + 1 * 0 = 0; rw [hi.1] <;> omega
    | ⟨1, _⟩ => show win0_8.index t 1 * 1 + 1 * 0 = 0; rw [hi.2.1] <;> omega
    | ⟨2, _⟩ => show win0_8.index t 2 * 128 + 1 * l.val = l.val; rw [hi.2.2] <;> omega
  unfold iblk
  rw [View.read_apply]
  show (V m c main_v7 : S2x1x128.Idx → EReal) _ = _
  exact (congrArg (V m c main_v7 : S2x1x128.Idx → EReal) hix).trans (v7_at m c l)

theorem index_seg : ∀ t : Fin cfg0.N, win0_9.index t 0 = 0 ∧ win0_9.index t 1 = 0 :=
  (by decide +kernel : ∀ t : Fin grid0.N, win0_9.index t 0 = 0 ∧ win0_9.index t 1 = 0)

theorem seg_at (c : Dev nD) (t : Fin cfg0.N) (u l : Fin 128) :
    (iblk m c 9 t : S128x128.Idx → EReal) (ix2 u l) = (if u.val / 64 = l.val / 64 then 1 else 0 : EReal) := by
  have hi := index_seg t
  have ht := lt_points t
  have hix : ((win0_9.blk t).view.emb (ix2 u l : S128x128.Idx) : S128x128.Idx) = ix2 u l := by
    funext a
    apply Fin.ext
    match a with
    | ⟨0, _⟩ => show win0_9.index t 0 * 128 + 1 * u.val = u.val; rw [hi.1] <;> omega
    | ⟨1, _⟩ => show win0_9.index t 1 * 128 + 1 * l.val = l.val; rw [hi.2] <;> omega
  unfold iblk
  rw [View.read_apply]
  show (V m c main_cst : S128x128.Idx → EReal) _ = _
  exact (congrArg (V m c main_cst : S128x128.Idx → EReal) hix).trans (cst_at m c u l)

end Cert.Proof.ProjIdeal.Blocks

end
-- ==== Proof.ProjOut.lean ====
/- What a point of the projection kernel leaves in each of its blocks. -/
module

public import proofs.«01_k».proof.Proof.ProjWindows
public import Idealize.ShloMosaic.Lib.Pipeline.ValueKit

@[expose] public section

set_option maxRecDepth 16384

noncomputable section

namespace Cert.Proof.ProjIdeal.Out

open Cert.ProjIdeal Cert.ProjIdeal.Gen Cert.Proof.ProjSpec Idealize.ShloMosaic Idealize.ShloMosaic.TcCoe Idealize.SL.Sem Idealize.ShloMosaic.StableHlo
open Cert.Proof.ProjIdeal.Blocks Cert.Proof.ProjIdeal.Point

variable (m : (ℓ : Loc nD τ sig) → Buf (Elt Ideal) ℓ) (c : Dev nD) (t : Fin cfg0.N)

/-- The normed and modulated rows of a point, and its rows of the two tables. -/
abbrev rows : FVec Ideal S256x1024 .bf16 := k0_pay53 (iblk m c 0 t) (iblk m c 1 t) (iblk m c 2 t) (iblk m c 3 t) (iblk m c 4 t) (iblk m c 5 t) (iblk m c 6 t) (iblk m c 7 t) (iblk m c 8 t) (iblk m c 9 t)
abbrev cosTab : FVec Ideal S256x128 .f32 := k0_pay54 (iblk m c 0 t) (iblk m c 1 t) (iblk m c 2 t) (iblk m c 3 t) (iblk m c 4 t) (iblk m c 5 t) (iblk m c 6 t) (iblk m c 7 t) (iblk m c 8 t) (iblk m c 9 t)
abbrev sinTab : FVec Ideal S256x128 .f32 := k0_pay55 (iblk m c 0 t) (iblk m c 1 t) (iblk m c 2 t) (iblk m c 3 t) (iblk m c 4 t) (iblk m c 5 t) (iblk m c 6 t) (iblk m c 7 t) (iblk m c 8 t) (iblk m c 9 t)

/-- The columns of a row's projection. -/
abbrev F (r : Fin 256) : Fin 4676 → EReal := proj (X m c) (Mod m c) (Ng m c) (W m c) (batch t) (place t r)

theorem ld_x (r : Fin 256) (k : Fin 1024) : ((View.ld (iblk m c 0 t : Vec Ideal S1x256x1024 .f32) r0_0 : Vec Ideal S1x256x1024 .f32) (ix3 0 r k) : EReal) = X m c (ix3 (batch t) (place t r) k) :=
  (View.ld_unit_apply_of (iblk m c 0 t : Vec Ideal S1x256x1024 .f32) _ _ _ _ (ix3 0 r k) fun a => match a with
    | ⟨0, _⟩ => by show 0 = 0 + 0; omega
    | ⟨1, _⟩ => by show r.val = 0 + r.val; omega
    | ⟨2, _⟩ => by show k.val = 0 + k.val; omega
    ).trans (x_at m c t r k)

theorem ld_norm (k : Fin 1024) : ((View.ld (iblk m c 3 t : Vec Ideal S1x1x1024 .f32) r0_1 : Vec Ideal S1x1x1024 .f32) (ix3 0 0 k) : EReal) = Ng m c (ix2 0 k) :=
  (View.ld_unit_apply_of (iblk m c 3 t : Vec Ideal S1x1x1024 .f32) _ _ _ _ (ix3 0 0 k) fun a => match a with
    | ⟨0, _⟩ => by show 0 = 0 + 0; omega
    | ⟨1, _⟩ => by show 0 = 0 + 0; omega
    | ⟨2, _⟩ => by show k.val = 0 + k.val; omega
    ).trans (norm_at m c t k)

theorem ld_scale (k : Fin 1024) : ((View.ld (iblk m c 2 t : Vec Ideal S1x1x1x1x1024 .f32) r0_2 : Vec Ideal S1x1x1x1x1024 .f32) (ix5 0 0 0 0 k) : EReal) = Mod m c (ix5 0 1 (modRow (batch t)) 0 k) :=
  (View.ld_unit_apply_of (iblk m c 2 t : Vec Ideal S1x1x1x1x1024 .f32) _ _ _ _ (ix5 0 0 0 0 k) fun a => match a with
    | ⟨0, _⟩ => by show 0 = 0 + 0; omega
    | ⟨1, _⟩ => by show 0 = 0 + 0; omega
    | ⟨2, _⟩ => by show 0 = 0 + 0; omega
    | ⟨3, _⟩ => by show 0 = 0 + 0; omega
    | ⟨4, _⟩ => by show k.val = 0 + k.val; omega
    ).trans (scale_at m c t k)

theorem ld_shift (k : Fin 1024) : ((View.ld (iblk m c 1 t : Vec Ideal S1x1x1x1x1024 .f32) r0_2 : Vec Ideal S1x1x1x1x1024 .f32) (ix5 0 0 0 0 k) : EReal) = Mod m c (ix5 0 0 (modRow (batch t)) 0 k) :=
  (View.ld_unit_apply_of (iblk m c 1 t : Vec Ideal S1x1x1x1x1024 .f32) _ _ _ _ (ix5 0 0 0 0 k) fun a => match a with
    | ⟨0, _⟩ => by show 0 = 0 + 0; omega
    | ⟨1, _⟩ => by show 0 = 0 + 0; omega
    | ⟨2, _⟩ => by show 0 = 0 + 0; omega
    | ⟨3, _⟩ => by show 0 = 0 + 0; omega
    | ⟨4, _⟩ => by show k.val = 0 + k.val; omega
    ).trans (shift_at m c t k)

theorem ld_cos (r : Fin 256) (l : Fin 128) : ((View.ld (iblk m c 5 t : Vec Ideal S256x128 .f32) r0_3 : Vec Ideal S256x128 .f32) (ix2 r l) : EReal) = cosAt (place t r) ⟨l.val % 32, by omega⟩ :=
  (View.ld_unit_apply_of (iblk m c 5 t : Vec Ideal S256x128 .f32) _ _ _ _ (ix2 r l) fun a => match a with
    | ⟨0, _⟩ => by show r.val = 0 + r.val; omega
    | ⟨1, _⟩ => by show l.val = 0 + l.val; omega
    ).trans (cos_at m c t r l)

theorem ld_sin (r : Fin 256) (l : Fin 128) : ((View.ld (iblk m c 6 t : Vec Ideal S256x128 .f32) r0_3 : Vec Ideal S256x128 .f32) (ix2 r l) : EReal) = (if l.val % 64 < 32 then -sinAt (place t r) ⟨l.val % 32, by omega⟩ else sinAt (place t r) ⟨l.val % 32, by omega⟩ : EReal) :=
  (View.ld_unit_apply_of (iblk m c 6 t : Vec Ideal S256x128 .f32) _ _ _ _ (ix2 r l) fun a => match a with
    | ⟨0, _⟩ => by show r.val = 0 + r.val; omega
    | ⟨1, _⟩ => by show l.val = 0 + l.val; omega
    ).trans (sin_at m c t r l)

theorem ld_qn (l : Fin 128) : ((View.ld (iblk m c 7 t : Vec Ideal S1x1x128 .f32) r0_5 : Vec Ideal S1x1x128 .f32) (ix3 0 0 l) : EReal) = Qn m c (ix2 0 ⟨l.val % 64, by omega⟩) :=
  (View.ld_unit_apply_of (iblk m c 7 t : Vec Ideal S1x1x128 .f32) _ _ _ _ (ix3 0 0 l) fun a => match a with
    | ⟨0, _⟩ => by show 0 = 0 + 0; omega
    | ⟨1, _⟩ => by show 0 = 0 + 0; omega
    | ⟨2, _⟩ => by show l.val = 0 + l.val; omega
    ).trans (qn_at m c t l)

theorem ld_kn (l : Fin 128) : ((View.ld (iblk m c 8 t : Vec Ideal S1x1x128 .f32) r0_5 : Vec Ideal S1x1x128 .f32) (ix3 0 0 l) : EReal) = Kn m c (ix2 0 ⟨l.val % 64, by omega⟩) :=
  (View.ld_unit_apply_of (iblk m c 8 t : Vec Ideal S1x1x128 .f32) _ _ _ _ (ix3 0 0 l) fun a => match a with
    | ⟨0, _⟩ => by show 0 = 0 + 0; omega
    | ⟨1, _⟩ => by show 0 = 0 + 0; omega
    | ⟨2, _⟩ => by show l.val = 0 + l.val; omega
    ).trans (kn_at m c t l)

theorem ld_seg (u l : Fin 128) : ((View.ld (iblk m c 9 t : Vec Ideal S128x128 .bf16) r0_4 : Vec Ideal S128x128 .bf16) (ix2 u l) : EReal) = (if u.val / 64 = l.val / 64 then 1 else 0 : EReal) :=
  (View.ld_unit_apply_of (iblk m c 9 t : Vec Ideal S128x128 .bf16) _ _ _ _ (ix2 u l) fun a => match a with
    | ⟨0, _⟩ => by show u.val = 0 + u.val; omega
    | ⟨1, _⟩ => by show l.val = 0 + l.val; omega
    ).trans (seg_at m c t u l)

theorem rows_eq (r : Fin 256) (k : Fin 1024) : (rows m c t (ix2 r k) : EReal) = row (X m c) (Mod m c) (Ng m c) (batch t) (place t r) k := by
  refine (rows_at _ _ _ _ r k).trans ?_
  simp only [ld_x, ld_norm, ld_scale, ld_shift]
  rfl

theorem tables (r : Fin 256) : Tables (cosTab m c t) (sinTab m c t) r (place t r) := by
  intro l
  constructor
  · refine Eq.trans ?_ (ld_cos m c t r l)
    show k0_pay6 _ (ix2 r l) = _
    pointwise [k0_pay6]
  · refine Eq.trans ?_ (ld_sin m c t r l)
    show k0_pay7 _ (ix2 r l) = _
    pointwise [k0_pay7]

theorem col_eq (r : Fin 256) (w : Fin 1024 → EReal) (f : Fin 4676) (hw : ∀ k, w k = W m c (ix3 0 k f)) :
    col (rows m c t) w r = F m c t r f :=
  Finset.sum_congr rfl fun k _ => congrArg₂ (· * ·) (rows_eq m c t r k) (hw k)

/-! ## The widened projection, a group of columns at a time -/

/-- A block of columns of the widened weights, read at an entry. -/
theorem ld_cols (Y : Vec Ideal S1x1024x5120 .bf16) (off : Nat) (sz : Fin 3 → Nat) (inb : ∀ a, (![0, 0, off] : Fin 3 → Nat) a + sz a ≤ S1x1024x5120.size a)
    (x : (Rect.unit (s := S1x1024x5120) ![0, 0, off] sz inb).shape.Idx) (k : Fin 1024) (f : Fin 5120) (h0 : (x 0).val = 0) (h1 : (x 1).val = k.val)
    (h2 : off + (x 2).val = f.val) : View.ld Y (Rect.unit (s := S1x1024x5120) ![0, 0, off] sz inb) x = Y (ix3 0 k f) := by
  refine View.ld_unit_apply_of Y _ _ _ _ (ix3 0 k f) fun a => ?_
  match a with
  | ⟨0, _⟩ => exact (by omega : (0 : Nat) = 0 + (x 0).val)
  | ⟨1, _⟩ => exact (by omega : k.val = 0 + (x 1).val)
  | ⟨2, _⟩ => exact h2.symm

theorem ldw_qa (k : Fin 1024) (f : Fin 512) :
    ((View.ld (iblk m c 4 t : Vec Ideal S1x1024x5120 .bf16) r0_6 : Vec Ideal S1x1024x512 .bf16) (ix3 0 k f) : EReal) = (V m c main_v54 : S2x1024x5120.Idx → EReal) (ix3 0 k ⟨0 + f.val, by have := f.isLt; omega⟩) :=
  (ld_cols (iblk m c 4 t : Vec Ideal S1x1024x5120 .bf16) 0 _ _ (ix3 0 k f) k ⟨0 + f.val, by have := f.isLt; omega⟩ rfl rfl rfl).trans (w_at m c t k _)

theorem col_qa (r : Fin 256) (f : Fin 512) :
    col (rows m c t) (fun k => (View.ld (iblk m c 4 t : Vec Ideal S1x1024x5120 .bf16) r0_6 : Vec Ideal S1x1024x512 .bf16) (ix3 0 k f)) r = F m c t r ⟨f.val, by have := f.isLt; omega⟩ := by
  have hf := f.isLt
  refine col_eq m c t r _ _ fun k => (ldw_qa m c t k f).trans ?_
  refine Eq.trans ?_ ((v54_qa m c k f).trans ?_)
  · exact congrArg (fun z => (V m c main_v54 : S2x1024x5120.Idx → EReal) (ix3 0 k z)) (Fin.ext rfl)
  · refine congrArg (fun z => W m c (ix3 0 k z)) (Fin.ext ?_)
    show 0 + f.val = f.val; omega

theorem ldw_ka (k : Fin 1024) (f : Fin 256) :
    ((View.ld (iblk m c 4 t : Vec Ideal S1x1024x5120 .bf16) r0_11 : Vec Ideal S1x1024x256 .bf16) (ix3 0 k f) : EReal) = (V m c main_v54 : S2x1024x5120.Idx → EReal) (ix3 0 k ⟨512 + f.val, by have := f.isLt; omega⟩) :=
  (ld_cols (iblk m c 4 t : Vec Ideal S1x1024x5120 .bf16) 512 _ _ (ix3 0 k f) k ⟨512 + f.val, by have := f.isLt; omega⟩ rfl rfl rfl).trans (w_at m c t k _)

theorem col_ka (r : Fin 256) (f : Fin 256) :
    col (rows m c t) (fun k => (View.ld (iblk m c 4 t : Vec Ideal S1x1024x5120 .bf16) r0_11 : Vec Ideal S1x1024x256 .bf16) (ix3 0 k f)) r = F m c t r ⟨512 + (f.val / 128 * 64 + f.val % 64), by have := f.isLt; omega⟩ := by
  have hf := f.isLt
  refine col_eq m c t r _ _ fun k => (ldw_ka m c t k f).trans ?_
  exact v54_ka m c k f

theorem ldw_va (k : Fin 1024) (f : Fin 256) :
    ((View.ld (iblk m c 4 t : Vec Ideal S1x1024x5120 .bf16) r0_12 : Vec Ideal S1x1024x256 .bf16) (ix3 0 k f) : EReal) = (V m c main_v54 : S2x1024x5120.Idx → EReal) (ix3 0 k ⟨768 + f.val, by have := f.isLt; omega⟩) :=
  (ld_cols (iblk m c 4 t : Vec Ideal S1x1024x5120 .bf16) 768 _ _ (ix3 0 k f) k ⟨768 + f.val, by have := f.isLt; omega⟩ rfl rfl rfl).trans (w_at m c t k _)

theorem col_va (r : Fin 256) (f : Fin 256) :
    col (rows m c t) (fun k => (View.ld (iblk m c 4 t : Vec Ideal S1x1024x5120 .bf16) r0_12 : Vec Ideal S1x1024x256 .bf16) (ix3 0 k f)) r = F m c t r ⟨640 + (f.val / 128 * 64 + f.val % 64), by have := f.isLt; omega⟩ := by
  have hf := f.isLt
  refine col_eq m c t r _ _ fun k => (ldw_va m c t k f).trans ?_
  exact v54_va m c k f

theorem ldw_qi (k : Fin 1024) (f : Fin 256) :
    ((View.ld (iblk m c 4 t : Vec Ideal S1x1024x5120 .bf16) r0_19 : Vec Ideal S1x1024x256 .bf16) (ix3 0 k f) : EReal) = (V m c main_v54 : S2x1024x5120.Idx → EReal) (ix3 0 k ⟨1024 + f.val, by have := f.isLt; omega⟩) :=
  (ld_cols (iblk m c 4 t : Vec Ideal S1x1024x5120 .bf16) 1024 _ _ (ix3 0 k f) k ⟨1024 + f.val, by have := f.isLt; omega⟩ rfl rfl rfl).trans (w_at m c t k _)

theorem col_qi (r : Fin 256) (f : Fin 256) :
    col (rows m c t) (fun k => (View.ld (iblk m c 4 t : Vec Ideal S1x1024x5120 .bf16) r0_19 : Vec Ideal S1x1024x256 .bf16) (ix3 0 k f)) r = F m c t r ⟨768 + f.val, by have := f.isLt; omega⟩ := by
  have hf := f.isLt
  refine col_eq m c t r _ _ fun k => (ldw_qi m c t k f).trans ?_
  exact v54_qi m c k f

theorem ldw_ki (k : Fin 1024) (f : Fin 128) :
    ((View.ld (iblk m c 4 t : Vec Ideal S1x1024x5120 .bf16) r0_20 : Vec Ideal S1x1024x128 .bf16) (ix3 0 k f) : EReal) = (V m c main_v54 : S2x1024x5120.Idx → EReal) (ix3 0 k ⟨1280 + f.val, by have := f.isLt; omega⟩) :=
  (ld_cols (iblk m c 4 t : Vec Ideal S1x1024x5120 .bf16) 1280 _ _ (ix3 0 k f) k ⟨1280 + f.val, by have := f.isLt; omega⟩ rfl rfl rfl).trans (w_at m c t k _)

theorem col_ki (r : Fin 256) (f : Fin 128) :
    col (rows m c t) (fun k => (View.ld (iblk m c 4 t : Vec Ideal S1x1024x5120 .bf16) r0_20 : Vec Ideal S1x1024x128 .bf16) (ix3 0 k f)) r = F m c t r ⟨1024 + f.val % 64, by have := f.isLt; omega⟩ := by
  have hf := f.isLt
  refine col_eq m c t r _ _ fun k => (ldw_ki m c t k f).trans ?_
  exact v54_ki m c k f

theorem ldw_qb (k : Fin 1024) (f : Fin 512) :
    ((View.ld (iblk m c 4 t : Vec Ideal S1x1024x5120 .bf16) r0_25 : Vec Ideal S1x1024x512 .bf16) (ix3 0 k f) : EReal) = (V m c main_v54 : S2x1024x5120.Idx → EReal) (ix3 0 k ⟨1536 + f.val, by have := f.isLt; omega⟩) :=
  (ld_cols (iblk m c 4 t : Vec Ideal S1x1024x5120 .bf16) 1536 _ _ (ix3 0 k f) k ⟨1536 + f.val, by have := f.isLt; omega⟩ rfl rfl rfl).trans (w_at m c t k _)

theorem col_qb (r : Fin 256) (f : Fin 512) :
    col (rows m c t) (fun k => (View.ld (iblk m c 4 t : Vec Ideal S1x1024x5120 .bf16) r0_25 : Vec Ideal S1x1024x512 .bf16) (ix3 0 k f)) r = F m c t r ⟨1092 + f.val, by have := f.isLt; omega⟩ := by
  have hf := f.isLt
  refine col_eq m c t r _ _ fun k => (ldw_qb m c t k f).trans ?_
  exact v54_qb m c k f

theorem ldw_kb (k : Fin 1024) (f : Fin 512) :
    ((View.ld (iblk m c 4 t : Vec Ideal S1x1024x5120 .bf16) r0_27 : Vec Ideal S1x1024x512 .bf16) (ix3 0 k f) : EReal) = (V m c main_v54 : S2x1024x5120.Idx → EReal) (ix3 0 k ⟨2048 + f.val, by have := f.isLt; omega⟩) :=
  (ld_cols (iblk m c 4 t : Vec Ideal S1x1024x5120 .bf16) 2048 _ _ (ix3 0 k f) k ⟨2048 + f.val, by have := f.isLt; omega⟩ rfl rfl rfl).trans (w_at m c t k _)

theorem col_kb (r : Fin 256) (f : Fin 512) :
    col (rows m c t) (fun k => (View.ld (iblk m c 4 t : Vec Ideal S1x1024x5120 .bf16) r0_27 : Vec Ideal S1x1024x512 .bf16) (ix3 0 k f)) r = F m c t r ⟨1604 + f.val, by have := f.isLt; omega⟩ := by
  have hf := f.isLt
  refine col_eq m c t r _ _ fun k => (ldw_kb m c t k f).trans ?_
  exact v54_kb m c k f

theorem ldw_vb (k : Fin 1024) (f : Fin 512) :
    ((View.ld (iblk m c 4 t : Vec Ideal S1x1024x5120 .bf16) r0_30 : Vec Ideal S1x1024x512 .bf16) (ix3 0 k f) : EReal) = (V m c main_v54 : S2x1024x5120.Idx → EReal) (ix3 0 k ⟨2560 + f.val, by have := f.isLt; omega⟩) :=
  (ld_cols (iblk m c 4 t : Vec Ideal S1x1024x5120 .bf16) 2560 _ _ (ix3 0 k f) k ⟨2560 + f.val, by have := f.isLt; omega⟩ rfl rfl rfl).trans (w_at m c t k _)

theorem col_vb (r : Fin 256) (f : Fin 512) :
    col (rows m c t) (fun k => (View.ld (iblk m c 4 t : Vec Ideal S1x1024x5120 .bf16) r0_30 : Vec Ideal S1x1024x512 .bf16) (ix3 0 k f)) r = F m c t r ⟨2116 + f.val, by have := f.isLt; omega⟩ := by
  have hf := f.isLt
  refine col_eq m c t r _ _ fun k => (ldw_vb m c t k f).trans ?_
  exact v54_vb m c k f

theorem ldw_gl0 (k : Fin 1024) (f : Fin 512) :
    ((View.ld (iblk m c 4 t : Vec Ideal S1x1024x5120 .bf16) r0_31 : Vec Ideal S1x1024x512 .bf16) (ix3 0 k f) : EReal) = (V m c main_v54 : S2x1024x5120.Idx → EReal) (ix3 0 k ⟨3072 + f.val, by have := f.isLt; omega⟩) :=
  (ld_cols (iblk m c 4 t : Vec Ideal S1x1024x5120 .bf16) 3072 _ _ (ix3 0 k f) k ⟨3072 + f.val, by have := f.isLt; omega⟩ rfl rfl rfl).trans (w_at m c t k _)

theorem col_gl0 (r : Fin 256) (f : Fin 512) :
    col (rows m c t) (fun k => (View.ld (iblk m c 4 t : Vec Ideal S1x1024x5120 .bf16) r0_31 : Vec Ideal S1x1024x512 .bf16) (ix3 0 k f)) r = F m c t r ⟨2628 + f.val, by have := f.isLt; omega⟩ := by
  have hf := f.isLt
  refine col_eq m c t r _ _ fun k => (ldw_gl0 m c t k f).trans ?_
  refine Eq.trans ?_ ((v54_gl m c k ⟨0 + f.val, by omega⟩).trans ?_)
  · refine congrArg (fun z => (V m c main_v54 : S2x1024x5120.Idx → EReal) (ix3 0 k z)) (Fin.ext ?_)
    show 3072 + f.val = 3072 + (0 + f.val); omega
  · refine congrArg (fun z => W m c (ix3 0 k z)) (Fin.ext ?_)
    show 2628 + (0 + f.val) = 2628 + f.val; omega

theorem ldw_gl1 (k : Fin 1024) (f : Fin 512) :
    ((View.ld (iblk m c 4 t : Vec Ideal S1x1024x5120 .bf16) r0_33 : Vec Ideal S1x1024x512 .bf16) (ix3 0 k f) : EReal) = (V m c main_v54 : S2x1024x5120.Idx → EReal) (ix3 0 k ⟨3584 + f.val, by have := f.isLt; omega⟩) :=
  (ld_cols (iblk m c 4 t : Vec Ideal S1x1024x5120 .bf16) 3584 _ _ (ix3 0 k f) k ⟨3584 + f.val, by have := f.isLt; omega⟩ rfl rfl rfl).trans (w_at m c t k _)

theorem col_gl1 (r : Fin 256) (f : Fin 512) :
    col (rows m c t) (fun k => (View.ld (iblk m c 4 t : Vec Ideal S1x1024x5120 .bf16) r0_33 : Vec Ideal S1x1024x512 .bf16) (ix3 0 k f)) r = F m c t r ⟨3140 + f.val, by have := f.isLt; omega⟩ := by
  have hf := f.isLt
  refine col_eq m c t r _ _ fun k => (ldw_gl1 m c t k f).trans ?_
  refine Eq.trans ?_ ((v54_gl m c k ⟨512 + f.val, by omega⟩).trans ?_)
  · refine congrArg (fun z => (V m c main_v54 : S2x1024x5120.Idx → EReal) (ix3 0 k z)) (Fin.ext ?_)
    show 3584 + f.val = 3072 + (512 + f.val); omega
  · refine congrArg (fun z => W m c (ix3 0 k z)) (Fin.ext ?_)
    show 2628 + (512 + f.val) = 3140 + f.val; omega

theorem ldw_gl2 (k : Fin 1024) (f : Fin 512) :
    ((View.ld (iblk m c 4 t : Vec Ideal S1x1024x5120 .bf16) r0_35 : Vec Ideal S1x1024x512 .bf16) (ix3 0 k f) : EReal) = (V m c main_v54 : S2x1024x5120.Idx → EReal) (ix3 0 k ⟨4096 + f.val, by have := f.isLt; omega⟩) :=
  (ld_cols (iblk m c 4 t : Vec Ideal S1x1024x5120 .bf16) 4096 _ _ (ix3 0 k f) k ⟨4096 + f.val, by have := f.isLt; omega⟩ rfl rfl rfl).trans (w_at m c t k _)

theorem col_gl2 (r : Fin 256) (f : Fin 512) :
    col (rows m c t) (fun k => (View.ld (iblk m c 4 t : Vec Ideal S1x1024x5120 .bf16) r0_35 : Vec Ideal S1x1024x512 .bf16) (ix3 0 k f)) r = F m c t r ⟨3652 + f.val, by have := f.isLt; omega⟩ := by
  have hf := f.isLt
  refine col_eq m c t r _ _ fun k => (ldw_gl2 m c t k f).trans ?_
  refine Eq.trans ?_ ((v54_gl m c k ⟨1024 + f.val, by omega⟩).trans ?_)
  · refine congrArg (fun z => (V m c main_v54 : S2x1024x5120.Idx → EReal) (ix3 0 k z)) (Fin.ext ?_)
    show 4096 + f.val = 3072 + (1024 + f.val); omega
  · refine congrArg (fun z => W m c (ix3 0 k z)) (Fin.ext ?_)
    show 2628 + (1024 + f.val) = 3652 + f.val; omega

theorem ldw_gl3 (k : Fin 1024) (f : Fin 512) :
    ((View.ld (iblk m c 4 t : Vec Ideal S1x1024x5120 .bf16) r0_37 : Vec Ideal S1x1024x512 .bf16) (ix3 0 k f) : EReal) = (V m c main_v54 : S2x1024x5120.Idx → EReal) (ix3 0 k ⟨4608 + f.val, by have := f.isLt; omega⟩) :=
  (ld_cols (iblk m c 4 t : Vec Ideal S1x1024x5120 .bf16) 4608 _ _ (ix3 0 k f) k ⟨4608 + f.val, by have := f.isLt; omega⟩ rfl rfl rfl).trans (w_at m c t k _)

theorem col_gl3 (r : Fin 256) (f : Fin 512) :
    col (rows m c t) (fun k => (View.ld (iblk m c 4 t : Vec Ideal S1x1024x5120 .bf16) r0_37 : Vec Ideal S1x1024x512 .bf16) (ix3 0 k f)) r = F m c t r ⟨4164 + f.val, by have := f.isLt; omega⟩ := by
  have hf := f.isLt
  refine col_eq m c t r _ _ fun k => (ldw_gl3 m c t k f).trans ?_
  refine Eq.trans ?_ ((v54_gl m c k ⟨1536 + f.val, by omega⟩).trans ?_)
  · refine congrArg (fun z => (V m c main_v54 : S2x1024x5120.Idx → EReal) (ix3 0 k z)) (Fin.ext ?_)
    show 4608 + f.val = 3072 + (1536 + f.val); omega
  · refine congrArg (fun z => W m c (ix3 0 k z)) (Fin.ext ?_)
    show 2628 + (1536 + f.val) = 4164 + f.val; omega

theorem ldw_wi (k : Fin 1024) (f : Fin 128) :
    ((View.ld (iblk m c 4 t : Vec Ideal S1x1024x5120 .bf16) r0_23 : Vec Ideal S1x1024x128 .bf16) (ix3 0 k f) : EReal) = (V m c main_v54 : S2x1024x5120.Idx → EReal) (ix3 0 k ⟨1408 + f.val, by have := f.isLt; omega⟩) :=
  (ld_cols (iblk m c 4 t : Vec Ideal S1x1024x5120 .bf16) 1408 _ _ (ix3 0 k f) k ⟨1408 + f.val, by have := f.isLt; omega⟩ rfl rfl rfl).trans (w_at m c t k _)

theorem col_wi (r : Fin 256) (f : Fin 4) :
    col (rows m c t) (fun k => (View.ld (iblk m c 4 t : Vec Ideal S1x1024x5120 .bf16) r0_23 : Vec Ideal S1x1024x128 .bf16) (ix3 0 k ⟨f.val, by omega⟩)) r = F m c t r ⟨1088 + f.val, by omega⟩ :=
  col_eq m c t r _ _ fun k => (ldw_wi m c t k ⟨f.val, by omega⟩).trans (v54_wi m c k f)

theorem ldw_pad (k : Fin 1024) (f : Fin 128) (hf : 4 ≤ f.val) :
    ((View.ld (iblk m c 4 t : Vec Ideal S1x1024x5120 .bf16) r0_23 : Vec Ideal S1x1024x128 .bf16) (ix3 0 k f) : EReal) = (0 : EReal) := by
  have hl := f.isLt
  refine (ldw_wi m c t k f).trans ?_
  refine Eq.trans ?_ ((v54_pad m c k ⟨f.val - 4, by omega⟩).trans ?_)
  · refine congrArg (fun z => (V m c main_v54 : S2x1024x5120.Idx → EReal) (ix3 0 k z)) (Fin.ext ?_)
    show 1408 + f.val = 1412 + (f.val - 4); omega
  · show (((0#32 : BitVec 32).toInt : ℝ) : EReal) = 0
    simp

theorem col_pad (r : Fin 256) (f : Fin 128) (hf : 4 ≤ f.val) :
    col (rows m c t) (fun k => (View.ld (iblk m c 4 t : Vec Ideal S1x1024x5120 .bf16) r0_23 : Vec Ideal S1x1024x128 .bf16) (ix3 0 k f)) r = (0 : EReal) :=
  Finset.sum_eq_zero fun k _ => (congrArg (fun z : EReal => (rows m c t (ix2 r k) : EReal) * z) (ldw_pad m c t k f hf)).trans (mul_zero (rows m c t (ix2 r k) : EReal))

end Cert.Proof.ProjIdeal.Out

end
-- ==== Proof.ProjValue.lean ====
/- The blocks of the projection kernel's results, as the mathematics of their batch row and place. -/
module

public import proofs.«01_k».proof.Proof.ProjOut

@[expose] public section

set_option maxRecDepth 16384

noncomputable section

namespace Cert.Proof.ProjIdeal.Value

open Cert.ProjIdeal Cert.ProjIdeal.Gen Cert.Proof.ProjSpec Idealize.ShloMosaic Idealize.ShloMosaic.TcCoe Idealize.SL.Sem Idealize.ShloMosaic.StableHlo
open Cert.Proof.ProjIdeal.Blocks Cert.Proof.ProjIdeal.Point Cert.Proof.ProjIdeal.Out

variable (m : (ℓ : Loc nD τ sig) → Buf (Elt Ideal) ℓ) (c : Dev nD) (t : Fin cfg0.N)

/-! ## Heads -/

abbrev wq : Vec Ideal S1x1024x512 .bf16 := View.ld (iblk m c 4 t : Vec Ideal S1x1024x5120 .bf16) r0_6
abbrev wk : Vec Ideal S1x1024x256 .bf16 := View.ld (iblk m c 4 t : Vec Ideal S1x1024x5120 .bf16) r0_11
abbrev wi : Vec Ideal S1x1024x256 .bf16 := View.ld (iblk m c 4 t : Vec Ideal S1x1024x5120 .bf16) r0_19
abbrev segs : FVec Ideal S128x128 .bf16 := View.ld (iblk m c 9 t : Vec Ideal S128x128 .bf16) r0_4
abbrev gq : FVec Ideal S1x128 .f32 := k0_pay10 (View.ld (iblk m c 7 t : Vec Ideal S1x1x128 .f32) r0_5)
abbrev gk : FVec Ideal S1x128 .f32 := k0_pay11 (View.ld (iblk m c 8 t : Vec Ideal S1x1x128 .f32) r0_5)

theorem gq_at (l : Fin 128) : (gq m c t (ix2 0 l) : EReal) = Qn m c (ix2 0 ⟨l.val % 64, by omega⟩) := by
  refine Eq.trans ?_ (ld_qn m c t l)
  show k0_pay10 _ (ix2 0 l) = _
  pointwise [k0_pay10]

theorem gk_at (l : Fin 128) : (gk m c t (ix2 0 l) : EReal) = Kn m c (ix2 0 ⟨l.val % 64, by omega⟩) := by
  refine Eq.trans ?_ (ld_kn m c t l)
  show k0_pay11 _ (ix2 0 l) = _
  pointwise [k0_pay11]

/-- What two heads of a row hold, the first head's columns beginning at `lo`. -/
def Holds (v : FVec Ideal S256x128 .f32) (r : Fin 256) (u : Fin 128 → Fin 4676) : Prop := ∀ l : Fin 128, (v (ix2 r l) : EReal) = F m c t r (u l)

/-- A head of a pair, turned. -/
theorem turned_pair (v : FVec Ideal S256x128 .f32) (r : Fin 256) (u : Fin 128 → Fin 4676) (hv : Holds m c t v r u) (l : Fin 128) (lo : Nat) (hlo : lo + 64 ≤ 4676)
    (hu : ∀ l' : Fin 128, l'.val / 64 = l.val / 64 → (u l').val = lo + l'.val % 64) :
    (turn v (cosTab m c t) (sinTab m c t) (ix2 r l) : EReal) = turned (headOf (F m c t r) lo hlo) (place t r) ⟨l.val % 64, by omega⟩ :=
  turn_head _ _ _ r (place t r) (tables m c t r) _ l fun l' h' => (hv l').trans (congrArg (F m c t r) (Fin.ext (hu l' h')))

/-- A head of a pair, normed and turned. -/
theorem normed_pair (hF : ∀ r f, IsReal (F m c t r f)) (v : FVec Ideal S256x128 .f32) (g : FVec Ideal S1x128 .f32) (gain : Fin 64 → EReal)
    (hg : ∀ l : Fin 128, (g (ix2 0 l) : EReal) = gain ⟨l.val % 64, by omega⟩) (r : Fin 256) (u : Fin 128 → Fin 4676) (hv : Holds m c t v r u) (l : Fin 128) (lo : Nat)
    (hlo : lo + 64 ≤ 4676) (hu : ∀ l' : Fin 128, l'.val / 64 = l.val / 64 → (u l').val = lo + l'.val % 64) :
    (turn (headNorm v (segs m c t) g) (cosTab m c t) (sinTab m c t) (ix2 r l) : EReal)
      = turned (normed (headOf (F m c t r) lo hlo) gain) (place t r) ⟨l.val % 64, by omega⟩ :=
  turn_head _ _ _ r (place t r) (tables m c t r) _ l fun l' h' =>
    norm_head v (segs m c t) g (ld_seg m c t) r l' _ gain (fun l'' => (hv l'').symm ▸ hF r _)
      (fun l'' h'' => (hv l'').trans (congrArg (F m c t r) (Fin.ext (hu l'' (h''.trans h'))))) (hg l')

theorem query_holds (lo : Nat) (hs : S256x512.Slices ![0, lo] S256x128) (h : lo + 128 ≤ 512) (r : Fin 256) :
    Holds m c t (extractStridedSlice S256x128 ![0, lo] (k0_pay12 (rows m c t) (wq m c t)) hs) r (fun l => ⟨lo + l.val, by have := l.isLt; omega⟩) := fun l =>
  (slice_at lo hs h _ r l).trans ((wide_at _ _ r _).trans (col_qa m c t r ⟨lo + l.val, by have := l.isLt; omega⟩))

theorem key_holds (lo : Nat) (hs : S256x256.Slices ![0, lo] S256x128) (h : lo + 128 ≤ 256) (r : Fin 256) :
    Holds m c t (extractStridedSlice S256x128 ![0, lo] (k0_pay22 (rows m c t) (wk m c t)) hs) r
      (fun l => ⟨512 + ((lo + l.val) / 128 * 64 + (lo + l.val) % 64), by have := l.isLt; omega⟩) := fun l =>
  (pair_at lo hs h _ r l).trans ((half_at _ _ r _).trans (col_ka m c t r ⟨lo + l.val, by have := l.isLt; omega⟩))

theorem index_holds (lo : Nat) (hs : S256x256.Slices ![0, lo] S256x128) (h : lo + 128 ≤ 256) (r : Fin 256) :
    Holds m c t (extractStridedSlice S256x128 ![0, lo] (k0_pay22 (rows m c t) (wi m c t)) hs) r
      (fun l => ⟨768 + (lo + l.val), by have := l.isLt; omega⟩) := fun l =>
  (pair_at lo hs h _ r l).trans ((half_at _ _ r _).trans (col_qi m c t r ⟨lo + l.val, by have := l.isLt; omega⟩))

theorem ix2_of {a b : Nat} (x : (⟨2, ![a, b]⟩ : Shape).Idx) : x = ix2 (x 0) (x 1) := by
  funext i
  match i with
  | ⟨0, _⟩ => rfl
  | ⟨1, _⟩ => rfl

theorem ix3_of {b d : Nat} (x : (⟨3, ![1, b, d]⟩ : Shape).Idx) : x = ix3 0 (x 1) (x 2) := by
  funext i
  match i with
  | ⟨0, _⟩ => exact Fin.ext (Nat.lt_one_iff.mp (x 0).isLt)
  | ⟨1, _⟩ => rfl
  | ⟨2, _⟩ => rfl

/-! ## The blocks -/

theorem query_piece (hF : ∀ r f, IsReal (F m c t r f)) (lo : Nat) (hd : lo % 128 = 0) (hs : S256x512.Slices ![0, lo] S256x128) (h : lo + 128 ≤ 512)
    (r : Fin 256) (l : Fin 128) (f : Fin 512) (hf : f.val = lo + l.val) :
    ((turn (headNorm (extractStridedSlice S256x128 ![0, lo] (k0_pay12 (rows m c t) (wq m c t)) hs) (segs m c t) (gq m c t)) (cosTab m c t) (sinTab m c t) (ix2 r l) : EReal)
      * Ideal.ofBits .f32 0x3E38AA3B#32) = qaOf (X m c) (Mod m c) (Ng m c) (W m c) (Qn m c) (batch t) (place t r) f := by
  have hl := l.isLt
  refine congrArg (fun z : EReal => z * Ideal.ofBits .f32 0x3E38AA3B#32) ?_
  refine (normed_pair m c t hF _ _ (fun j => Qn m c (ix2 0 j)) (gq_at m c t) r _ (query_holds m c t lo hs h r) l (64 * (f.val / 64)) (by omega)
    fun l' h' => ?_).trans ?_
  · have hl' := l'.isLt
    show lo + l'.val = 64 * (f.val / 64) + l'.val % 64
    omega
  · have e : (⟨l.val % 64, by omega⟩ : Fin 64) = ⟨f.val % 64, by omega⟩ := Fin.ext (by show l.val % 64 = f.val % 64; omega)
    rw [e]

theorem qa_block (hF : ∀ r f, IsReal (F m c t r f)) (r : Fin 256) (f : Fin 512) :
    (out0_10 (iblk m c 0 t) (iblk m c 1 t) (iblk m c 2 t) (iblk m c 3 t) (iblk m c 4 t) (iblk m c 5 t) (iblk m c 6 t) (iblk m c 7 t) (iblk m c 8 t) (iblk m c 9 t) (ix2 r f) : EReal) = qaOf (X m c) (Mod m c) (Ng m c) (W m c) (Qn m c) (batch t) (place t r) f := by
  canon_tiles x h using cover0_10 (F := Ideal) ..
  · obtain rfl : r = x 0 := Fin.ext h0
    rw [ix2_of x]
    exact (q3 _ _ _ _ _ _).trans (query_piece m c t hF 384 (by decide) _ (by omega) _ _ f h1)
  · obtain rfl : r = x 0 := Fin.ext h0
    rw [ix2_of x]
    exact (q2 _ _ _ _ _ _).trans (query_piece m c t hF 256 (by decide) _ (by omega) _ _ f h1)
  · obtain rfl : r = x 0 := Fin.ext h0
    rw [ix2_of x]
    exact (q1 _ _ _ _ _ _).trans (query_piece m c t hF 128 (by decide) _ (by omega) _ _ f h1)
  · obtain rfl : r = x 0 := Fin.ext h0
    rw [ix2_of x]
    exact (q0 _ _ _ _ _ _ _).trans (query_piece m c t hF 0 (by decide) _ (by omega) _ _ f (h1.trans (Nat.zero_add _).symm))

theorem index_piece (lo : Nat) (hd : lo % 128 = 0) (hs : S256x256.Slices ![0, lo] S256x128) (h : lo + 128 ≤ 256)
    (r : Fin 256) (l : Fin 128) (f : Fin 256) (hf : f.val = lo + l.val) :
    ((turn (extractStridedSlice S256x128 ![0, lo] (k0_pay22 (rows m c t) (wi m c t)) hs) (cosTab m c t) (sinTab m c t) (ix2 r l) : EReal)
      * Ideal.ofBits .f32 0x3E000000#32) = qiOf (X m c) (Mod m c) (Ng m c) (W m c) (batch t) (place t r) f := by
  have hl := l.isLt
  refine congrArg (fun z : EReal => z * Ideal.ofBits .f32 0x3E000000#32) ?_
  refine (turned_pair m c t _ r _ (index_holds m c t lo hs h r) l (768 + 64 * (f.val / 64)) (by omega) fun l' h' => ?_).trans ?_
  · have hl' := l'.isLt
    show 768 + (lo + l'.val) = 768 + 64 * (f.val / 64) + l'.val % 64
    omega
  · have e : (⟨l.val % 64, by omega⟩ : Fin 64) = ⟨f.val % 64, by omega⟩ := Fin.ext (by show l.val % 64 = f.val % 64; omega)
    rw [e]

theorem qi_block (r : Fin 256) (f : Fin 256) :
    (out0_11 (iblk m c 0 t) (iblk m c 1 t) (iblk m c 2 t) (iblk m c 3 t) (iblk m c 4 t) (iblk m c 5 t) (iblk m c 6 t) (iblk m c 7 t) (iblk m c 8 t) (iblk m c 9 t) (ix2 r f) : EReal) = qiOf (X m c) (Mod m c) (Ng m c) (W m c) (batch t) (place t r) f := by
  canon_tiles x h using cover0_11 (F := Ideal) ..
  · obtain rfl : r = x 0 := Fin.ext h0
    rw [ix2_of x]
    exact (index_query1 _ _ _ _ _).trans (index_piece m c t 128 (by decide) _ (by omega) _ _ f h1)
  · obtain rfl : r = x 0 := Fin.ext h0
    rw [ix2_of x]
    exact (index_query0 _ _ _ _ _).trans (index_piece m c t 0 (by decide) _ (by omega) _ _ f (h1.trans (Nat.zero_add _).symm))

theorem wi_block (r : Fin 256) (f : Fin 8) :
    (out0_12 (iblk m c 0 t) (iblk m c 1 t) (iblk m c 2 t) (iblk m c 3 t) (iblk m c 4 t) (iblk m c 5 t) (iblk m c 6 t) (iblk m c 7 t) (iblk m c 8 t) (iblk m c 9 t) (ix2 r f) : EReal) = wiOf (X m c) (Mod m c) (Ng m c) (W m c) (batch t) (place t r) f := by
  canon_tiles x h using cover0_12 (F := Ideal) ..
  obtain rfl : r = x 0 := Fin.ext h0
  obtain rfl : f = x 1 := Fin.ext h1
  rw [ix2_of x]
  refine (index_weight_at _ _ _ _).trans ?_
  by_cases hf : (x 1).val < 4
  · exact (congrArg (fun z : EReal => z * Ideal.ofBits .f32 0x3F000000#32) (col_wi m c t _ ⟨(x 1).val, hf⟩)).trans (wiOf_low _ _ _ _ _ _ _ hf).symm
  · exact ((congrArg (fun z : EReal => z * Ideal.ofBits .f32 0x3F000000#32) (col_pad m c t _ _ (Nat.le_of_not_lt hf))).trans (zero_mul _)).trans (wiOf_high _ _ _ _ _ _ _ hf).symm

theorem qb_block (r : Fin 256) (f : Fin 512) :
    (out0_13 (iblk m c 0 t) (iblk m c 1 t) (iblk m c 2 t) (iblk m c 3 t) (iblk m c 4 t) (iblk m c 5 t) (iblk m c 6 t) (iblk m c 7 t) (iblk m c 8 t) (iblk m c 9 t) (ix2 r f) : EReal) = qbOf (X m c) (Mod m c) (Ng m c) (W m c) (batch t) (place t r) f := by
  canon_tiles x h using cover0_13 (F := Ideal) ..
  obtain rfl : r = x 0 := Fin.ext h0
  obtain rfl : f = x 1 := Fin.ext h1
  rw [ix2_of x]
  exact (stick_query_at _ _ _ _).trans (congrArg (fun z : EReal => z * Ideal.ofBits .f32 0x3E000000#32) (col_qb m c t _ _))

theorem gate_block (r : Fin 256) (f : Fin 2048) :
    (out0_14 (iblk m c 0 t) (iblk m c 1 t) (iblk m c 2 t) (iblk m c 3 t) (iblk m c 4 t) (iblk m c 5 t) (iblk m c 6 t) (iblk m c 7 t) (iblk m c 8 t) (iblk m c 9 t) (ix2 r f) : EReal) = gateOf (X m c) (Mod m c) (Ng m c) (W m c) (batch t) (place t r) f := by
  canon_tiles x h using cover0_14 (F := Ideal) ..
  · obtain rfl : r = x 0 := Fin.ext h0
    rw [ix2_of x]
    have h1' : f.val = 1536 + (x 1).val := h1
    refine (gate3_at _ _ _ _).trans (congrArg Ideal.logistic ((col_gl3 m c t _ _).trans (congrArg (F m c t _) (Fin.ext ?_))))
    show 4164 + (x 1).val = 2628 + f.val
    omega
  · obtain rfl : r = x 0 := Fin.ext h0
    rw [ix2_of x]
    have h1' : f.val = 1024 + (x 1).val := h1
    refine (gate2_at _ _ _ _).trans (congrArg Ideal.logistic ((col_gl2 m c t _ _).trans (congrArg (F m c t _) (Fin.ext ?_))))
    show 3652 + (x 1).val = 2628 + f.val
    omega
  · obtain rfl : r = x 0 := Fin.ext h0
    rw [ix2_of x]
    have h1' : f.val = 512 + (x 1).val := h1
    refine (gate1_at _ _ _ _).trans (congrArg Ideal.logistic ((col_gl1 m c t _ _).trans (congrArg (F m c t _) (Fin.ext ?_))))
    show 3140 + (x 1).val = 2628 + f.val
    omega
  · obtain rfl : r = x 0 := Fin.ext h0
    rw [ix2_of x]
    have h1' : f.val = (x 1).val := h1
    refine (gate0_at _ _ _ _).trans (congrArg Ideal.logistic ((col_gl0 m c t _ _).trans (congrArg (F m c t _) (Fin.ext ?_))))
    show 2628 + (x 1).val = 2628 + f.val
    omega

theorem ka_block (hF : ∀ r f, IsReal (F m c t r f)) (f : Fin 128) (r : Fin 256) :
    (out0_20 (iblk m c 0 t) (iblk m c 1 t) (iblk m c 2 t) (iblk m c 3 t) (iblk m c 4 t) (iblk m c 5 t) (iblk m c 6 t) (iblk m c 7 t) (iblk m c 8 t) (iblk m c 9 t) (ix3 0 f r) : EReal) = kaOf (X m c) (Mod m c) (Ng m c) (W m c) (Kn m c) (batch t) (place t r) f := by
  canon_tiles x h using cover0_20 (F := Ideal) ..
  · obtain rfl : r = x 2 := Fin.ext h2
    have h1' : f.val = 64 + (x 1).val := h1
    rw [ix3_of x]
    refine (second_key_at _ _ _).trans ?_
    have hx : (x 1).val < 64 := x1_lt
    refine (congrFun (key1 _ _ _ _ _ _) _).trans ?_
    refine (normed_pair m c t hF _ _ (fun j => Kn m c (ix2 0 j)) (gk_at m c t) _ _ (key_holds m c t 128 _ (by omega) _) ⟨(x 1).val, by omega⟩ (512 + 64 * (f.val / 64)) (by omega)
      fun l' h' => ?_).trans ?_
    · have hl' := l'.isLt
      have h'' : l'.val / 64 = (x 1).val / 64 := h'
      show 512 + ((128 + l'.val) / 128 * 64 + (128 + l'.val) % 64) = 512 + 64 * (f.val / 64) + l'.val % 64
      omega
    · have e : (⟨(x 1).val % 64, by omega⟩ : Fin 64) = ⟨f.val % 64, by omega⟩ := Fin.ext (by show (x 1).val % 64 = f.val % 64; omega)
      exact congrArg (turned (normed (headOf (F m c t (x 2)) (512 + 64 * (f.val / 64)) (by omega)) (fun j => Kn m c (ix2 0 j))) (place t (x 2))) e
  · obtain rfl : r = x 2 := Fin.ext h2
    have h1' : f.val = (x 1).val := h1
    rw [ix3_of x]
    refine (first_key_at _ _ _).trans ?_
    have hx : (x 1).val < 64 := x1_lt
    refine (congrFun (key0 _ _ _ _ _ _) _).trans ?_
    refine (normed_pair m c t hF _ _ (fun j => Kn m c (ix2 0 j)) (gk_at m c t) _ _ (key_holds m c t 0 _ (by omega) _) ⟨(x 1).val, by omega⟩ (512 + 64 * (f.val / 64)) (by omega)
      fun l' h' => ?_).trans ?_
    · have hl' := l'.isLt
      have h'' : l'.val / 64 = (x 1).val / 64 := h'
      show 512 + ((0 + l'.val) / 128 * 64 + (0 + l'.val) % 64) = 512 + 64 * (f.val / 64) + l'.val % 64
      omega
    · have e : (⟨(x 1).val % 64, by omega⟩ : Fin 64) = ⟨f.val % 64, by omega⟩ := Fin.ext (by show (x 1).val % 64 = f.val % 64; omega)
      exact congrArg (turned (normed (headOf (F m c t (x 2)) (512 + 64 * (f.val / 64)) (by omega)) (fun j => Kn m c (ix2 0 j))) (place t (x 2))) e

theorem va_block (f : Fin 128) (r : Fin 256) :
    (out0_21 (iblk m c 0 t) (iblk m c 1 t) (iblk m c 2 t) (iblk m c 3 t) (iblk m c 4 t) (iblk m c 5 t) (iblk m c 6 t) (iblk m c 7 t) (iblk m c 8 t) (iblk m c 9 t) (ix3 0 f r) : EReal) = vaOf (X m c) (Mod m c) (Ng m c) (W m c) (batch t) (place t r) f := by
  canon_tiles x h using cover0_21 (F := Ideal) ..
  · obtain rfl : r = x 2 := Fin.ext h2
    have hx : (x 1).val < 64 := x1_lt
    have h1' : f.val = 64 + (x 1).val := h1
    rw [ix3_of x]
    refine (second_value_at _ _ _ _).trans ((col_va m c t _ _).trans (congrArg (F m c t _) (Fin.ext ?_)))
    show 640 + ((128 + (x 1).val) / 128 * 64 + (128 + (x 1).val) % 64) = 640 + f.val
    omega
  · obtain rfl : r = x 2 := Fin.ext h2
    have hx : (x 1).val < 64 := x1_lt
    have h1' : f.val = (x 1).val := h1
    rw [ix3_of x]
    refine (first_value_at _ _ _ _).trans ((col_va m c t _ _).trans (congrArg (F m c t _) (Fin.ext ?_)))
    show 640 + ((x 1).val / 128 * 64 + (x 1).val % 64) = 640 + f.val
    omega

theorem ki_block (f : Fin 64) (r : Fin 256) :
    (out0_22 (iblk m c 0 t) (iblk m c 1 t) (iblk m c 2 t) (iblk m c 3 t) (iblk m c 4 t) (iblk m c 5 t) (iblk m c 6 t) (iblk m c 7 t) (iblk m c 8 t) (iblk m c 9 t) (ix3 0 f r) : EReal) = kiOf (X m c) (Mod m c) (Ng m c) (W m c) (batch t) (place t r) f := by
  have hf := f.isLt
  canon_tiles x h using cover0_22 (F := Ideal) ..
  obtain rfl : r = x 2 := Fin.ext h2
  obtain rfl : f = x 1 := Fin.ext h1
  rw [ix3_of x]
  refine (index_key_at _ _ _ _ _ _).trans ?_
  refine (turned_pair m c t _ _ (fun l => ⟨1024 + l.val % 64, by omega⟩) (fun l => (group_at _ _ _ l).trans (col_ki m c t _ l)) ⟨(x 1).val, by omega⟩ 1024 (by omega) fun l' _ => rfl).trans ?_
  exact congrArg (turned (headOf (F m c t (x 2)) 1024 (by omega)) (place t (x 2))) (Fin.ext (Nat.mod_eq_of_lt hf))

theorem kb_block (f : Fin 512) (r : Fin 256) :
    (out0_23 (iblk m c 0 t) (iblk m c 1 t) (iblk m c 2 t) (iblk m c 3 t) (iblk m c 4 t) (iblk m c 5 t) (iblk m c 6 t) (iblk m c 7 t) (iblk m c 8 t) (iblk m c 9 t) (ix3 0 f r) : EReal) = kbOf (X m c) (Mod m c) (Ng m c) (W m c) (batch t) (place t r) f := by
  canon_tiles x h using cover0_23 (F := Ideal) ..
  obtain rfl : r = x 2 := Fin.ext h2
  obtain rfl : f = x 1 := Fin.ext h1
  rw [ix3_of x]
  exact (stick_key_at _ _ _ _).trans (col_kb m c t _ _)

theorem vb_block (f : Fin 512) (r : Fin 256) :
    (out0_24 (iblk m c 0 t) (iblk m c 1 t) (iblk m c 2 t) (iblk m c 3 t) (iblk m c 4 t) (iblk m c 5 t) (iblk m c 6 t) (iblk m c 7 t) (iblk m c 8 t) (iblk m c 9 t) (ix3 0 f r) : EReal) = vbOf (X m c) (Mod m c) (Ng m c) (W m c) (batch t) (place t r) f := by
  canon_tiles x h using cover0_24 (F := Ideal) ..
  obtain rfl : r = x 2 := Fin.ext h2
  obtain rfl : f = x 1 := Fin.ext h1
  rw [ix3_of x]
  exact (stick_value_at _ _ _ _).trans (col_vb m c t _ _)

end Cert.Proof.ProjIdeal.Value

end
-- ==== Proof.ProjFinal.lean ====
/- What a launch of the projection kernel leaves in its result arrays, as the mathematics of the layer's arrays. -/
module

public import proofs.«01_k».proof.Proof.ProjValue

@[expose] public section

set_option maxRecDepth 16384
set_option maxHeartbeats 4000000

noncomputable section

namespace Cert.Proof.ProjIdeal.Final

open Cert.ProjIdeal Cert.ProjIdeal.Gen Cert.Proof.ProjSpec Idealize.ShloMosaic Idealize.ShloMosaic.TcCoe Idealize.SL.Sem Idealize.ShloMosaic.StableHlo
open Cert.Proof.ProjIdeal.Blocks Cert.Proof.ProjIdeal.Out Cert.Proof.ProjIdeal.Value

variable (m : (ℓ : Loc nD τ sig) → Buf (Elt Ideal) ℓ) (ρ : Dev nD → PrngReg)

theorem index_qa : ∀ t : Fin cfg0.N, win0_10.index t 0 = t.val ∧ win0_10.index t 1 = 0 :=
  (by decide +kernel : ∀ t : Fin grid0.N, win0_10.index t 0 = t.val ∧ win0_10.index t 1 = 0)

theorem qa_final (c : Dev nD) (hF : ∀ b p f, IsReal (proj (X m c) (Mod m c) (Ng m c) (W m c) b p f)) : (dats m 0 c).arrAt 10 cfg0.N
    = (fun i : S16384x512.Idx => qaOf (X m c) (Mod m c) (Ng m c) (W m c) (Qn m c) ⟨(i 0).val / 4096, by have h : (i 0).val < 16384 := (i 0).isLt; omega⟩ ⟨(i 0).val % 4096, by omega⟩ (i 1) : S16384x512.Idx → EReal) := by
  refine (dats m 0 c).arrAt_eq_of_covers 10 _ (show win0_10.Covers by decide +kernel) fun t hf y => ?_
  rw [after0_10]
  have hi := index_qa t
  have ht := lt_points t
  let y0 : Fin 256 := y 0
  let y1 : Fin 512 := y 1
  have h0 : y0.val < 256 := y0.isLt
  have h1 : y1.val < 512 := y1.isLt
  have hy : ((cfg0.win 10).xinj (cfg0.grid.coords t) y : S256x512.Idx) = ix2 y0 y1 := by
    funext a; match a with | ⟨0, _⟩ => rfl | ⟨1, _⟩ => rfl
  have e0 : (((cfg0.win 10).blk t).view.emb y 0).val = 256 * t.val + y0.val := by
    show win0_10.index t 0 * 256 + 1 * y0.val = _
    rw [hi.1]; omega
  have e1 : (((cfg0.win 10).blk t).view.emb y 1).val = y1.val := by
    show win0_10.index t 1 * 512 + 1 * y1.val = _
    rw [hi.2]; omega
  show (out0_10 (iblk m c 0 t) (iblk m c 1 t) (iblk m c 2 t) (iblk m c 3 t) (iblk m c 4 t) (iblk m c 5 t) (iblk m c 6 t) (iblk m c 7 t) (iblk m c 8 t) (iblk m c 9 t) : S256x512.Idx → EReal) ((cfg0.win 10).xinj (cfg0.grid.coords t) y) = _
  rw [hy, qa_block m c t (fun r f => hF _ _ f)]
  refine congr (congr (congrArg _ (Fin.ext ?_)) (Fin.ext ?_)) (Fin.ext ?_)
  · show t.val / 16 = _ / 4096; rw [e0]; omega
  · show 256 * (t.val % 16) + y0.val = _ % 4096; rw [e0]; omega
  · exact e1.symm

theorem index_qi : ∀ t : Fin cfg0.N, win0_11.index t 0 = t.val ∧ win0_11.index t 1 = 0 :=
  (by decide +kernel : ∀ t : Fin grid0.N, win0_11.index t 0 = t.val ∧ win0_11.index t 1 = 0)

theorem qi_final (c : Dev nD) : (dats m 0 c).arrAt 11 cfg0.N
    = (fun i : S16384x256.Idx => qiOf (X m c) (Mod m c) (Ng m c) (W m c) ⟨(i 0).val / 4096, by have h : (i 0).val < 16384 := (i 0).isLt; omega⟩ ⟨(i 0).val % 4096, by omega⟩ (i 1) : S16384x256.Idx → EReal) := by
  refine (dats m 0 c).arrAt_eq_of_covers 11 _ (show win0_11.Covers by decide +kernel) fun t hf y => ?_
  rw [after0_11]
  have hi := index_qi t
  have ht := lt_points t
  let y0 : Fin 256 := y 0
  let y1 : Fin 256 := y 1
  have h0 : y0.val < 256 := y0.isLt
  have h1 : y1.val < 256 := y1.isLt
  have hy : ((cfg0.win 11).xinj (cfg0.grid.coords t) y : S256x256.Idx) = ix2 y0 y1 := by
    funext a; match a with | ⟨0, _⟩ => rfl | ⟨1, _⟩ => rfl
  have e0 : (((cfg0.win 11).blk t).view.emb y 0).val = 256 * t.val + y0.val := by
    show win0_11.index t 0 * 256 + 1 * y0.val = _
    rw [hi.1]; omega
  have e1 : (((cfg0.win 11).blk t).view.emb y 1).val = y1.val := by
    show win0_11.index t 1 * 256 + 1 * y1.val = _
    rw [hi.2]; omega
  show (out0_11 (iblk m c 0 t) (iblk m c 1 t) (iblk m c 2 t) (iblk m c 3 t) (iblk m c 4 t) (iblk m c 5 t) (iblk m c 6 t) (iblk m c 7 t) (iblk m c 8 t) (iblk m c 9 t) : S256x256.Idx → EReal) ((cfg0.win 11).xinj (cfg0.grid.coords t) y) = _
  rw [hy, qi_block]
  refine congr (congr (congrArg _ (Fin.ext ?_)) (Fin.ext ?_)) (Fin.ext ?_)
  · show t.val / 16 = _ / 4096; rw [e0]; omega
  · show 256 * (t.val % 16) + y0.val = _ % 4096; rw [e0]; omega
  · exact e1.symm

theorem index_wi : ∀ t : Fin cfg0.N, win0_12.index t 0 = t.val ∧ win0_12.index t 1 = 0 :=
  (by decide +kernel : ∀ t : Fin grid0.N, win0_12.index t 0 = t.val ∧ win0_12.index t 1 = 0)

theorem wi_final (c : Dev nD) : (dats m 0 c).arrAt 12 cfg0.N
    = (fun i : S16384x8.Idx => wiOf (X m c) (Mod m c) (Ng m c) (W m c) ⟨(i 0).val / 4096, by have h : (i 0).val < 16384 := (i 0).isLt; omega⟩ ⟨(i 0).val % 4096, by omega⟩ (i 1) : S16384x8.Idx → EReal) := by
  refine (dats m 0 c).arrAt_eq_of_covers 12 _ (show win0_12.Covers by decide +kernel) fun t hf y => ?_
  rw [after0_12]
  have hi := index_wi t
  have ht := lt_points t
  let y0 : Fin 256 := y 0
  let y1 : Fin 8 := y 1
  have h0 : y0.val < 256 := y0.isLt
  have h1 : y1.val < 8 := y1.isLt
  have hy : ((cfg0.win 12).xinj (cfg0.grid.coords t) y : S256x8.Idx) = ix2 y0 y1 := by
    funext a; match a with | ⟨0, _⟩ => rfl | ⟨1, _⟩ => rfl
  have e0 : (((cfg0.win 12).blk t).view.emb y 0).val = 256 * t.val + y0.val := by
    show win0_12.index t 0 * 256 + 1 * y0.val = _
    rw [hi.1]; omega
  have e1 : (((cfg0.win 12).blk t).view.emb y 1).val = y1.val := by
    show win0_12.index t 1 * 8 + 1 * y1.val = _
    rw [hi.2]; omega
  show (out0_12 (iblk m c 0 t) (iblk m c 1 t) (iblk m c 2 t) (iblk m c 3 t) (iblk m c 4 t) (iblk m c 5 t) (iblk m c 6 t) (iblk m c 7 t) (iblk m c 8 t) (iblk m c 9 t) : S256x8.Idx → EReal) ((cfg0.win 12).xinj (cfg0.grid.coords t) y) = _
  rw [hy, wi_block]
  refine congr (congr (congrArg _ (Fin.ext ?_)) (Fin.ext ?_)) (Fin.ext ?_)
  · show t.val / 16 = _ / 4096; rw [e0]; omega
  · show 256 * (t.val % 16) + y0.val = _ % 4096; rw [e0]; omega
  · exact e1.symm

theorem index_qb : ∀ t : Fin cfg0.N, win0_13.index t 0 = t.val ∧ win0_13.index t 1 = 0 :=
  (by decide +kernel : ∀ t : Fin grid0.N, win0_13.index t 0 = t.val ∧ win0_13.index t 1 = 0)

theorem qb_final (c : Dev nD) : (dats m 0 c).arrAt 13 cfg0.N
    = (fun i : S16384x512.Idx => qbOf (X m c) (Mod m c) (Ng m c) (W m c) ⟨(i 0).val / 4096, by have h : (i 0).val < 16384 := (i 0).isLt; omega⟩ ⟨(i 0).val % 4096, by omega⟩ (i 1) : S16384x512.Idx → EReal) := by
  refine (dats m 0 c).arrAt_eq_of_covers 13 _ (show win0_13.Covers by decide +kernel) fun t hf y => ?_
  rw [after0_13]
  have hi := index_qb t
  have ht := lt_points t
  let y0 : Fin 256 := y 0
  let y1 : Fin 512 := y 1
  have h0 : y0.val < 256 := y0.isLt
  have h1 : y1.val < 512 := y1.isLt
  have hy : ((cfg0.win 13).xinj (cfg0.grid.coords t) y : S256x512.Idx) = ix2 y0 y1 := by
    funext a; match a with | ⟨0, _⟩ => rfl | ⟨1, _⟩ => rfl
  have e0 : (((cfg0.win 13).blk t).view.emb y 0).val = 256 * t.val + y0.val := by
    show win0_13.index t 0 * 256 + 1 * y0.val = _
    rw [hi.1]; omega
  have e1 : (((cfg0.win 13).blk t).view.emb y 1).val = y1.val := by
    show win0_13.index t 1 * 512 + 1 * y1.val = _
    rw [hi.2]; omega
  show (out0_13 (iblk m c 0 t) (iblk m c 1 t) (iblk m c 2 t) (iblk m c 3 t) (iblk m c 4 t) (iblk m c 5 t) (iblk m c 6 t) (iblk m c 7 t) (iblk m c 8 t) (iblk m c 9 t) : S256x512.Idx → EReal) ((cfg0.win 13).xinj (cfg0.grid.coords t) y) = _
  rw [hy, qb_block]
  refine congr (congr (congrArg _ (Fin.ext ?_)) (Fin.ext ?_)) (Fin.ext ?_)
  · show t.val / 16 = _ / 4096; rw [e0]; omega
  · show 256 * (t.val % 16) + y0.val = _ % 4096; rw [e0]; omega
  · exact e1.symm

theorem index_gate : ∀ t : Fin cfg0.N, win0_14.index t 0 = t.val ∧ win0_14.index t 1 = 0 :=
  (by decide +kernel : ∀ t : Fin grid0.N, win0_14.index t 0 = t.val ∧ win0_14.index t 1 = 0)

theorem gate_final (c : Dev nD) : (dats m 0 c).arrAt 14 cfg0.N
    = (fun i : S16384x2048.Idx => gateOf (X m c) (Mod m c) (Ng m c) (W m c) ⟨(i 0).val / 4096, by have h : (i 0).val < 16384 := (i 0).isLt; omega⟩ ⟨(i 0).val % 4096, by omega⟩ (i 1) : S16384x2048.Idx → EReal) := by
  refine (dats m 0 c).arrAt_eq_of_covers 14 _ (show win0_14.Covers by decide +kernel) fun t hf y => ?_
  rw [after0_14]
  have hi := index_gate t
  have ht := lt_points t
  let y0 : Fin 256 := y 0
  let y1 : Fin 2048 := y 1
  have h0 : y0.val < 256 := y0.isLt
  have h1 : y1.val < 2048 := y1.isLt
  have hy : ((cfg0.win 14).xinj (cfg0.grid.coords t) y : S256x2048.Idx) = ix2 y0 y1 := by
    funext a; match a with | ⟨0, _⟩ => rfl | ⟨1, _⟩ => rfl
  have e0 : (((cfg0.win 14).blk t).view.emb y 0).val = 256 * t.val + y0.val := by
    show win0_14.index t 0 * 256 + 1 * y0.val = _
    rw [hi.1]; omega
  have e1 : (((cfg0.win 14).blk t).view.emb y 1).val = y1.val := by
    show win0_14.index t 1 * 2048 + 1 * y1.val = _
    rw [hi.2]; omega
  show (out0_14 (iblk m c 0 t) (iblk m c 1 t) (iblk m c 2 t) (iblk m c 3 t) (iblk m c 4 t) (iblk m c 5 t) (iblk m c 6 t) (iblk m c 7 t) (iblk m c 8 t) (iblk m c 9 t) : S256x2048.Idx → EReal) ((cfg0.win 14).xinj (cfg0.grid.coords t) y) = _
  rw [hy, gate_block]
  refine congr (congr (congrArg _ (Fin.ext ?_)) (Fin.ext ?_)) (Fin.ext ?_)
  · show t.val / 16 = _ / 4096; rw [e0]; omega
  · show 256 * (t.val % 16) + y0.val = _ % 4096; rw [e0]; omega
  · exact e1.symm

theorem index_ka : ∀ t : Fin cfg0.N, win0_20.index t 0 = t.val / 16 ∧ win0_20.index t 1 = 0 ∧ win0_20.index t 2 = t.val % 16 :=
  (by decide +kernel : ∀ t : Fin grid0.N, win0_20.index t 0 = t.val / 16 ∧ win0_20.index t 1 = 0 ∧ win0_20.index t 2 = t.val % 16)

theorem ka_final (c : Dev nD) (hF : ∀ b p f, IsReal (proj (X m c) (Mod m c) (Ng m c) (W m c) b p f)) : (dats m 0 c).arrAt 20 cfg0.N
    = (fun i : S4x128x4096.Idx => kaOf (X m c) (Mod m c) (Ng m c) (W m c) (Kn m c) (i 0) (i 2) (i 1) : S4x128x4096.Idx → EReal) := by
  refine (dats m 0 c).arrAt_eq_of_covers 20 _ (show win0_20.Covers by decide +kernel) fun t hf y => ?_
  rw [after0_20]
  have hi := index_ka t
  have ht := lt_points t
  let y0 : Fin 1 := y 0
  let y1 : Fin 128 := y 1
  let y2 : Fin 256 := y 2
  have h0 : y0.val < 1 := y0.isLt
  have h1 : y1.val < 128 := y1.isLt
  have h2 : y2.val < 256 := y2.isLt
  have hy : ((cfg0.win 20).xinj (cfg0.grid.coords t) y : S1x128x256.Idx) = ix3 0 y1 y2 := by
    funext a; match a with | ⟨0, _⟩ => exact Fin.ext (Nat.lt_one_iff.mp h0) | ⟨1, _⟩ => rfl | ⟨2, _⟩ => rfl
  have e0 : (((cfg0.win 20).blk t).view.emb y 0).val = t.val / 16 := by
    show win0_20.index t 0 * 1 + 1 * y0.val = _
    rw [hi.1]; omega
  have e1 : (((cfg0.win 20).blk t).view.emb y 1).val = y1.val := by
    show win0_20.index t 1 * 128 + 1 * y1.val = _
    rw [hi.2.1]; omega
  have e2 : (((cfg0.win 20).blk t).view.emb y 2).val = 256 * (t.val % 16) + y2.val := by
    show win0_20.index t 2 * 256 + 1 * y2.val = _
    rw [hi.2.2]; omega
  show (out0_20 (iblk m c 0 t) (iblk m c 1 t) (iblk m c 2 t) (iblk m c 3 t) (iblk m c 4 t) (iblk m c 5 t) (iblk m c 6 t) (iblk m c 7 t) (iblk m c 8 t) (iblk m c 9 t) : S1x128x256.Idx → EReal) ((cfg0.win 20).xinj (cfg0.grid.coords t) y) = _
  rw [hy, ka_block m c t (fun r f => hF _ _ f)]
  exact congr (congr (congrArg _ (Fin.ext e0.symm)) (Fin.ext e2.symm)) (Fin.ext e1.symm)

theorem index_va : ∀ t : Fin cfg0.N, win0_21.index t 0 = t.val / 16 ∧ win0_21.index t 1 = 0 ∧ win0_21.index t 2 = t.val % 16 :=
  (by decide +kernel : ∀ t : Fin grid0.N, win0_21.index t 0 = t.val / 16 ∧ win0_21.index t 1 = 0 ∧ win0_21.index t 2 = t.val % 16)

theorem va_final (c : Dev nD) : (dats m 0 c).arrAt 21 cfg0.N
    = (fun i : S4x128x4096.Idx => vaOf (X m c) (Mod m c) (Ng m c) (W m c) (i 0) (i 2) (i 1) : S4x128x4096.Idx → EReal) := by
  refine (dats m 0 c).arrAt_eq_of_covers 21 _ (show win0_21.Covers by decide +kernel) fun t hf y => ?_
  rw [after0_21]
  have hi := index_va t
  have ht := lt_points t
  let y0 : Fin 1 := y 0
  let y1 : Fin 128 := y 1
  let y2 : Fin 256 := y 2
  have h0 : y0.val < 1 := y0.isLt
  have h1 : y1.val < 128 := y1.isLt
  have h2 : y2.val < 256 := y2.isLt
  have hy : ((cfg0.win 21).xinj (cfg0.grid.coords t) y : S1x128x256.Idx) = ix3 0 y1 y2 := by
    funext a; match a with | ⟨0, _⟩ => exact Fin.ext (Nat.lt_one_iff.mp h0) | ⟨1, _⟩ => rfl | ⟨2, _⟩ => rfl
  have e0 : (((cfg0.win 21).blk t).view.emb y 0).val = t.val / 16 := by
    show win0_21.index t 0 * 1 + 1 * y0.val = _
    rw [hi.1]; omega
  have e1 : (((cfg0.win 21).blk t).view.emb y 1).val = y1.val := by
    show win0_21.index t 1 * 128 + 1 * y1.val = _
    rw [hi.2.1]; omega
  have e2 : (((cfg0.win 21).blk t).view.emb y 2).val = 256 * (t.val % 16) + y2.val := by
    show win0_21.index t 2 * 256 + 1 * y2.val = _
    rw [hi.2.2]; omega
  show (out0_21 (iblk m c 0 t) (iblk m c 1 t) (iblk m c 2 t) (iblk m c 3 t) (iblk m c 4 t) (iblk m c 5 t) (iblk m c 6 t) (iblk m c 7 t) (iblk m c 8 t) (iblk m c 9 t) : S1x128x256.Idx → EReal) ((cfg0.win 21).xinj (cfg0.grid.coords t) y) = _
  rw [hy, va_block]
  exact congr (congr (congrArg _ (Fin.ext e0.symm)) (Fin.ext e2.symm)) (Fin.ext e1.symm)

theorem index_ki : ∀ t : Fin cfg0.N, win0_22.index t 0 = t.val / 16 ∧ win0_22.index t 1 = 0 ∧ win0_22.index t 2 = t.val % 16 :=
  (by decide +kernel : ∀ t : Fin grid0.N, win0_22.index t 0 = t.val / 16 ∧ win0_22.index t 1 = 0 ∧ win0_22.index t 2 = t.val % 16)

theorem ki_final (c : Dev nD) : (dats m 0 c).arrAt 22 cfg0.N
    = (fun i : S4x64x4096.Idx => kiOf (X m c) (Mod m c) (Ng m c) (W m c) (i 0) (i 2) (i 1) : S4x64x4096.Idx → EReal) := by
  refine (dats m 0 c).arrAt_eq_of_covers 22 _ (show win0_22.Covers by decide +kernel) fun t hf y => ?_
  rw [after0_22]
  have hi := index_ki t
  have ht := lt_points t
  let y0 : Fin 1 := y 0
  let y1 : Fin 64 := y 1
  let y2 : Fin 256 := y 2
  have h0 : y0.val < 1 := y0.isLt
  have h1 : y1.val < 64 := y1.isLt
  have h2 : y2.val < 256 := y2.isLt
  have hy : ((cfg0.win 22).xinj (cfg0.grid.coords t) y : S1x64x256.Idx) = ix3 0 y1 y2 := by
    funext a; match a with | ⟨0, _⟩ => exact Fin.ext (Nat.lt_one_iff.mp h0) | ⟨1, _⟩ => rfl | ⟨2, _⟩ => rfl
  have e0 : (((cfg0.win 22).blk t).view.emb y 0).val = t.val / 16 := by
    show win0_22.index t 0 * 1 + 1 * y0.val = _
    rw [hi.1]; omega
  have e1 : (((cfg0.win 22).blk t).view.emb y 1).val = y1.val := by
    show win0_22.index t 1 * 64 + 1 * y1.val = _
    rw [hi.2.1]; omega
  have e2 : (((cfg0.win 22).blk t).view.emb y 2).val = 256 * (t.val % 16) + y2.val := by
    show win0_22.index t 2 * 256 + 1 * y2.val = _
    rw [hi.2.2]; omega
  show (out0_22 (iblk m c 0 t) (iblk m c 1 t) (iblk m c 2 t) (iblk m c 3 t) (iblk m c 4 t) (iblk m c 5 t) (iblk m c 6 t) (iblk m c 7 t) (iblk m c 8 t) (iblk m c 9 t) : S1x64x256.Idx → EReal) ((cfg0.win 22).xinj (cfg0.grid.coords t) y) = _
  rw [hy, ki_block]
  exact congr (congr (congrArg _ (Fin.ext e0.symm)) (Fin.ext e2.symm)) (Fin.ext e1.symm)

theorem index_kb : ∀ t : Fin cfg0.N, win0_23.index t 0 = t.val / 16 ∧ win0_23.index t 1 = 0 ∧ win0_23.index t 2 = t.val % 16 :=
  (by decide +kernel : ∀ t : Fin grid0.N, win0_23.index t 0 = t.val / 16 ∧ win0_23.index t 1 = 0 ∧ win0_23.index t 2 = t.val % 16)

theorem kb_final (c : Dev nD) : (dats m 0 c).arrAt 23 cfg0.N
    = (fun i : S4x512x4096.Idx => kbOf (X m c) (Mod m c) (Ng m c) (W m c) (i 0) (i 2) (i 1) : S4x512x4096.Idx → EReal) := by
  refine (dats m 0 c).arrAt_eq_of_covers 23 _ (show win0_23.Covers by decide +kernel) fun t hf y => ?_
  rw [after0_23]
  have hi := index_kb t
  have ht := lt_points t
  let y0 : Fin 1 := y 0
  let y1 : Fin 512 := y 1
  let y2 : Fin 256 := y 2
  have h0 : y0.val < 1 := y0.isLt
  have h1 : y1.val < 512 := y1.isLt
  have h2 : y2.val < 256 := y2.isLt
  have hy : ((cfg0.win 23).xinj (cfg0.grid.coords t) y : S1x512x256.Idx) = ix3 0 y1 y2 := by
    funext a; match a with | ⟨0, _⟩ => exact Fin.ext (Nat.lt_one_iff.mp h0) | ⟨1, _⟩ => rfl | ⟨2, _⟩ => rfl
  have e0 : (((cfg0.win 23).blk t).view.emb y 0).val = t.val / 16 := by
    show win0_23.index t 0 * 1 + 1 * y0.val = _
    rw [hi.1]; omega
  have e1 : (((cfg0.win 23).blk t).view.emb y 1).val = y1.val := by
    show win0_23.index t 1 * 512 + 1 * y1.val = _
    rw [hi.2.1]; omega
  have e2 : (((cfg0.win 23).blk t).view.emb y 2).val = 256 * (t.val % 16) + y2.val := by
    show win0_23.index t 2 * 256 + 1 * y2.val = _
    rw [hi.2.2]; omega
  show (out0_23 (iblk m c 0 t) (iblk m c 1 t) (iblk m c 2 t) (iblk m c 3 t) (iblk m c 4 t) (iblk m c 5 t) (iblk m c 6 t) (iblk m c 7 t) (iblk m c 8 t) (iblk m c 9 t) : S1x512x256.Idx → EReal) ((cfg0.win 23).xinj (cfg0.grid.coords t) y) = _
  rw [hy, kb_block]
  exact congr (congr (congrArg _ (Fin.ext e0.symm)) (Fin.ext e2.symm)) (Fin.ext e1.symm)

theorem index_vb : ∀ t : Fin cfg0.N, win0_24.index t 0 = t.val / 16 ∧ win0_24.index t 1 = 0 ∧ win0_24.index t 2 = t.val % 16 :=
  (by decide +kernel : ∀ t : Fin grid0.N, win0_24.index t 0 = t.val / 16 ∧ win0_24.index t 1 = 0 ∧ win0_24.index t 2 = t.val % 16)

theorem vb_final (c : Dev nD) : (dats m 0 c).arrAt 24 cfg0.N
    = (fun i : S4x512x4096.Idx => vbOf (X m c) (Mod m c) (Ng m c) (W m c) (i 0) (i 2) (i 1) : S4x512x4096.Idx → EReal) := by
  refine (dats m 0 c).arrAt_eq_of_covers 24 _ (show win0_24.Covers by decide +kernel) fun t hf y => ?_
  rw [after0_24]
  have hi := index_vb t
  have ht := lt_points t
  let y0 : Fin 1 := y 0
  let y1 : Fin 512 := y 1
  let y2 : Fin 256 := y 2
  have h0 : y0.val < 1 := y0.isLt
  have h1 : y1.val < 512 := y1.isLt
  have h2 : y2.val < 256 := y2.isLt
  have hy : ((cfg0.win 24).xinj (cfg0.grid.coords t) y : S1x512x256.Idx) = ix3 0 y1 y2 := by
    funext a; match a with | ⟨0, _⟩ => exact Fin.ext (Nat.lt_one_iff.mp h0) | ⟨1, _⟩ => rfl | ⟨2, _⟩ => rfl
  have e0 : (((cfg0.win 24).blk t).view.emb y 0).val = t.val / 16 := by
    show win0_24.index t 0 * 1 + 1 * y0.val = _
    rw [hi.1]; omega
  have e1 : (((cfg0.win 24).blk t).view.emb y 1).val = y1.val := by
    show win0_24.index t 1 * 512 + 1 * y1.val = _
    rw [hi.2.1]; omega
  have e2 : (((cfg0.win 24).blk t).view.emb y 2).val = 256 * (t.val % 16) + y2.val := by
    show win0_24.index t 2 * 256 + 1 * y2.val = _
    rw [hi.2.2]; omega
  show (out0_24 (iblk m c 0 t) (iblk m c 1 t) (iblk m c 2 t) (iblk m c 3 t) (iblk m c 4 t) (iblk m c 5 t) (iblk m c 6 t) (iblk m c 7 t) (iblk m c 8 t) (iblk m c 9 t) : S1x512x256.Idx → EReal) ((cfg0.win 24).xinj (cfg0.grid.coords t) y) = _
  rw [hy, vb_block]
  exact congr (congr (congrArg _ (Fin.ext e0.symm)) (Fin.ext e2.symm)) (Fin.ext e1.symm)

/-- The launch ends with every result as the mathematics says, and its arguments as they were. -/
theorem run (hF : ∀ c b p f, IsReal (proj (X m c) (Mod m c) (Ng m c) (W m c) b p f)) :
    θ_run defs (onTc (τ := τ) (main (F := Ideal))) ⟨m, fun _ => 0, ρ⟩ fun r => ∀ c : Dev nD,
      r.2.mem ((c.tc : Thread nD τ).loc main_v55_0) = (fun i : S16384x512.Idx => qaOf (X m c) (Mod m c) (Ng m c) (W m c) (Qn m c) ⟨(i 0).val / 4096, by have h : (i 0).val < 16384 := (i 0).isLt; omega⟩ ⟨(i 0).val % 4096, by omega⟩ (i 1) : S16384x512.Idx → EReal)
      ∧ r.2.mem ((c.tc : Thread nD τ).loc main_v55_1) = (fun i : S16384x256.Idx => qiOf (X m c) (Mod m c) (Ng m c) (W m c) ⟨(i 0).val / 4096, by have h : (i 0).val < 16384 := (i 0).isLt; omega⟩ ⟨(i 0).val % 4096, by omega⟩ (i 1) : S16384x256.Idx → EReal)
      ∧ r.2.mem ((c.tc : Thread nD τ).loc main_v55_2) = (fun i : S16384x8.Idx => wiOf (X m c) (Mod m c) (Ng m c) (W m c) ⟨(i 0).val / 4096, by have h : (i 0).val < 16384 := (i 0).isLt; omega⟩ ⟨(i 0).val % 4096, by omega⟩ (i 1) : S16384x8.Idx → EReal)
      ∧ r.2.mem ((c.tc : Thread nD τ).loc main_v55_3) = (fun i : S16384x512.Idx => qbOf (X m c) (Mod m c) (Ng m c) (W m c) ⟨(i 0).val / 4096, by have h : (i 0).val < 16384 := (i 0).isLt; omega⟩ ⟨(i 0).val % 4096, by omega⟩ (i 1) : S16384x512.Idx → EReal)
      ∧ r.2.mem ((c.tc : Thread nD τ).loc main_v55_4) = (fun i : S16384x2048.Idx => gateOf (X m c) (Mod m c) (Ng m c) (W m c) ⟨(i 0).val / 4096, by have h : (i 0).val < 16384 := (i 0).isLt; omega⟩ ⟨(i 0).val % 4096, by omega⟩ (i 1) : S16384x2048.Idx → EReal)
      ∧ r.2.mem ((c.tc : Thread nD τ).loc main_v55_10) = (fun i : S4x128x4096.Idx => kaOf (X m c) (Mod m c) (Ng m c) (W m c) (Kn m c) (i 0) (i 2) (i 1) : S4x128x4096.Idx → EReal)
      ∧ r.2.mem ((c.tc : Thread nD τ).loc main_v55_11) = (fun i : S4x128x4096.Idx => vaOf (X m c) (Mod m c) (Ng m c) (W m c) (i 0) (i 2) (i 1) : S4x128x4096.Idx → EReal)
      ∧ r.2.mem ((c.tc : Thread nD τ).loc main_v55_12) = (fun i : S4x64x4096.Idx => kiOf (X m c) (Mod m c) (Ng m c) (W m c) (i 0) (i 2) (i 1) : S4x64x4096.Idx → EReal)
      ∧ r.2.mem ((c.tc : Thread nD τ).loc main_v55_13) = (fun i : S4x512x4096.Idx => kbOf (X m c) (Mod m c) (Ng m c) (W m c) (i 0) (i 2) (i 1) : S4x512x4096.Idx → EReal)
      ∧ r.2.mem ((c.tc : Thread nD τ).loc main_v55_14) = (fun i : S4x512x4096.Idx => vbOf (X m c) (Mod m c) (Ng m c) (W m c) (i 0) (i 2) (i 1) : S4x512x4096.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 10).trans (qa_final m c (hF c)),
      ((h c).1 11).trans (qi_final m c),
      ((h c).1 12).trans (wi_final m c),
      ((h c).1 13).trans (qb_final m c),
      ((h c).1 14).trans (gate_final m c),
      ((h c).1 20).trans (ka_final m c (hF c)),
      ((h c).1 21).trans (va_final m c),
      ((h c).1 22).trans (ki_final m c),
      ((h c).1 23).trans (kb_final m c),
      ((h c).1 24).trans (vb_final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (show ∀ w : Fin 25, (spec0 w).arr.view.ref ≠ main_arg2 by decide))).trans (V_main_arg2 m c),
      ((h c).2 main_arg3 (Pipeline.mem_restRefs_of main_arg3 (by decide) (show ∀ w : Fin 25, (spec0 w).arr.view.ref ≠ main_arg3 by decide))).trans (V_main_arg3 m c),
      ((h c).2 main_arg4 (Pipeline.mem_restRefs_of main_arg4 (by decide) (show ∀ w : Fin 25, (spec0 w).arr.view.ref ≠ main_arg4 by decide))).trans (V_main_arg4 m c),
      ((h c).2 main_arg5 (Pipeline.mem_restRefs_of main_arg5 (by decide) (show ∀ w : Fin 25, (spec0 w).arr.view.ref ≠ main_arg5 by decide))).trans (V_main_arg5 m c)⟩)
    (run_main m ρ)

end Cert.Proof.ProjIdeal.Final

end
-- ==== Proof.ProjRef.lean ====
/- What the projection's reference computes, read off its terms: the same mathematics of the layer's arrays. -/
module

public import proofs.«01_k».proof.Proof.Gen.ProjRefIdeal.Run
public import proofs.«01_k».proof.Proof.ProjSpec
public import Idealize.ShloMosaic.Lib.Pointwise
public import Idealize.ShloMosaic.Lib.IdealHost

@[expose] public section

set_option maxRecDepth 16384

noncomputable section

namespace Cert.Proof.ProjRef

open Cert.ProjRefIdeal Cert.ProjRefIdeal.Gen Cert.ProjRefIdeal.Value Cert.Proof.ProjSpec Idealize.ShloMosaic Idealize.ShloMosaic.TcCoe Idealize.SL.Sem Idealize.ShloMosaic.StableHlo

variable (V0 : Valuation τ sig (Elt Ideal))

/-! ## The layer's arrays, and the projection's columns of a row -/

abbrev X : RowShape.Idx → EReal := V0 (Proc.devRef .tc main_arg0)
abbrev Mod : ModShape.Idx → EReal := V0 (Proc.devRef .tc main_arg1)
abbrev Ng : NormShape.Idx → EReal := V0 (Proc.devRef .tc main_arg2)
abbrev W : WeightShape.Idx → EReal := V0 (Proc.devRef .tc main_arg3)
abbrev Qn : GainShape.Idx → EReal := V0 (Proc.devRef .tc main_arg4)
abbrev Kn : GainShape.Idx → EReal := V0 (Proc.devRef .tc main_arg5)
abbrev F (b : Fin 4) (p : Fin 4096) : Fin 4676 → EReal := proj (X V0) (Mod V0) (Ng V0) (W V0) b p

theorem projection_at (b : Fin 4) (p : Fin 4096) (f : Fin 4676) : (res_main_v27 V0 : S4x4096x4676.Idx → EReal) (ix3 b p f) = F V0 b p f := by
  pointwise [res_main_v27]
  have one : Ideal.ofBits .f32 0x3F800000#32 = (1 : EReal) := one_bits.trans EReal.coe_one
  unfold F proj row modRow
  rw [one]

theorem angle_at (p : Fin 4096) (i : Fin 32) : (res_main_v70 V0 : S4096x32.Idx → EReal) (ix2 p i) = angle p i := by
  pointwise [res_main_v70, res_main_v38]
  unfold angle
  rfl

theorem cos_at (p : Fin 4096) (i : Fin 32) : (res_main_v72 V0 : S4096x1x32.Idx → EReal) (ix3 p 0 i) = cosAt p i := by
  pointwise [res_main_v72]
  exact congrArg Ideal.cos (angle_at V0 p i)

theorem sin_at (p : Fin 4096) (i : Fin 32) : (res_main_v74 V0 : S4096x1x32.Idx → EReal) (ix3 p 0 i) = sinAt p i := by
  pointwise [res_main_v74]
  exact congrArg Ideal.sin (angle_at V0 p i)

theorem qa_head (b : Fin 4) (p : Fin 4096) (h : Fin 8) (j : Fin 64) :
    (res_main_v39 V0 : S4x4096x8x64.Idx → EReal) (ix4 b p h j) = headOf (F V0 b p) (64 * h.val) (by have := h.isLt; omega) j := by
  have hh := h.isLt
  have hj := j.isLt
  pointwise [res_main_v39]
  refine (projection_at V0 _ _ _).trans ?_
  unfold headOf
  refine congrArg (F V0 b p) (Fin.ext ?_)
  dsimp only
  omega

theorem ka_head (b : Fin 4) (p : Fin 4096) (h : Fin 2) (j : Fin 64) :
    (res_main_v92 V0 : S4x4096x2x64.Idx → EReal) (ix4 b p h j) = headOf (F V0 b p) (512 + 64 * h.val) (by have := h.isLt; omega) j := by
  have hh := h.isLt
  have hj := j.isLt
  pointwise [res_main_v92]
  refine (projection_at V0 _ _ _).trans ?_
  unfold headOf
  refine congrArg (F V0 b p) (Fin.ext ?_)
  dsimp only
  omega

theorem qi_head (b : Fin 4) (p : Fin 4096) (h : Fin 4) (j : Fin 64) :
    (res_main_v145 V0 : S4x4096x4x64.Idx → EReal) (ix4 b p h j) = headOf (F V0 b p) (768 + 64 * h.val) (by have := h.isLt; omega) j := by
  have hh := h.isLt
  have hj := j.isLt
  pointwise [res_main_v145]
  refine (projection_at V0 _ _ _).trans ?_
  unfold headOf
  refine congrArg (F V0 b p) (Fin.ext ?_)
  dsimp only
  omega

theorem ki_head (b : Fin 4) (p : Fin 4096) (j : Fin 64) :
    (res_main_v183 V0 : S4x4096x1x64.Idx → EReal) (ix4 b p 0 j) = headOf (F V0 b p) 1024 (by omega) j := by
  have hj := j.isLt
  pointwise [res_main_v183]
  exact projection_at V0 _ _ _

theorem qa_normed (b : Fin 4) (p : Fin 4096) (h : Fin 8) (j : Fin 64) :
    (res_main_v54 V0 : S4x4096x8x64.Idx → EReal) (ix4 b p h j)
      = normed (headOf (F V0 b p) (64 * h.val) (by have := h.isLt; omega)) (fun l => Qn V0 (ix2 0 l)) j := by
  have hh := h.isLt
  have hj := j.isLt
  pointwise [res_main_v54]
  simp only [qa_head]
  unfold normed
  rfl

theorem ka_normed (b : Fin 4) (p : Fin 4096) (h : Fin 2) (j : Fin 64) :
    (res_main_v107 V0 : S4x4096x2x64.Idx → EReal) (ix4 b p h j)
      = normed (headOf (F V0 b p) (512 + 64 * h.val) (by have := h.isLt; omega)) (fun l => Kn V0 (ix2 0 l)) j := by
  have hh := h.isLt
  have hj := j.isLt
  pointwise [res_main_v107]
  simp only [ka_head]
  unfold normed
  rfl

theorem qa_low (b : Fin 4) (p : Fin 4096) (h : Fin 8) (i : Fin 32) :
    (res_main_v75 V0 : S4x4096x8x32.Idx → EReal) (ix4 b p h i) = (normed (headOf (F V0 b p) (64 * h.val) (by have := h.isLt; omega)) (fun l => Qn V0 (ix2 0 l))) ⟨i.val, by omega⟩ := by
  pointwise [res_main_v75]
  exact qa_normed V0 _ _ _ _

theorem qa_high (b : Fin 4) (p : Fin 4096) (h : Fin 8) (i : Fin 32) :
    (res_main_v76 V0 : S4x4096x8x32.Idx → EReal) (ix4 b p h i) = (normed (headOf (F V0 b p) (64 * h.val) (by have := h.isLt; omega)) (fun l => Qn V0 (ix2 0 l))) ⟨32 + i.val, by omega⟩ := by
  pointwise [res_main_v76]
  exact qa_normed V0 _ _ _ _

theorem ka_low (b : Fin 4) (p : Fin 4096) (h : Fin 2) (i : Fin 32) :
    (res_main_v128 V0 : S4x4096x2x32.Idx → EReal) (ix4 b p h i) = (normed (headOf (F V0 b p) (512 + 64 * h.val) (by have := h.isLt; omega)) (fun l => Kn V0 (ix2 0 l))) ⟨i.val, by omega⟩ := by
  pointwise [res_main_v128]
  exact ka_normed V0 _ _ _ _

theorem ka_high (b : Fin 4) (p : Fin 4096) (h : Fin 2) (i : Fin 32) :
    (res_main_v129 V0 : S4x4096x2x32.Idx → EReal) (ix4 b p h i) = (normed (headOf (F V0 b p) (512 + 64 * h.val) (by have := h.isLt; omega)) (fun l => Kn V0 (ix2 0 l))) ⟨32 + i.val, by omega⟩ := by
  pointwise [res_main_v129]
  exact ka_normed V0 _ _ _ _

theorem ka_cos (p : Fin 4096) (i : Fin 32) : (res_main_v125 V0 : S4096x1x32.Idx → EReal) (ix3 p 0 i) = cosAt p i := cos_at V0 p i

theorem ka_sin (p : Fin 4096) (i : Fin 32) : (res_main_v127 V0 : S4096x1x32.Idx → EReal) (ix3 p 0 i) = sinAt p i := sin_at V0 p i

theorem qi_low (b : Fin 4) (p : Fin 4096) (h : Fin 4) (i : Fin 32) :
    (res_main_v166 V0 : S4x4096x4x32.Idx → EReal) (ix4 b p h i) = (headOf (F V0 b p) (768 + 64 * h.val) (by have := h.isLt; omega)) ⟨i.val, by omega⟩ := by
  pointwise [res_main_v166]
  exact qi_head V0 _ _ _ _

theorem qi_high (b : Fin 4) (p : Fin 4096) (h : Fin 4) (i : Fin 32) :
    (res_main_v167 V0 : S4x4096x4x32.Idx → EReal) (ix4 b p h i) = (headOf (F V0 b p) (768 + 64 * h.val) (by have := h.isLt; omega)) ⟨32 + i.val, by omega⟩ := by
  pointwise [res_main_v167]
  exact qi_head V0 _ _ _ _

theorem qi_cos (p : Fin 4096) (i : Fin 32) : (res_main_v163 V0 : S4096x1x32.Idx → EReal) (ix3 p 0 i) = cosAt p i := cos_at V0 p i

theorem qi_sin (p : Fin 4096) (i : Fin 32) : (res_main_v165 V0 : S4096x1x32.Idx → EReal) (ix3 p 0 i) = sinAt p i := sin_at V0 p i

theorem ki_low (b : Fin 4) (p : Fin 4096) (i : Fin 32) :
    (res_main_v204 V0 : S4x4096x1x32.Idx → EReal) (ix4 b p 0 i) = (headOf (F V0 b p) 1024 (by omega)) ⟨i.val, by omega⟩ := by
  pointwise [res_main_v204]
  exact ki_head V0 _ _ _

theorem ki_high (b : Fin 4) (p : Fin 4096) (i : Fin 32) :
    (res_main_v205 V0 : S4x4096x1x32.Idx → EReal) (ix4 b p 0 i) = (headOf (F V0 b p) 1024 (by omega)) ⟨32 + i.val, by omega⟩ := by
  pointwise [res_main_v205]
  exact ki_head V0 _ _ _

theorem ki_cos (p : Fin 4096) (i : Fin 32) : (res_main_v201 V0 : S4096x1x32.Idx → EReal) (ix3 p 0 i) = cosAt p i := cos_at V0 p i

theorem ki_sin (p : Fin 4096) (i : Fin 32) : (res_main_v203 V0 : S4096x1x32.Idx → EReal) (ix3 p 0 i) = sinAt p i := sin_at V0 p i

/-- The two halves of a turned head, as the host program joins them. -/
theorem turned_read (u : Fin 64 → EReal) (p : Fin 4096) (j : Fin 64) :
    (if h : j.val < 32 then u ⟨j.val, by omega⟩ * cosAt p ⟨j.val, h⟩ - u ⟨32 + j.val, by omega⟩ * sinAt p ⟨j.val, h⟩
      else u ⟨32 + (j.val - 32), by omega⟩ * cosAt p ⟨j.val - 32, by omega⟩ + u ⟨j.val - 32, by omega⟩ * sinAt p ⟨j.val - 32, by omega⟩)
      = turned u p j := by
  unfold turned
  by_cases h : j.val < 32
  · rw [dif_pos h, dif_pos h]
    have e : (⟨32 + j.val, by omega⟩ : Fin 64) = ⟨j.val + 32, by omega⟩ := Fin.ext (Nat.add_comm _ _)
    rw [e]
  · rw [dif_neg h, dif_neg h]
    have e : (⟨32 + (j.val - 32), by omega⟩ : Fin 64) = j := Fin.ext (by show 32 + (j.val - 32) = j.val; omega)
    rw [e]

def qaTerm : (⟨S16384x512, .bf16⟩ : BufTy).Contents (Elt Ideal) :=
  truncf .bf16 (mulf (shapeCast _ (concatenate S4x4096x8x64 3 [⟨S4x4096x8x32, (subf (mulf (res_main_v75 V0) (broadcastInDim S4x4096x8x32 ![0, 1, 2, 3] bcast_S1x4096x1x32_S4x4096x8x32_0_1_2_3 (broadcastInDim S1x4096x1x32 ![1, 2, 3] bcast_S4096x1x32_S1x4096x1x32_1_2_3 (res_main_v72 V0)))) (mulf (res_main_v76 V0) (broadcastInDim S4x4096x8x32 ![0, 1, 2, 3] bcast_S1x4096x1x32_S4x4096x8x32_0_1_2_3 (broadcastInDim S1x4096x1x32 ![1, 2, 3] bcast_S4096x1x32_S1x4096x1x32_1_2_3 (res_main_v74 V0)))))⟩, ⟨S4x4096x8x32, (addf (mulf (res_main_v76 V0) (broadcastInDim S4x4096x8x32 ![0, 1, 2, 3] bcast_S1x4096x1x32_S4x4096x8x32_0_1_2_3 (broadcastInDim S1x4096x1x32 ![1, 2, 3] bcast_S4096x1x32_S1x4096x1x32_1_2_3 (res_main_v72 V0)))) (mulf (res_main_v75 V0) (broadcastInDim S4x4096x8x32 ![0, 1, 2, 3] bcast_S1x4096x1x32_S4x4096x8x32_0_1_2_3 (broadcastInDim S1x4096x1x32 ![1, 2, 3] bcast_S4096x1x32_S1x4096x1x32_1_2_3 (res_main_v74 V0)))))⟩] concatenates_S4x4096x8x32_S4x4096x8x32_S4x4096x8x64_d3) shapeCasts_S4x4096x8x64_S16384x512) (broadcastInDim S16384x512 ![] bcast_S_S16384x512 (constant S_ .f32 0x3E38AA3B#32))) bitsLt_bf16_f32

def qiTerm : (⟨S16384x256, .bf16⟩ : BufTy).Contents (Elt Ideal) :=
  truncf .bf16 (mulf (shapeCast _ (concatenate S4x4096x4x64 3 [⟨S4x4096x4x32, (subf (mulf (res_main_v166 V0) (broadcastInDim S4x4096x4x32 ![0, 1, 2, 3] bcast_S1x4096x1x32_S4x4096x4x32_0_1_2_3 (broadcastInDim S1x4096x1x32 ![1, 2, 3] bcast_S4096x1x32_S1x4096x1x32_1_2_3 (res_main_v163 V0)))) (mulf (res_main_v167 V0) (broadcastInDim S4x4096x4x32 ![0, 1, 2, 3] bcast_S1x4096x1x32_S4x4096x4x32_0_1_2_3 (broadcastInDim S1x4096x1x32 ![1, 2, 3] bcast_S4096x1x32_S1x4096x1x32_1_2_3 (res_main_v165 V0)))))⟩, ⟨S4x4096x4x32, (addf (mulf (res_main_v167 V0) (broadcastInDim S4x4096x4x32 ![0, 1, 2, 3] bcast_S1x4096x1x32_S4x4096x4x32_0_1_2_3 (broadcastInDim S1x4096x1x32 ![1, 2, 3] bcast_S4096x1x32_S1x4096x1x32_1_2_3 (res_main_v163 V0)))) (mulf (res_main_v166 V0) (broadcastInDim S4x4096x4x32 ![0, 1, 2, 3] bcast_S1x4096x1x32_S4x4096x4x32_0_1_2_3 (broadcastInDim S1x4096x1x32 ![1, 2, 3] bcast_S4096x1x32_S1x4096x1x32_1_2_3 (res_main_v165 V0)))))⟩] concatenates_S4x4096x4x32_S4x4096x4x32_S4x4096x4x64_d3) shapeCasts_S4x4096x4x64_S16384x256) (broadcastInDim S16384x256 ![] bcast_S_S16384x256 (constant S_ .f32 0x3E000000#32))) bitsLt_bf16_f32

def wiScaled : FVec Ideal S16384x4 .f32 :=
  shapeCast _ (mulf (extractStridedSlice S4x4096x4 ![0, 0, 1088] (res_main_v27 V0) slices_S4x4096x4676_S4x4096x4_0_0_1088) (broadcastInDim S4x4096x4 ![] bcast_S_S4x4096x4 (constant S_ .f32 0x3F000000#32))) shapeCasts_S4x4096x4_S16384x4

def wiFill : FVec Ideal S_ .f32 := sitofp .f32 (constantI S_ 32 0#32)

def wiTerm : (⟨S16384x8, .f32⟩ : BufTy).Contents (Elt Ideal) :=
  pad S16384x8 ![0, 0] ![0, 4] ![0, 0] (wiScaled V0 : S16384x4.Idx → EReal) (wiFill : S_.Idx → EReal) pads_S16384x4_S16384x8_000_040 h_S_

def qbTerm : (⟨S16384x512, .bf16⟩ : BufTy).Contents (Elt Ideal) :=
  truncf .bf16 (mulf (shapeCast _ (extractStridedSlice S4x4096x512 ![0, 0, 1092] (res_main_v27 V0) slices_S4x4096x4676_S4x4096x512_0_0_1092) shapeCasts_S4x4096x512_S16384x512) (broadcastInDim S16384x512 ![] bcast_S_S16384x512 (constant S_ .f32 0x3E000000#32))) bitsLt_bf16_f32

def gateTerm : (⟨S16384x2048, .f32⟩ : BufTy).Contents (Elt Ideal) :=
  shapeCast _ (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf (extractStridedSlice S4x4096x2048 ![0, 0, 2628] (res_main_v27 V0) slices_S4x4096x4676_S4x4096x2048_0_0_2628))))) shapeCasts_S4x4096x2048_S16384x2048

def kaTerm : (⟨S4x128x4096, .f32⟩ : BufTy).Contents (Elt Ideal) :=
  transpose S4x128x4096 [0, 2, 1] (shapeCast _ (concatenate S4x4096x2x64 3 [⟨S4x4096x2x32, (subf (mulf (res_main_v128 V0) (broadcastInDim S4x4096x2x32 ![0, 1, 2, 3] bcast_S1x4096x1x32_S4x4096x2x32_0_1_2_3 (broadcastInDim S1x4096x1x32 ![1, 2, 3] bcast_S4096x1x32_S1x4096x1x32_1_2_3 (res_main_v125 V0)))) (mulf (res_main_v129 V0) (broadcastInDim S4x4096x2x32 ![0, 1, 2, 3] bcast_S1x4096x1x32_S4x4096x2x32_0_1_2_3 (broadcastInDim S1x4096x1x32 ![1, 2, 3] bcast_S4096x1x32_S1x4096x1x32_1_2_3 (res_main_v127 V0)))))⟩, ⟨S4x4096x2x32, (addf (mulf (res_main_v129 V0) (broadcastInDim S4x4096x2x32 ![0, 1, 2, 3] bcast_S1x4096x1x32_S4x4096x2x32_0_1_2_3 (broadcastInDim S1x4096x1x32 ![1, 2, 3] bcast_S4096x1x32_S1x4096x1x32_1_2_3 (res_main_v125 V0)))) (mulf (res_main_v128 V0) (broadcastInDim S4x4096x2x32 ![0, 1, 2, 3] bcast_S1x4096x1x32_S4x4096x2x32_0_1_2_3 (broadcastInDim S1x4096x1x32 ![1, 2, 3] bcast_S4096x1x32_S1x4096x1x32_1_2_3 (res_main_v127 V0)))))⟩] concatenates_S4x4096x2x32_S4x4096x2x32_S4x4096x2x64_d3) shapeCasts_S4x4096x2x64_S4x4096x128) transposes_S4x4096x128_S4x128x4096_0_2_1

def vaTerm : (⟨S4x128x4096, .f32⟩ : BufTy).Contents (Elt Ideal) :=
  transpose S4x128x4096 [0, 2, 1] (extractStridedSlice S4x4096x128 ![0, 0, 640] (res_main_v27 V0) slices_S4x4096x4676_S4x4096x128_0_0_640) transposes_S4x4096x128_S4x128x4096_0_2_1

def kiTerm : (⟨S4x64x4096, .f32⟩ : BufTy).Contents (Elt Ideal) :=
  transpose S4x64x4096 [0, 2, 1] (shapeCast _ (concatenate S4x4096x1x64 3 [⟨S4x4096x1x32, (subf (mulf (res_main_v204 V0) (broadcastInDim S4x4096x1x32 ![0, 1, 2, 3] bcast_S1x4096x1x32_S4x4096x1x32_0_1_2_3 (broadcastInDim S1x4096x1x32 ![1, 2, 3] bcast_S4096x1x32_S1x4096x1x32_1_2_3 (res_main_v201 V0)))) (mulf (res_main_v205 V0) (broadcastInDim S4x4096x1x32 ![0, 1, 2, 3] bcast_S1x4096x1x32_S4x4096x1x32_0_1_2_3 (broadcastInDim S1x4096x1x32 ![1, 2, 3] bcast_S4096x1x32_S1x4096x1x32_1_2_3 (res_main_v203 V0)))))⟩, ⟨S4x4096x1x32, (addf (mulf (res_main_v205 V0) (broadcastInDim S4x4096x1x32 ![0, 1, 2, 3] bcast_S1x4096x1x32_S4x4096x1x32_0_1_2_3 (broadcastInDim S1x4096x1x32 ![1, 2, 3] bcast_S4096x1x32_S1x4096x1x32_1_2_3 (res_main_v201 V0)))) (mulf (res_main_v204 V0) (broadcastInDim S4x4096x1x32 ![0, 1, 2, 3] bcast_S1x4096x1x32_S4x4096x1x32_0_1_2_3 (broadcastInDim S1x4096x1x32 ![1, 2, 3] bcast_S4096x1x32_S1x4096x1x32_1_2_3 (res_main_v203 V0)))))⟩] concatenates_S4x4096x1x32_S4x4096x1x32_S4x4096x1x64_d3) shapeCasts_S4x4096x1x64_S4x4096x64) transposes_S4x4096x64_S4x64x4096_0_2_1

def kbTerm : (⟨S4x512x4096, .f32⟩ : BufTy).Contents (Elt Ideal) :=
  transpose S4x512x4096 [0, 2, 1] (extractStridedSlice S4x4096x512 ![0, 0, 1604] (res_main_v27 V0) slices_S4x4096x4676_S4x4096x512_0_0_1604) transposes_S4x4096x512_S4x512x4096_0_2_1

def vbTerm : (⟨S4x512x4096, .f32⟩ : BufTy).Contents (Elt Ideal) :=
  transpose S4x512x4096 [0, 2, 1] (extractStridedSlice S4x4096x512 ![0, 0, 2116] (res_main_v27 V0) slices_S4x4096x4676_S4x4096x512_0_0_2116) transposes_S4x4096x512_S4x512x4096_0_2_1

theorem va_eq : (vaTerm V0 : S4x128x4096.Idx → EReal) = fun i => vaOf (X V0) (Mod V0) (Ng V0) (W V0) (i 0) (i 2) (i 1) := by
  funext i
  obtain ⟨b, f, p, rfl⟩ : ∃ (b : Fin 4) (f : Fin 128) (p : Fin 4096), i = ix3 b f p :=
    ⟨i 0, i 1, i 2, by funext a; match a with | ⟨0, _⟩ => rfl | ⟨1, _⟩ => rfl | ⟨2, _⟩ => rfl⟩
  have hf := f.isLt
  show (vaTerm V0 : S4x128x4096.Idx → EReal) (ix3 b f p) = vaOf (X V0) (Mod V0) (Ng V0) (W V0) b p f
  pointwise [vaTerm]
  exact projection_at V0 _ _ _

theorem kb_eq : (kbTerm V0 : S4x512x4096.Idx → EReal) = fun i => kbOf (X V0) (Mod V0) (Ng V0) (W V0) (i 0) (i 2) (i 1) := by
  funext i
  obtain ⟨b, f, p, rfl⟩ : ∃ (b : Fin 4) (f : Fin 512) (p : Fin 4096), i = ix3 b f p :=
    ⟨i 0, i 1, i 2, by funext a; match a with | ⟨0, _⟩ => rfl | ⟨1, _⟩ => rfl | ⟨2, _⟩ => rfl⟩
  have hf := f.isLt
  show (kbTerm V0 : S4x512x4096.Idx → EReal) (ix3 b f p) = kbOf (X V0) (Mod V0) (Ng V0) (W V0) b p f
  pointwise [kbTerm]
  exact projection_at V0 _ _ _

theorem vb_eq : (vbTerm V0 : S4x512x4096.Idx → EReal) = fun i => vbOf (X V0) (Mod V0) (Ng V0) (W V0) (i 0) (i 2) (i 1) := by
  funext i
  obtain ⟨b, f, p, rfl⟩ : ∃ (b : Fin 4) (f : Fin 512) (p : Fin 4096), i = ix3 b f p :=
    ⟨i 0, i 1, i 2, by funext a; match a with | ⟨0, _⟩ => rfl | ⟨1, _⟩ => rfl | ⟨2, _⟩ => rfl⟩
  have hf := f.isLt
  show (vbTerm V0 : S4x512x4096.Idx → EReal) (ix3 b f p) = vbOf (X V0) (Mod V0) (Ng V0) (W V0) b p f
  pointwise [vbTerm]
  exact projection_at V0 _ _ _

theorem qb_eq : (qbTerm V0 : S16384x512.Idx → EReal) = fun i => qbOf (X V0) (Mod V0) (Ng V0) (W V0) ⟨(i 0).val / 4096, by have h : (i 0).val < 16384 := (i 0).isLt; omega⟩ ⟨(i 0).val % 4096, by omega⟩ (i 1) := by
  funext i
  obtain ⟨n, f, rfl⟩ : ∃ (n : Fin 16384) (f : Fin 512), i = ix2 n f := ⟨i 0, i 1, by funext a; match a with | ⟨0, _⟩ => rfl | ⟨1, _⟩ => rfl⟩
  have hn := n.isLt
  have hf := f.isLt
  show (qbTerm V0 : S16384x512.Idx → EReal) (ix2 n f) = qbOf (X V0) (Mod V0) (Ng V0) (W V0) ⟨n.val / 4096, by have := n.isLt; omega⟩ ⟨n.val % 4096, by omega⟩ f
  pointwise [qbTerm]
  exact congrArg (fun z : EReal => z * Ideal.ofBits .f32 0x3E000000#32) (projection_at V0 _ _ _)

theorem gate_eq : (gateTerm V0 : S16384x2048.Idx → EReal) = fun i => gateOf (X V0) (Mod V0) (Ng V0) (W V0) ⟨(i 0).val / 4096, by have h : (i 0).val < 16384 := (i 0).isLt; omega⟩ ⟨(i 0).val % 4096, by omega⟩ (i 1) := by
  funext i
  obtain ⟨n, f, rfl⟩ : ∃ (n : Fin 16384) (f : Fin 2048), i = ix2 n f := ⟨i 0, i 1, by funext a; match a with | ⟨0, _⟩ => rfl | ⟨1, _⟩ => rfl⟩
  have hn := n.isLt
  have hf := f.isLt
  show (gateTerm V0 : S16384x2048.Idx → EReal) (ix2 n f) = gateOf (X V0) (Mod V0) (Ng V0) (W V0) ⟨n.val / 4096, by have := n.isLt; omega⟩ ⟨n.val % 4096, by omega⟩ f
  pointwise [gateTerm]
  rw [projection_at]
  rfl

theorem wi_eq : (wiTerm V0 : S16384x8.Idx → EReal) = fun i => wiOf (X V0) (Mod V0) (Ng V0) (W V0) ⟨(i 0).val / 4096, by have h : (i 0).val < 16384 := (i 0).isLt; omega⟩ ⟨(i 0).val % 4096, by omega⟩ (i 1) := by
  funext i
  obtain ⟨n, f, rfl⟩ : ∃ (n : Fin 16384) (f : Fin 8), i = ix2 n f := ⟨i 0, i 1, by funext a; match a with | ⟨0, _⟩ => rfl | ⟨1, _⟩ => rfl⟩
  have hn := n.isLt
  have hf := f.isLt
  show (wiTerm V0 : S16384x8.Idx → EReal) (ix2 n f) = wiOf (X V0) (Mod V0) (Ng V0) (W V0) ⟨n.val / 4096, by have := n.isLt; omega⟩ ⟨n.val % 4096, by omega⟩ f
  pointwise [wiTerm, wiScaled, wiFill]
  by_cases h : f.val < 4
  · rw [dif_pos h, wiOf_low _ _ _ _ _ _ f h, projection_at]
  · rw [dif_neg h, wiOf_high _ _ _ _ _ _ f h]
    show (((0#32 : BitVec 32).toInt : ℝ) : EReal) = 0
    simp

theorem qa_eq : (qaTerm V0 : S16384x512.Idx → EReal) = fun i => qaOf (X V0) (Mod V0) (Ng V0) (W V0) (Qn V0) ⟨(i 0).val / 4096, by have h : (i 0).val < 16384 := (i 0).isLt; omega⟩ ⟨(i 0).val % 4096, by omega⟩ (i 1) := by
  funext i
  obtain ⟨n, f, rfl⟩ : ∃ (n : Fin 16384) (f : Fin 512), i = ix2 n f := ⟨i 0, i 1, by funext a; match a with | ⟨0, _⟩ => rfl | ⟨1, _⟩ => rfl⟩
  have hn := n.isLt
  have hf := f.isLt
  show (qaTerm V0 : S16384x512.Idx → EReal) (ix2 n f) = qaOf (X V0) (Mod V0) (Ng V0) (W V0) (Qn V0) ⟨n.val / 4096, by have := n.isLt; omega⟩ ⟨n.val % 4096, by omega⟩ f
  pointwise [qaTerm]
  simp only [qa_low, qa_high, cos_at, sin_at]
  exact congrArg (fun z : EReal => z * Ideal.ofBits .f32 0x3E38AA3B#32) (turned_read (normed (headOf (F V0 ⟨n.val / 4096, by omega⟩ ⟨n.val % 4096, by omega⟩) (64 * (f.val / 64)) (by omega)) (fun l => Qn V0 (ix2 0 l))) ⟨n.val % 4096, by omega⟩ ⟨f.val % 64, by omega⟩)

theorem qi_eq : (qiTerm V0 : S16384x256.Idx → EReal) = fun i => qiOf (X V0) (Mod V0) (Ng V0) (W V0) ⟨(i 0).val / 4096, by have h : (i 0).val < 16384 := (i 0).isLt; omega⟩ ⟨(i 0).val % 4096, by omega⟩ (i 1) := by
  funext i
  obtain ⟨n, f, rfl⟩ : ∃ (n : Fin 16384) (f : Fin 256), i = ix2 n f := ⟨i 0, i 1, by funext a; match a with | ⟨0, _⟩ => rfl | ⟨1, _⟩ => rfl⟩
  have hn := n.isLt
  have hf := f.isLt
  show (qiTerm V0 : S16384x256.Idx → EReal) (ix2 n f) = qiOf (X V0) (Mod V0) (Ng V0) (W V0) ⟨n.val / 4096, by have := n.isLt; omega⟩ ⟨n.val % 4096, by omega⟩ f
  pointwise [qiTerm]
  simp only [qi_low, qi_high, qi_cos, qi_sin]
  exact congrArg (fun z : EReal => z * Ideal.ofBits .f32 0x3E000000#32) (turned_read (headOf (F V0 ⟨n.val / 4096, by omega⟩ ⟨n.val % 4096, by omega⟩) (768 + 64 * (f.val / 64)) (by omega)) ⟨n.val % 4096, by omega⟩ ⟨f.val % 64, by omega⟩)

theorem ka_eq : (kaTerm V0 : S4x128x4096.Idx → EReal) = fun i => kaOf (X V0) (Mod V0) (Ng V0) (W V0) (Kn V0) (i 0) (i 2) (i 1) := by
  funext i
  obtain ⟨b, f, p, rfl⟩ : ∃ (b : Fin 4) (f : Fin 128) (p : Fin 4096), i = ix3 b f p :=
    ⟨i 0, i 1, i 2, by funext a; match a with | ⟨0, _⟩ => rfl | ⟨1, _⟩ => rfl | ⟨2, _⟩ => rfl⟩
  have hf := f.isLt
  show (kaTerm V0 : S4x128x4096.Idx → EReal) (ix3 b f p) = kaOf (X V0) (Mod V0) (Ng V0) (W V0) (Kn V0) b p f
  pointwise [kaTerm]
  simp only [ka_low, ka_high, ka_cos, ka_sin]
  exact turned_read (normed (headOf (F V0 b p) (512 + 64 * (f.val / 64)) (by omega)) (fun l => Kn V0 (ix2 0 l))) p ⟨f.val % 64, by omega⟩

theorem ki_eq : (kiTerm V0 : S4x64x4096.Idx → EReal) = fun i => kiOf (X V0) (Mod V0) (Ng V0) (W V0) (i 0) (i 2) (i 1) := by
  funext i
  obtain ⟨b, f, p, rfl⟩ : ∃ (b : Fin 4) (f : Fin 64) (p : Fin 4096), i = ix3 b f p :=
    ⟨i 0, i 1, i 2, by funext a; match a with | ⟨0, _⟩ => rfl | ⟨1, _⟩ => rfl | ⟨2, _⟩ => rfl⟩
  have hf := f.isLt
  show (kiTerm V0 : S4x64x4096.Idx → EReal) (ix3 b f p) = kiOf (X V0) (Mod V0) (Ng V0) (W V0) b p f
  pointwise [kiTerm]
  simp only [ki_low, ki_high, ki_cos, ki_sin]
  exact turned_read (headOf (F V0 b p) (1024) (by omega)) p ⟨f.val, by omega⟩

end Cert.Proof.ProjRef

end
-- ==== Proof.ProjReal.lean ====
/- The precondition of the projection's value claim, read back: every element of the three arrays it tests is real, and so
   then are the projection's columns, whatever the residual rows hold. -/
module

public import proofs.«01_k».proof.Proof.Gen.Pre_finite
public import proofs.«01_k».proof.Proof.ProjSpec
public import Idealize.ShloMosaic.Lib.ReduceAll

@[expose] public section

noncomputable section

namespace Cert.Proof.ProjReal

open Cert.Pre_finite Cert.Pre_finite.Gen Cert.Proof.ProjSpec Idealize.ShloMosaic

theorem infinity_bits : Ideal.ofBits .f32 0x7F800000#32 = ⊤ := by
  simp [Ideal.ofBits, Ideal.ieee]

/-- An extended real whose absolute value lies below the top is real. -/
theorem real_of_below (a : EReal) (h : Ideal.cmp .olt (max a (-a)) (Ideal.ofBits .f32 0x7F800000#32) = 1#1) : IsReal a := by
  rw [infinity_bits] at h
  have h' : max a (-a) < ⊤ := by
    by_contra hn
    have : Ideal.cmp .olt (max a (-a)) ⊤ = 0#1 := by
      show BitVec.ofBool (decide (max a (-a) < ⊤)) = 0#1
      rw [decide_eq_false hn]; rfl
    rw [this] at h
    exact absurd h (by decide)
  induction a using EReal.rec with
  | bot => exact absurd (lt_of_le_of_lt (le_max_right _ _) h') (by simp)
  | coe y => exact ⟨y, rfl⟩
  | top => exact absurd (lt_of_le_of_lt (le_max_left _ _) h') (by simp)

/-- One conjunct of the precondition: all absolute values of an array below the top. -/
theorem real_of_all {s : Shape} {axes : List (Fin s.rank)} (x : s.Idx → EReal) (y : FVec Ideal s .f32) (init : S_.Idx → BitVec 1)
    (hy : ∀ i, y i = Ideal.ofBits .f32 0x7F800000#32) (h : s.ReducesTo axes S_) (hu : 0 < S_.numel) (j : S_.Idx)
    (e : Host.reduce IntOp.andi (cmpf .olt (Host.absf (x : FVec Ideal s .f32)) y) init h hu j = 1#1) (i : s.Idx) : IsReal (x i) := by
  haveI : Subsingleton S_.Idx := ⟨fun a b => funext fun k => k.elim0⟩
  have := Host.reduce_andi_all _ _ _ _ j e i
  refine real_of_below _ ?_
  rw [← hy i]
  exact this

/-- The precondition says that the three arrays are real. -/
theorem real_of_finite (a0 : FVec Ideal S4x4096x1024 .f32) (a1 : FVec Ideal S2x6x24x1x1024 .f32) (a2 : FVec Ideal S2x1024 .f32)
    (a3 : FVec Ideal S2x1024x4676 .f32) (a4 a5 : FVec Ideal S2x64 .f32)
    (h : Cert.Pre_finite.fn (F := Ideal) a0 a1 a2 a3 a4 a5 = fun _ => 1#1) :
    (∀ i, IsReal (a1 i)) ∧ (∀ i, IsReal (a2 i)) ∧ (∀ i, IsReal (a3 i)) := by
  have j : S_.Idx := fun k => k.elim0
  have e := congrFun h j
  unfold Cert.Pre_finite.fn at e
  obtain ⟨e, e3⟩ := IntOp.andi_eq_one.1 e
  obtain ⟨e1, e2⟩ := IntOp.andi_eq_one.1 e
  exact ⟨real_of_all a1 _ _ (fun _ => rfl) _ _ j e1, real_of_all a2 _ _ (fun _ => rfl) _ _ j e2,
    real_of_all a3 _ _ (fun _ => rfl) _ _ j e3⟩

/-- A square is not negative. -/
theorem square_nonneg (a : EReal) : 0 ≤ a * a := by
  induction a using EReal.rec with
  | bot => simp
  | coe y => rw [← EReal.coe_mul]; exact EReal.coe_nonneg.2 (mul_self_nonneg y)
  | top => simp

/-- What is not real has the square at the top. -/
theorem square_top (a : EReal) (h : ¬ IsReal a) : a * a = ⊤ := by
  induction a using EReal.rec with
  | bot => simp
  | coe y => exact absurd ⟨y, rfl⟩ h
  | top => simp

/-- An entry over the root of its row's mean square is real: beside an infinite entry the root's inverse is nothing. -/
theorem entry_real (f : Fin 1024 → EReal) (k : Fin 1024) :
    IsReal (f k * Ideal.rsqrt (Ideal.div (∑ l, f l * f l) (Ideal.ofBits .f32 0x44800000#32) + eps)) := by
  by_cases h : ∀ l, IsReal (f l)
  · exact (h k).mul (IsReal.root f h)
  · obtain ⟨l, hl⟩ := not_forall.1 h
    have hs : ∑ l, f l * f l = ⊤ := by
      refine top_le_iff.1 ?_
      rw [← square_top (f l) hl]
      exact Finset.single_le_sum (f := fun l => f l * f l) (fun i _ => square_nonneg (f i)) (Finset.mem_univ l)
    obtain ⟨e, _, hee⟩ := eps_pos
    have hr : Ideal.div ⊤ (Ideal.ofBits .f32 0x44800000#32) + eps = ⊤ := by
      rw [hee, width_bits]
      unfold Ideal.div
      rw [if_neg (by norm_num), ← EReal.coe_inv, EReal.top_mul_coe_of_pos (by norm_num), EReal.top_add_coe]
    rw [hs, hr]
    exact ⟨0, mul_zero _⟩

theorem row_real (x : RowShape.Idx → EReal) {mod : ModShape.Idx → EReal} {g : NormShape.Idx → EReal}
    (hm : ∀ i, IsReal (mod i)) (hg : ∀ i, IsReal (g i)) (b : Fin 4) (p : Fin 4096) (k : Fin 1024) : IsReal (row x mod g b p k) :=
  ((entry_real (fun l => x (ix3 b p l)) k).mul (hg _)).mul (IsReal.add ⟨1, one_bits⟩ (hm _)) |>.add (hm _)

theorem proj_real (x : RowShape.Idx → EReal) {mod : ModShape.Idx → EReal} {g : NormShape.Idx → EReal} {w : WeightShape.Idx → EReal}
    (hm : ∀ i, IsReal (mod i)) (hg : ∀ i, IsReal (g i)) (hw : ∀ i, IsReal (w i))
    (b : Fin 4) (p : Fin 4096) (f : Fin 4676) : IsReal (proj x mod g w b p f) :=
  IsReal.sum _ _ fun _ => (row_real x hm hg b p _).mul (hw _)

end Cert.Proof.ProjReal

end
-- ==== Proof.ProjClaims.lean ====
/- The five claims about the projection kernel: the three programs run and keep their arguments, the idealization changes
   no operation, and kernel and reference agree over the extended reals when modulation, gains and weights hold real numbers. -/
module

public import proofs.«01_k».proof.Defs
public import proofs.«01_k».proof.Proof.ProjKernelFrame
public import proofs.«01_k».proof.Proof.ProjFinal
public import proofs.«01_k».proof.Proof.ProjRef
public import proofs.«01_k».proof.Proof.ProjReal
public import Idealize.ShloMosaic.Lib.Quiescent

@[expose] public section

noncomputable section

namespace Cert.Proof.ProjClaims

open Cert.Proof.ProjSpec Idealize.ShloMosaic Idealize.ShloMosaic.TcCoe Idealize.SL.Sem Idealize.ShloMosaic.StableHlo

theorem frame_kernel : Cert.quiescent_Proj := fun m ρ _ => Cert.Proof.ProjKernel.frame m ρ

theorem frame_ideal : Cert.quiescent_ProjIdeal := fun m ρ _ => Cert.Proof.ProjIdeal.frame m ρ

theorem frame_ideal_finite : Cert.quiescent_ProjIdeal_pre_finite := fun m ρ _ => Cert.Proof.ProjIdeal.frame m ρ

theorem frame_reference : Cert.quiescent_ProjRefIdeal := fun m ρ _ =>
  (θ_run Cert.ProjRefIdeal.defs _ _).mono
    (fun r h => ⟨fun c => (h c).2.2.2.2.2.2.2.2.2.2, sem_eq_zero_of_no_sems (by decide) r.2⟩)
    (Cert.ProjRefIdeal.Value.run (F := Ideal) m ρ)

theorem frame_reference_finite : Cert.quiescent_ProjRefIdeal_pre_finite := fun m ρ _ => frame_reference m ρ trivial

theorem preserves : Cert.preserves_Proj_ProjIdeal := trivial

section Agree

open Cert.ProjRefIdeal Cert.Proof.ProjRef

variable (V0 : Valuation τ sig (Elt Ideal))
variable (x : RowShape.Idx → EReal) (mod : ModShape.Idx → EReal) (g : NormShape.Idx → EReal) (w : WeightShape.Idx → EReal)
  (qn kn : GainShape.Idx → EReal)

/-- The launch's arrays are the given ones. -/
def Agrees : Prop := X V0 = x ∧ Mod V0 = mod ∧ Ng V0 = g ∧ W V0 = w ∧ Qn V0 = qn ∧ Kn V0 = kn

variable (h : Agrees V0 x mod g w qn kn)
include h

theorem qa_agree : (qaTerm V0 : S16384x512.Idx → EReal) = fun i => qaOf x mod g w qn ⟨(i 0).val / 4096, by have h : (i 0).val < 16384 := (i 0).isLt; omega⟩ ⟨(i 0).val % 4096, by omega⟩ (i 1) := by
  obtain ⟨rfl, rfl, rfl, rfl, rfl, rfl⟩ := h
  exact qa_eq V0

theorem qi_agree : (qiTerm V0 : S16384x256.Idx → EReal) = fun i => qiOf x mod g w ⟨(i 0).val / 4096, by have h : (i 0).val < 16384 := (i 0).isLt; omega⟩ ⟨(i 0).val % 4096, by omega⟩ (i 1) := by
  obtain ⟨rfl, rfl, rfl, rfl, rfl, rfl⟩ := h
  exact qi_eq V0

theorem wi_agree : (wiTerm V0 : S16384x8.Idx → EReal) = fun i => wiOf x mod g w ⟨(i 0).val / 4096, by have h : (i 0).val < 16384 := (i 0).isLt; omega⟩ ⟨(i 0).val % 4096, by omega⟩ (i 1) := by
  obtain ⟨rfl, rfl, rfl, rfl, rfl, rfl⟩ := h
  exact wi_eq V0

theorem qb_agree : (qbTerm V0 : S16384x512.Idx → EReal) = fun i => qbOf x mod g w ⟨(i 0).val / 4096, by have h : (i 0).val < 16384 := (i 0).isLt; omega⟩ ⟨(i 0).val % 4096, by omega⟩ (i 1) := by
  obtain ⟨rfl, rfl, rfl, rfl, rfl, rfl⟩ := h
  exact qb_eq V0

theorem gate_agree : (gateTerm V0 : S16384x2048.Idx → EReal) = fun i => gateOf x mod g w ⟨(i 0).val / 4096, by have h : (i 0).val < 16384 := (i 0).isLt; omega⟩ ⟨(i 0).val % 4096, by omega⟩ (i 1) := by
  obtain ⟨rfl, rfl, rfl, rfl, rfl, rfl⟩ := h
  exact gate_eq V0

theorem ka_agree : (kaTerm V0 : S4x128x4096.Idx → EReal) = fun i => kaOf x mod g w kn (i 0) (i 2) (i 1) := by
  obtain ⟨rfl, rfl, rfl, rfl, rfl, rfl⟩ := h
  exact ka_eq V0

theorem va_agree : (vaTerm V0 : S4x128x4096.Idx → EReal) = fun i => vaOf x mod g w (i 0) (i 2) (i 1) := by
  obtain ⟨rfl, rfl, rfl, rfl, rfl, rfl⟩ := h
  exact va_eq V0

theorem ki_agree : (kiTerm V0 : S4x64x4096.Idx → EReal) = fun i => kiOf x mod g w (i 0) (i 2) (i 1) := by
  obtain ⟨rfl, rfl, rfl, rfl, rfl, rfl⟩ := h
  exact ki_eq V0

theorem kb_agree : (kbTerm V0 : S4x512x4096.Idx → EReal) = fun i => kbOf x mod g w (i 0) (i 2) (i 1) := by
  obtain ⟨rfl, rfl, rfl, rfl, rfl, rfl⟩ := h
  exact kb_eq V0

theorem vb_agree : (vbTerm V0 : S4x512x4096.Idx → EReal) = fun i => vbOf x mod g w (i 0) (i 2) (i 1) := by
  obtain ⟨rfl, rfl, rfl, rfl, rfl, rfl⟩ := h
  exact vb_eq V0

end Agree

theorem algebraic : Cert.algebraic_ProjIdeal_ProjRefIdeal_pre_finite := by
  intro m ρ m' ρ' hpre hagree
  have hF : ∀ c b p f, IsReal (proj (Cert.Proof.ProjIdeal.Blocks.X m c) (Cert.Proof.ProjIdeal.Blocks.Mod m c)
      (Cert.Proof.ProjIdeal.Blocks.Ng m c) (Cert.Proof.ProjIdeal.Blocks.W m c) b p f) := fun c => by
    obtain ⟨h1, h2, h3⟩ := Cert.Proof.ProjReal.real_of_finite _ _ _ _ _ _ (hpre c)
    exact Cert.Proof.ProjReal.proj_real _ h1 h2 h3
  refine ⟨_, _, _, _, _, _, _, _, _, _, Cert.Proof.ProjIdeal.Final.run m ρ hF, ?_⟩
  refine (θ_run Cert.ProjRefIdeal.defs _ _).mono (fun _ h c => ?_) (Cert.ProjRefIdeal.Value.run (F := Ideal) m' ρ')
  have a : Agrees (launchContents m' c) (Cert.Proof.ProjIdeal.Blocks.X m c) (Cert.Proof.ProjIdeal.Blocks.Mod m c)
      (Cert.Proof.ProjIdeal.Blocks.Ng m c) (Cert.Proof.ProjIdeal.Blocks.W m c) (Cert.Proof.ProjIdeal.Blocks.Qn m c)
      (Cert.Proof.ProjIdeal.Blocks.Kn m c) := hagree c
  obtain ⟨r0, r1, r2, r3, r4, r5, r6, r7, r8, r9, rest⟩ := h c
  exact ⟨r0.trans (qa_agree _ _ _ _ _ _ _ a), r1.trans (qi_agree _ _ _ _ _ _ _ a), r2.trans (wi_agree _ _ _ _ _ _ _ a),
    r3.trans (qb_agree _ _ _ _ _ _ _ a), r4.trans (gate_agree _ _ _ _ _ _ _ a), r5.trans (ka_agree _ _ _ _ _ _ _ a),
    r6.trans (va_agree _ _ _ _ _ _ _ a), r7.trans (ki_agree _ _ _ _ _ _ _ a), r8.trans (kb_agree _ _ _ _ _ _ _ a),
    r9.trans (vb_agree _ _ _ _ _ _ _ a), rest⟩

end Cert.Proof.ProjClaims

end
-- ==== Proof.lean ====
module

public import proofs.«01_k».proof.Defs
public import proofs.«01_k».proof.Proof.Gen.Stick
public import proofs.«01_k».proof.Proof.Gen.Stick.Skeleton
public import proofs.«01_k».proof.Proof.Gen.Stick.Launch
public import proofs.«01_k».proof.Proof.Gen.Stick.Points
public import proofs.«01_k».proof.Proof.Gen.StickIdeal
public import proofs.«01_k».proof.Proof.Gen.StickIdeal.Skeleton
public import proofs.«01_k».proof.Proof.Gen.StickIdeal.Launch
public import proofs.«01_k».proof.Proof.Gen.StickIdeal.Points
public import proofs.«01_k».proof.Proof.Gen.StickRefIdeal
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.MoeIdeal.Value
public import proofs.«01_k».proof.Proof.Gen.MoeRefIdeal.Run
public import proofs.«01_k».proof.Proof.Gen.StickRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjRefIdeal
public import proofs.«01_k».proof.Proof.Gen.Pre_finite
public import proofs.«01_k».proof.Proof.Gen.ProjRefIdeal.Run
public import proofs.«01_k».proof.Proof.StickClaims
public import proofs.«01_k».proof.Proof.MoeClaims
public import proofs.«01_k».proof.Proof.ProjClaims
public import Idealize.ShloMosaic.Adequacy
public import Idealize.ShloMosaic.Init

@[expose] public section

noncomputable section

namespace Cert.Proof

open Idealize.ShloMosaic Idealize.SL.Sem Cert.Stick

theorem claim : Cert.Claim := ⟨Cert.Stick.Gen.facts, Cert.StickIdeal.Gen.facts, Cert.StickRefIdeal.Gen.facts, Cert.Moe.Gen.facts, Cert.MoeIdeal.Gen.facts, Cert.MoeRefIdeal.Gen.facts,
  Cert.Proj.Gen.facts, Cert.ProjIdeal.Gen.facts, Cert.ProjRefIdeal.Gen.facts, Cert.Pre_finite.Gen.facts,
  StickClaims.frame_kernel, StickClaims.frame_ideal, StickClaims.frame_reference,
  MoeClaims.frame_kernel, MoeClaims.frame_ideal, MoeClaims.frame_reference,
  ProjClaims.frame_kernel, ProjClaims.frame_ideal, ProjClaims.frame_ideal_finite,
  ProjClaims.frame_reference, ProjClaims.frame_reference_finite,
  StickClaims.preserves, StickClaims.algebraic, MoeClaims.preserves, MoeClaims.algebraic,
  ProjClaims.preserves, ProjClaims.algebraic⟩

end Cert.Proof

end
